-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_scores [hPre_finite_scores : Cert.Pre_finite_scores.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_scores.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).1 = (fun _ => 1#1)
    ∧ (Cert.Pre_finite_scores.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.1 = (fun _ => 1#1)
    ∧ (Cert.Pre_finite_scores.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_scores [hPre_finite_scores : Cert.Pre_finite_scores.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_scores.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).1 = (fun _ => 1#1)
    ∧ (Cert.Pre_finite_scores.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.1 = (fun _ => 1#1)
    ∧ (Cert.Pre_finite_scores.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite_scores [hKernel5Ideal : Cert.Kernel5Ideal.Facts] [hPre_finite_scores : Cert.Pre_finite_scores.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_scores m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite_scores [hReference5Ideal : Cert.Reference5Ideal.Facts] [hPre_finite_scores : Cert.Pre_finite_scores.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_scores m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  IdealRules.named_const.Statement Cert.KernelIdeal.κ "chunk_decay_0" .f32 0x3C8CC36A#32 ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  ∧ IdealRules.named_const.Statement Cert.KernelIdeal.κ "chunk_decay_1" .f32 0x3E08698E#32 ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  ∧ IdealRules.named_const.Statement Cert.KernelIdeal.κ "chunk_decay_2" .f32 0x3EBB9DB9#32 ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  ∧ IdealRules.named_const.Statement Cert.KernelIdeal.κ "chunk_decay_3" .f32 0x3F1B1EB1#32 ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v195) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_v35) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v84_0)) (v1 : (c : Dev Cert.Kernel4Ideal.nD) → Buf (Elt Ideal) ((c.tc : Thread Cert.Kernel4Ideal.nD Cert.Kernel4Ideal.τ).loc Cert.Kernel4Ideal.main_v84_1)) (v2 : (c : Dev Cert.Kernel4Ideal.nD) → Buf (Elt Ideal) ((c.tc : Thread Cert.Kernel4Ideal.nD Cert.Kernel4Ideal.τ).loc Cert.Kernel4Ideal.main_v84_2)) (v3 : (c : Dev Cert.Kernel4Ideal.nD) → Buf (Elt Ideal) ((c.tc : Thread Cert.Kernel4Ideal.nD Cert.Kernel4Ideal.τ).loc Cert.Kernel4Ideal.main_v84_3)) (v4 : (c : Dev Cert.Kernel4Ideal.nD) → Buf (Elt Ideal) ((c.tc : Thread Cert.Kernel4Ideal.nD Cert.Kernel4Ideal.τ).loc Cert.Kernel4Ideal.main_v84_4)) (v5 : (c : Dev Cert.Kernel4Ideal.nD) → Buf (Elt Ideal) ((c.tc : Thread Cert.Kernel4Ideal.nD Cert.Kernel4Ideal.τ).loc Cert.Kernel4Ideal.main_v84_5)) (v6 : (c : Dev Cert.Kernel4Ideal.nD) → Buf (Elt Ideal) ((c.tc : Thread Cert.Kernel4Ideal.nD Cert.Kernel4Ideal.τ).loc Cert.Kernel4Ideal.main_v84_6)) (v7 : (c : Dev Cert.Kernel4Ideal.nD) → Buf (Elt Ideal) ((c.tc : Thread Cert.Kernel4Ideal.nD Cert.Kernel4Ideal.τ).loc Cert.Kernel4Ideal.main_v84_7)) (v8 : (c : Dev Cert.Kernel4Ideal.nD) → Buf (Elt Ideal) ((c.tc : Thread Cert.Kernel4Ideal.nD Cert.Kernel4Ideal.τ).loc Cert.Kernel4Ideal.main_v84_8)) (v9 : (c : Dev Cert.Kernel4Ideal.nD) → Buf (Elt Ideal) ((c.tc : Thread Cert.Kernel4Ideal.nD Cert.Kernel4Ideal.τ).loc Cert.Kernel4Ideal.main_v84_9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v84_0) = v0 c
          ∧ r.2.mem ((c.tc : Thread Cert.Kernel4Ideal.nD Cert.Kernel4Ideal.τ).loc Cert.Kernel4Ideal.main_v84_1) = v1 c
          ∧ r.2.mem ((c.tc : Thread Cert.Kernel4Ideal.nD Cert.Kernel4Ideal.τ).loc Cert.Kernel4Ideal.main_v84_2) = v2 c
          ∧ r.2.mem ((c.tc : Thread Cert.Kernel4Ideal.nD Cert.Kernel4Ideal.τ).loc Cert.Kernel4Ideal.main_v84_3) = v3 c
          ∧ r.2.mem ((c.tc : Thread Cert.Kernel4Ideal.nD Cert.Kernel4Ideal.τ).loc Cert.Kernel4Ideal.main_v84_4) = v4 c
          ∧ r.2.mem ((c.tc : Thread Cert.Kernel4Ideal.nD Cert.Kernel4Ideal.τ).loc Cert.Kernel4Ideal.main_v84_5) = v5 c
          ∧ r.2.mem ((c.tc : Thread Cert.Kernel4Ideal.nD Cert.Kernel4Ideal.τ).loc Cert.Kernel4Ideal.main_v84_6) = v6 c
          ∧ r.2.mem ((c.tc : Thread Cert.Kernel4Ideal.nD Cert.Kernel4Ideal.τ).loc Cert.Kernel4Ideal.main_v84_7) = v7 c
          ∧ r.2.mem ((c.tc : Thread Cert.Kernel4Ideal.nD Cert.Kernel4Ideal.τ).loc Cert.Kernel4Ideal.main_v84_8) = v8 c
          ∧ r.2.mem ((c.tc : Thread Cert.Kernel4Ideal.nD Cert.Kernel4Ideal.τ).loc Cert.Kernel4Ideal.main_v84_9) = v9 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v171) = v0 c
          ∧ r.2.mem ((c.tc : Thread Cert.Reference4Ideal.nD Cert.Reference4Ideal.τ).loc Cert.Reference4Ideal.main_v174) = v1 c
          ∧ r.2.mem ((c.tc : Thread Cert.Reference4Ideal.nD Cert.Reference4Ideal.τ).loc Cert.Reference4Ideal.main_v176) = v2 c
          ∧ r.2.mem ((c.tc : Thread Cert.Reference4Ideal.nD Cert.Reference4Ideal.τ).loc Cert.Reference4Ideal.main_v179) = v3 c
          ∧ r.2.mem ((c.tc : Thread Cert.Reference4Ideal.nD Cert.Reference4Ideal.τ).loc Cert.Reference4Ideal.main_v181) = v4 c
          ∧ r.2.mem ((c.tc : Thread Cert.Reference4Ideal.nD Cert.Reference4Ideal.τ).loc Cert.Reference4Ideal.main_v183) = v5 c
          ∧ r.2.mem ((c.tc : Thread Cert.Reference4Ideal.nD Cert.Reference4Ideal.τ).loc Cert.Reference4Ideal.main_v185) = v6 c
          ∧ r.2.mem ((c.tc : Thread Cert.Reference4Ideal.nD Cert.Reference4Ideal.τ).loc Cert.Reference4Ideal.main_v187) = v7 c
          ∧ r.2.mem ((c.tc : Thread Cert.Reference4Ideal.nD Cert.Reference4Ideal.τ).loc Cert.Reference4Ideal.main_v189) = v8 c
          ∧ r.2.mem ((c.tc : Thread Cert.Reference4Ideal.nD Cert.Reference4Ideal.τ).loc Cert.Reference4Ideal.main_v190) = v9 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  IdealRules.named_const.Statement Cert.Kernel5Ideal.κ "mask" .f32 0xF149F2CA#32 ⊥
  ∧ IdealRules.named_const.Statement Cert.Kernel5Ideal.κ "scale" .f32 0x3E38AA3B#32 (((1 / 8) * (Real.log 2)⁻¹ : ℝ) : EReal)

def algebraic_Kernel5Ideal_Reference5Ideal_pre_finite_scores [hKernel5Ideal : Cert.Kernel5Ideal.Facts] [hReference5Ideal : Cert.Reference5Ideal.Facts] [hPre_finite_scores : Cert.Pre_finite_scores.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_scores m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v65) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_scores (hKernel5Ideal := hKernel5Ideal) (hPre_finite_scores := hPre_finite_scores)
    ∧ quiescent_Reference5Ideal (hReference5Ideal := hReference5Ideal)
    ∧ quiescent_Reference5Ideal_pre_finite_scores (hReference5Ideal := hReference5Ideal) (hPre_finite_scores := hPre_finite_scores)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_scores (hKernel5Ideal := hKernel5Ideal) (hReference5Ideal := hReference5Ideal) (hPre_finite_scores := hPre_finite_scores)
-- ==== Pre_finite_scores.lean ====
abbrev S16x512x2048 : Shape := ⟨3, ![16, 512, 2048]⟩
abbrev S16x2048x512 : Shape := ⟨3, ![16, 2048, 512]⟩
abbrev S16x8x512 : Shape := ⟨3, ![16, 8, 512]⟩
abbrev S_ : Shape := ⟨0, ![]⟩

class Facts : Prop where
  bcast_S_S16x512x2048 : S_.BroadcastsInDim S16x512x2048 (![] : Fin 0 → Fin S16x512x2048.rank)
  bcast_S_S16x2048x512 : S_.BroadcastsInDim S16x2048x512 (![] : Fin 0 → Fin S16x2048x512.rank)
  bcast_S_S16x8x512 : S_.BroadcastsInDim S16x8x512 (![] : Fin 0 → Fin S16x8x512.rank)

variable [Facts]

def fn {F : FTy → Type} [FloatOps F] (main_arg0 : FVec F S16x512x2048 .f32) (main_arg1 : FVec F S16x2048x512 .bf16) (main_arg2 : FVec F S16x512x2048 .bf16) (main_arg3 : FVec F S16x8x512 .f32) : IVec S16x512x2048 1 × IVec S16x2048x512 1 × IVec S16x8x512 1 :=
  let main_cst : FVec F S_ .f32 := constant S_ .f32 0xFF800000#32
  let main_v0 : FVec F S16x512x2048 .f32 := broadcastInDim S16x512x2048 ![] bcast_S_S16x512x2048 main_cst
  let main_v1 : IVec S16x512x2048 1 := cmpf .ogt main_arg0 main_v0
  let main_cst_0 : FVec F S_ .f32 := constant S_ .f32 0x7F800000#32
  let main_v2 : FVec F S16x512x2048 .f32 := broadcastInDim S16x512x2048 ![] bcast_S_S16x512x2048 main_cst_0
  let main_v3 : IVec S16x512x2048 1 := cmpf .olt main_arg0 main_v2
  let main_v4 : IVec S16x512x2048 1 := andi main_v1 main_v3
  let main_cst_1 : FVec F S_ .bf16 := constant S_ .bf16 0xFF80#16
  let main_v5 : FVec F S16x2048x512 .bf16 := broadcastInDim S16x2048x512 ![] bcast_S_S16x2048x512 main_cst_1
  let main_v6 : IVec S16x2048x512 1 := cmpf .ogt main_arg1 main_v5
  let main_cst_2 : FVec F S_ .bf16 := constant S_ .bf16 0x7F80#16
  let main_v7 : FVec F S16x2048x512 .bf16 := broadcastInDim S16x2048x512 ![] bcast_S_S16x2048x512 main_cst_2
  let main_v8 : IVec S16x2048x512 1 := cmpf .olt main_arg1 main_v7
  let main_v9 : IVec S16x2048x512 1 := andi main_v6 main_v8
  let main_cst_3 : FVec F S_ .f32 := constant S_ .f32 0xFF800000#32
  let main_v10 : FVec F S16x8x512 .f32 := broadcastInDim S16x8x512 ![] bcast_S_S16x8x512 main_cst_3
  let main_v11 : IVec S16x8x512 1 := cmpf .ogt main_arg3 main_v10
  let main_cst_4 : FVec F S_ .f32 := constant S_ .f32 0x7F800000#32
  let main_v12 : FVec F S16x8x512 .f32 := broadcastInDim S16x8x512 ![] bcast_S_S16x8x512 main_cst_4
  let main_v13 : IVec S16x8x512 1 := cmpf .olt main_arg3 main_v12
  let main_v14 : IVec S16x8x512 1 := andi main_v11 main_v13
  (main_v4, main_v9, main_v14)
-- ==== Kernel.lean ====
abbrev S16x2048x512 : Shape := ⟨3, ![16, 2048, 512]⟩
abbrev S16x2048x1024 : Shape := ⟨3, ![16, 2048, 1024]⟩
abbrev S4 : Shape := ⟨1, ![4]⟩
abbrev S_ : Shape := ⟨0, ![]⟩
abbrev S256 : Shape := ⟨1, ![256]⟩
abbrev S1x4 : Shape := ⟨2, ![1, 4]⟩
abbrev S256x1 : Shape := ⟨2, ![256, 1]⟩
abbrev S256x4 : Shape := ⟨2, ![256, 4]⟩
abbrev S256x4x128 : Shape := ⟨3, ![256, 4, 128]⟩
abbrev S256x512 : Shape := ⟨2, ![256, 512]⟩
abbrev S16x8x256x512 : Shape := ⟨4, ![16, 8, 256, 512]⟩
abbrev S1x1x256x512 : Shape := ⟨4, ![1, 1, 256, 512]⟩
abbrev S16x512x2048 : Shape := ⟨3, ![16, 512, 2048]⟩
abbrev S1x2048x512 : Shape := ⟨3, ![1, 2048, 512]⟩
abbrev S1x512x2048 : Shape := ⟨3, ![1, 512, 2048]⟩
abbrev S1x2048x1024 : Shape := ⟨3, ![1, 2048, 1024]⟩
abbrev S4x128x256 : Shape := ⟨3, ![4, 128, 256]⟩
abbrev S128x128 : Shape := ⟨2, ![128, 128]⟩
abbrev S1x128x256 : Shape := ⟨3, ![1, 128, 256]⟩
abbrev S128x256 : Shape := ⟨2, ![128, 256]⟩
abbrev S1x128x128 : Shape := ⟨3, ![1, 128, 128]⟩
abbrev S256x256 : Shape := ⟨2, ![256, 256]⟩
abbrev S128 : Shape := ⟨1, ![128]⟩
abbrev S128x1 : Shape := ⟨2, ![128, 1]⟩

abbrev nBuf : Space → Nat
  | .hbm => 76
  | .vmem => 11
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x1024, .bf16⟩
  | .hbm, ⟨3, _⟩ => ⟨S16x2048x1024, .bf16⟩
  | .hbm, ⟨4, _⟩ => ⟨S4, .f32⟩
  | .hbm, ⟨5, _⟩ => ⟨S_, .f32⟩
  | .hbm, ⟨6, _⟩ => ⟨S4, .f32⟩
  | .hbm, ⟨7, _⟩ => ⟨S4, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S_, .f32⟩
  | .hbm, ⟨12, _⟩ => ⟨S4, .f32⟩
  | .hbm, ⟨13, _⟩ => ⟨S4, .f32⟩
  | .hbm, ⟨14, _⟩ => ⟨S4, .f32⟩
  | .hbm, ⟨15, _⟩ => ⟨S256, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S256, .i32⟩
  | .hbm, ⟨23, _⟩ => ⟨S256, .i32⟩
  | .hbm, ⟨24, _⟩ => ⟨S_, .i32⟩
  | .hbm, ⟨25, _⟩ => ⟨S256, .i32⟩
  | .hbm, ⟨26, _⟩ => ⟨S256, .i1⟩
  | .hbm, ⟨27, _⟩ => ⟨S_, .i32⟩
  | .hbm, ⟨28, _⟩ => ⟨S256, .i32⟩
  | .hbm, ⟨29, _⟩ => ⟨S256, .i1⟩
  | .hbm, ⟨30, _⟩ => ⟨S_, .i32⟩
  | .hbm, ⟨31, _⟩ => ⟨S_, .i1⟩
  | .hbm, ⟨32, _⟩ => ⟨S256, .i1⟩
  | .hbm, ⟨33, _⟩ => ⟨S256, .i1⟩
  | .hbm, ⟨34, _⟩ => ⟨S256, .i1⟩
  | .hbm, ⟨35, _⟩ => ⟨S256, .i32⟩
  | .hbm, ⟨36, _⟩ => ⟨S256, .i32⟩
  | .hbm, ⟨37, _⟩ => ⟨S256, .i32⟩
  | .hbm, ⟨38, _⟩ => ⟨S256, .f32⟩
  | .hbm, ⟨39, _⟩ => ⟨S_, .f32⟩
  | .hbm, ⟨40, _⟩ => ⟨S256, .f32⟩
  | .hbm, ⟨41, _⟩ => ⟨S256, .f32⟩
  | .hbm, ⟨42, _⟩ => ⟨S1x4, .f32⟩
  | .hbm, ⟨43, _⟩ => ⟨S256x1, .f32⟩
  | .hbm, ⟨44, _⟩ => ⟨S256x4, .f32⟩
  | .hbm, ⟨45, _⟩ => ⟨S256x4, .f32⟩
  | .hbm, ⟨46, _⟩ => ⟨S256x4, .f32⟩
  | .hbm, ⟨47, _⟩ => ⟨S256x4, .f32⟩
  | .hbm, ⟨48, _⟩ => ⟨S1x4, .f32⟩
  | .hbm, ⟨49, _⟩ => ⟨S1x4, .f32⟩
  | .hbm, ⟨50, _⟩ => ⟨S256x1, .f32⟩
  | .hbm, ⟨51, _⟩ => ⟨S256x4, .f32⟩
  | .hbm, ⟨52, _⟩ => ⟨S256x4, .f32⟩
  | .hbm, ⟨53, _⟩ => ⟨S256x4, .f32⟩
  | .hbm, ⟨54, _⟩ => ⟨S256x4, .f32⟩
  | .hbm, ⟨55, _⟩ => ⟨S_, .f32⟩
  | .hbm, ⟨56, _⟩ => ⟨S256x4, .f32⟩
  | .hbm, ⟨57, _⟩ => ⟨S256x4, .f32⟩
  | .hbm, ⟨58, _⟩ => ⟨S256x4x128, .f32⟩
  | .hbm, ⟨59, _⟩ => ⟨S256x512, .f32⟩
  | .hbm, ⟨60, _⟩ => ⟨S256x4x128, .f32⟩
  | .hbm, ⟨61, _⟩ => ⟨S256x512, .f32⟩
  | .hbm, ⟨62, _⟩ => ⟨S16x8x256x512, .f32⟩
  | .hbm, ⟨63, _⟩ => ⟨S1x1x256x512, .f32⟩
  | .hbm, ⟨64, _⟩ => ⟨S16x8x256x512, .f32⟩
  | .hbm, ⟨65, _⟩ => ⟨S16x8x256x512, .f32⟩
  | .hbm, ⟨66, _⟩ => ⟨S16x2048x512, .f32⟩
  | .hbm, ⟨67, _⟩ => ⟨S16x2048x512, .bf16⟩
  | .hbm, ⟨68, _⟩ => ⟨S16x8x256x512, .f32⟩
  | .hbm, ⟨69, _⟩ => ⟨S1x1x256x512, .f32⟩
  | .hbm, ⟨70, _⟩ => ⟨S16x8x256x512, .f32⟩
  | .hbm, ⟨71, _⟩ => ⟨S16x8x256x512, .f32⟩
  | .hbm, ⟨72, _⟩ => ⟨S16x2048x512, .f32⟩
  | .hbm, ⟨73, _⟩ => ⟨S16x512x2048, .f32⟩
  | .hbm, ⟨74, _⟩ => ⟨S16x512x2048, .bf16⟩
  | .hbm, ⟨75, _⟩ => ⟨S16x2048x1024, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x512x2048, .bf16⟩
  | .local _ .vmem, ⟨3, _⟩ => ⟨S1x512x2048, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S4x128x256, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_1 : Ref sig .tc := ⟨.hbm, 24, rfl⟩
abbrev main_call0_v5 : Ref sig .tc := ⟨.hbm, 25, rfl⟩
abbrev main_call0_v6 : Ref sig .tc := ⟨.hbm, 26, rfl⟩
abbrev main_call0_c_2 : Ref sig .tc := ⟨.hbm, 27, rfl⟩
abbrev main_call0_v7 : Ref sig .tc := ⟨.hbm, 28, rfl⟩
abbrev main_call0_v8 : Ref sig .tc := ⟨.hbm, 29, rfl⟩
abbrev main_call0_c_3 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_v9 : Ref sig .tc := ⟨.hbm, 37, rfl⟩
abbrev main_v10 : Ref sig .tc := ⟨.hbm, 38, rfl⟩
abbrev main_cst_2 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_3 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "chunk_decay_0" => some ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  | "chunk_decay_1" => some ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  | "chunk_decay_2" => some ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  | "chunk_decay_3" => some ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  | _ => none
-- ==== ReferenceIdeal.lean ====
abbrev S16x2048x512 : Shape := ⟨3, ![16, 2048, 512]⟩
abbrev S16x2048x1024 : Shape := ⟨3, ![16, 2048, 1024]⟩
abbrev S16x2048x4x128 : Shape := ⟨4, ![16, 2048, 4, 128]⟩
abbrev S_ : Shape := ⟨0, ![]⟩
abbrev S16x2048x4x256 : Shape := ⟨4, ![16, 2048, 4, 256]⟩
abbrev S4 : Shape := ⟨1, ![4]⟩
abbrev S16x16x128x4x128 : Shape := ⟨5, ![16, 16, 128, 4, 128]⟩
abbrev S16x4x16x128x128 : Shape := ⟨5, ![16, 4, 16, 128, 128]⟩
abbrev S16x16x128x4x256 : Shape := ⟨5, ![16, 16, 128, 4, 256]⟩
abbrev S16x4x16x128x256 : Shape := ⟨5, ![16, 4, 16, 128, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1x128x128 : Shape := ⟨4, ![4, 1, 128, 128]⟩
abbrev S1x4x1x128x128 : Shape := ⟨5, ![1, 4, 1, 128, 128]⟩
abbrev S4x1 : Shape := ⟨2, ![4, 1]⟩
abbrev S4x128 : Shape := ⟨2, ![4, 128]⟩
abbrev S4x1x128x1 : Shape := ⟨4, ![4, 1, 128, 1]⟩
abbrev S1x4x1x128x1 : Shape := ⟨5, ![1, 4, 1, 128, 1]⟩
abbrev S16x16x4x128x256 : Shape := ⟨5, ![16, 16, 4, 128, 256]⟩
abbrev S1x4x1x1 : Shape := ⟨4, ![1, 4, 1, 1]⟩
abbrev S16x4x128x256 : Shape := ⟨4, ![16, 4, 128, 256]⟩
abbrev S1x16x4x128x256 : Shape := ⟨5, ![1, 16, 4, 128, 256]⟩
abbrev S16x2048x4 : Shape := ⟨3, ![16, 2048, 4]⟩
abbrev S16x2048x4x1 : Shape := ⟨4, ![16, 2048, 4, 1]⟩

abbrev nBuf : Space → Nat
  | .hbm => 219
  | .vmem => 0
  | .smem => 0
  | _ => 0

abbrev hbmTy0_0 (i : Nat) : BufTy := match i % 128 with
  | 0 => ⟨S16x2048x512, .f32⟩
  | 1 => ⟨S16x2048x512, .f32⟩
  | 2 => ⟨S16x2048x1024, .bf16⟩
  | 3 => ⟨S16x2048x1024, .bf16⟩
  | 4 => ⟨S16x2048x4x128, .f32⟩
  | 5 => ⟨S16x2048x4x128, .f32⟩
  | 6 => ⟨S_, .f32⟩
  | 7 => ⟨S16x2048x4x128, .f32⟩
  | 8 => ⟨S16x2048x4x128, .f32⟩
  | 9 => ⟨S16x2048x1024, .f32⟩
  | 10 => ⟨S16x2048x4x256, .f32⟩
  | 11 => ⟨S4, .f32⟩
  | 12 => ⟨S_, .f32⟩
  | 13 => ⟨S4, .f32⟩
  | 14 => ⟨S4, .f32⟩
  | 15 => ⟨S_, .f32⟩
  | 16 => ⟨S4, .f32⟩
  | 17 => ⟨S4, .f32⟩
  | 18 => ⟨S_, .f32⟩
  | 19 => ⟨S4, .f32⟩
  | 20 => ⟨S4, .f32⟩
  | 21 => ⟨S4, .f32⟩
  | 22 => ⟨S16x16x128x4x128, .f32⟩
  | 23 => ⟨S16x4x16x128x128, .f32⟩
  | 24 => ⟨S16x16x128x4x128, .f32⟩
  | 25 => ⟨S16x4x16x128x128, .f32⟩
  | 26 => ⟨S16x16x128x4x256, .f32⟩
  | 27 => ⟨S16x4x16x128x256, .f32⟩
  | 28 => ⟨S128, .f32⟩
  | 29 => ⟨S128x1, .f32⟩
  | 30 => ⟨S1x128, .f32⟩
  | 31 => ⟨S128x128, .f32⟩
  | 32 => ⟨S128x128, .f32⟩
  | 33 => ⟨S128x128, .f32⟩
  | 34 => ⟨S_, .f32⟩
  | 35 => ⟨S128x128, .f32⟩
  | 36 => ⟨S128x128, .i1⟩
  | 37 => ⟨S4x1x1, .f32⟩
  | 38 => ⟨S_, .f32⟩
  | 39 => ⟨S128x128, .f32⟩
  | 40 => ⟨S128x128, .f32⟩
  | 41 => ⟨S1x128x128, .f32⟩
  | 42 => ⟨S4x128x128, .f32⟩
  | 43 => ⟨S4x128x128, .f32⟩
  | 44 => ⟨S4x128x128, .f32⟩
  | 45 => ⟨S4x128x128, .f32⟩
  | 46 => ⟨S_, .f32⟩
  | 47 => ⟨S_, .f32⟩
  | 48 => ⟨S4x128x128, .i1⟩
  | 49 => ⟨S4x128x128, .f32⟩
  | 50 => ⟨S4x128x128, .f32⟩
  | 51 => ⟨S16x4x16x128x128, .f32⟩
  | 52 => ⟨S4x1x128x128, .f32⟩
  | 53 => ⟨S1x4x1x128x128, .f32⟩
  | 54 => ⟨S16x4x16x128x128, .f32⟩
  | 55 => ⟨S16x4x16x128x128, .f32⟩
  | 56 => ⟨S16x4x16x128x256, .f32⟩
  | 57 => ⟨S4x1, .f32⟩
  | 58 => ⟨S_, .f32⟩
  | 59 => ⟨S128, .f32⟩
  | 60 => ⟨S128, .f32⟩
  | 61 => ⟨S1x128, .f32⟩
  | 62 => ⟨S4x128, .f32⟩
  | 63 => ⟨S4x128, .f32⟩
  | 64 => ⟨S4x128, .f32⟩
  | 65 => ⟨S4x128, .f32⟩
  | 66 => ⟨S4x1x128x1, .f32⟩
  | 67 => ⟨S1x4x1x128x1, .f32⟩
  | 68 => ⟨S16x4x16x128x128, .f32⟩
  | 69 => ⟨S16x4x16x128x128, .f32⟩
  | 70 => ⟨S16x16x4x128x256, .f32⟩
  | 71 => ⟨S_, .f32⟩
  | 72 => ⟨S4, .f32⟩
  | 73 => ⟨S4, .f32⟩
  | 74 => ⟨S4, .f32⟩
  | 75 => ⟨S1x4x1x1, .f32⟩
  | 76 => ⟨S_, .f32⟩
  | 77 => ⟨S16x4x128x256, .f32⟩
  | 78 => ⟨S16x4x128x256, .f32⟩
  | 79 => ⟨S16x4x128x256, .f32⟩
  | 80 => ⟨S1x16x4x128x256, .f32⟩
  | 81 => ⟨S16x4x128x256, .f32⟩
  | 82 => ⟨S16x4x128x256, .f32⟩
  | 83 => ⟨S16x4x128x256, .f32⟩
  | 84 => ⟨S16x4x128x256, .f32⟩
  | 85 => ⟨S1x16x4x128x256, .f32⟩
  | 86 => ⟨S16x4x128x256, .f32⟩
  | 87 => ⟨S16x4x128x256, .f32⟩
  | 88 => ⟨S16x4x128x256, .f32⟩
  | 89 => ⟨S16x4x128x256, .f32⟩
  | 90 => ⟨S1x16x4x128x256, .f32⟩
  | 91 => ⟨S16x4x128x256, .f32⟩
  | 92 => ⟨S16x4x128x256, .f32⟩
  | 93 => ⟨S16x4x128x256, .f32⟩
  | 94 => ⟨S16x4x128x256, .f32⟩
  | 95 => ⟨S1x16x4x128x256, .f32⟩
  | 96 => ⟨S16x4x128x256, .f32⟩
  | 97 => ⟨S16x4x128x256, .f32⟩
  | 98 => ⟨S16x4x128x256, .f32⟩
  | 99 => ⟨S16x4x128x256, .f32⟩
  | 100 => ⟨S1x16x4x128x256, .f32⟩
  | 101 => ⟨S16x4x128x256, .f32⟩
  | 102 => ⟨S16x4x128x256, .f32⟩
  | 103 => ⟨S16x4x128x256, .f32⟩
  | 104 => ⟨S16x4x128x256, .f32⟩
  | 105 => ⟨S1x16x4x128x256, .f32⟩
  | 106 => ⟨S16x4x128x256, .f32⟩
  | 107 => ⟨S16x4x128x256, .f32⟩
  | 108 => ⟨S16x4x128x256, .f32⟩
  | 109 => ⟨S16x4x128x256, .f32⟩
  | 110 => ⟨S1x16x4x128x256, .f32⟩
  | 111 => ⟨S16x4x128x256, .f32⟩
  | 112 => ⟨S16x4x128x256, .f32⟩
  | 113 => ⟨S16x4x128x256, .f32⟩
  | 114 => ⟨S16x4x128x256, .f32⟩
  | 115 => ⟨S1x16x4x128x256, .f32⟩
  | 116 => ⟨S16x4x128x256, .f32⟩
  | 117 => ⟨S16x4x128x256, .f32⟩
  | 118 => ⟨S16x4x128x256, .f32⟩
  | 119 => ⟨S16x4x128x256, .f32⟩
  | 120 => ⟨S1x16x4x128x256, .f32⟩
  | 121 => ⟨S16x4x128x256, .f32⟩
  | 122 => ⟨S16x4x128x256, .f32⟩
  | 123 => ⟨S16x4x128x256, .f32⟩
  | 124 => ⟨S16x4x128x256, .f32⟩
  | 125 => ⟨S1x16x4x128x256, .f32⟩
  | 126 => ⟨S16x4x128x256, .f32⟩
  | 127 => ⟨S16x4x128x256, .f32⟩
  | _ => ⟨S16x2048x512, .f32⟩

abbrev hbmTy0_1 (i : Nat) : BufTy := match i % 128 with
  | 0 => ⟨S16x4x128x256, .f32⟩
  | 1 => ⟨S16x4x128x256, .f32⟩
  | 2 => ⟨S1x16x4x128x256, .f32⟩
  | 3 => ⟨S16x4x128x256, .f32⟩
  | 4 => ⟨S16x4x128x256, .f32⟩
  | 5 => ⟨S16x4x128x256, .f32⟩
  | 6 => ⟨S16x4x128x256, .f32⟩
  | 7 => ⟨S1x16x4x128x256, .f32⟩
  | 8 => ⟨S16x4x128x256, .f32⟩
  | 9 => ⟨S16x4x128x256, .f32⟩
  | 10 => ⟨S16x4x128x256, .f32⟩
  | 11 => ⟨S16x4x128x256, .f32⟩
  | 12 => ⟨S1x16x4x128x256, .f32⟩
  | 13 => ⟨S16x4x128x256, .f32⟩
  | 14 => ⟨S16x4x128x256, .f32⟩
  | 15 => ⟨S16x4x128x256, .f32⟩
  | 16 => ⟨S16x4x128x256, .f32⟩
  | 17 => ⟨S1x16x4x128x256, .f32⟩
  | 18 => ⟨S16x4x128x256, .f32⟩
  | 19 => ⟨S16x4x128x256, .f32⟩
  | 20 => ⟨S16x4x128x256, .f32⟩
  | 21 => ⟨S16x4x128x256, .f32⟩
  | 22 => ⟨S1x16x4x128x256, .f32⟩
  | 23 => ⟨S16x4x128x256, .f32⟩
  | 24 => ⟨S16x4x128x256, .f32⟩
  | 25 => ⟨S16x4x128x256, .f32⟩
  | 26 => ⟨S16x4x128x256, .f32⟩
  | 27 => ⟨S1x16x4x128x256, .f32⟩
  | 28 => ⟨S16x4x128x256, .f32⟩
  | 29 => ⟨S16x4x128x256, .f32⟩
  | 30 => ⟨S1x16x4x128x256, .f32⟩
  | 31 => ⟨S1x16x4x128x256, .f32⟩
  | 32 => ⟨S1x16x4x128x256, .f32⟩
  | 33 => ⟨S1x16x4x128x256, .f32⟩
  | 34 => ⟨S1x16x4x128x256, .f32⟩
  | 35 => ⟨S1x16x4x128x256, .f32⟩
  | 36 => ⟨S1x16x4x128x256, .f32⟩
  | 37 => ⟨S1x16x4x128x256, .f32⟩
  | 38 => ⟨S1x16x4x128x256, .f32⟩
  | 39 => ⟨S1x16x4x128x256, .f32⟩
  | 40 => ⟨S1x16x4x128x256, .f32⟩
  | 41 => ⟨S1x16x4x128x256, .f32⟩
  | 42 => ⟨S1x16x4x128x256, .f32⟩
  | 43 => ⟨S1x16x4x128x256, .f32⟩
  | 44 => ⟨S1x16x4x128x256, .f32⟩
  | 45 => ⟨S1x16x4x128x256, .f32⟩
  | 46 => ⟨S16x16x4x128x256, .f32⟩
  | 47 => ⟨S4x1, .f32⟩
  | 48 => ⟨S_, .f32⟩
  | 49 => ⟨S128, .f32⟩
  | 50 => ⟨S128, .f32⟩
  | 51 => ⟨S1x128, .f32⟩
  | 52 => ⟨S4x128, .f32⟩
  | 53 => ⟨S4x128, .f32⟩
  | 54 => ⟨S4x128, .f32⟩
  | 55 => ⟨S4x128, .f32⟩
  | 56 => ⟨S4x1x128x1, .f32⟩
  | 57 => ⟨S1x4x1x128x1, .f32⟩
  | 58 => ⟨S16x4x16x128x128, .f32⟩
  | 59 => ⟨S16x4x16x128x128, .f32⟩
  | 60 => ⟨S16x4x16x128x256, .f32⟩
  | 61 => ⟨S16x4x16x128x256, .f32⟩
  | 62 => ⟨S16x16x128x4x256, .f32⟩
  | 63 => ⟨S16x2048x4x256, .f32⟩
  | 64 => ⟨S_, .f32⟩
  | 65 => ⟨S16x2048x4, .f32⟩
  | 66 => ⟨S16x2048x4x1, .f32⟩
  | 67 => ⟨S_, .f32⟩
  | 68 => ⟨S16x2048x4x1, .f32⟩
  | 69 => ⟨S16x2048x4x1, .f32⟩
  | 70 => ⟨S16x2048x4x256, .f32⟩
  | 71 => ⟨S16x2048x4x256, .f32⟩
  | 72 => ⟨S16x2048x4x256, .f32⟩
  | 73 => ⟨S_, .f32⟩
  | 74 => ⟨S16x2048x4, .f32⟩
  | 75 => ⟨S16x2048x4x1, .f32⟩
  | 76 => ⟨S_, .f32⟩
  | 77 => ⟨S16x2048x4x1, .f32⟩
  | 78 => ⟨S16x2048x4x1, .f32⟩
  | 79 => ⟨S16x2048x4x256, .f32⟩
  | 80 => ⟨S16x2048x4x256, .f32⟩
  | 81 => ⟨S_, .f32⟩
  | 82 => ⟨S16x2048x4x1, .f32⟩
  | 83 => ⟨S16x2048x4x1, .f32⟩
  | 84 => ⟨S16x2048x4x1, .f32⟩
  | 85 => ⟨S16x2048x4x256, .f32⟩
  | 86 => ⟨S16x2048x4x256, .f32⟩
  | 87 => ⟨S16x2048x1024, .f32⟩
  | 88 => ⟨S16x2048x1024, .f32⟩
  | 89 => ⟨S16x2048x1024, .f32⟩
  | 90 => ⟨S16x2048x1024, .bf16⟩
  | _ => ⟨S16x2048x512, .f32⟩

abbrev hbmTy (i : Nat) : BufTy := match i / 128 with
  | 0 => hbmTy0_0 i
  | 1 => hbmTy0_1 i
  | _ => ⟨S16x2048x512, .f32⟩

abbrev bufTy : (tb : Table) → Fin (tcTables nBuf tb) → BufTy
  | .hbm, ⟨i, _⟩ => hbmTy i
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_7 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_8 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_cst_9 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_cst_10 : Ref sig .tc := ⟨.hbm, 192, rfl⟩
abbrev main_v174 : Ref sig .tc := ⟨.hbm, 193, rfl⟩
abbrev main_v175 : Ref sig .tc := ⟨.hbm, 194, rfl⟩
abbrev main_cst_11 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_cst_12 : Ref sig .tc := ⟨.hbm, 201, rfl⟩
abbrev main_v181 : Ref sig .tc := ⟨.hbm, 202, rfl⟩
abbrev main_v182 : Ref sig .tc := ⟨.hbm, 203, rfl⟩
abbrev main_cst_13 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_cst_14 : Ref sig .tc := ⟨.hbm, 209, rfl⟩
abbrev main_v187 : Ref sig .tc := ⟨.hbm, 210, rfl⟩
abbrev main_v188 : Ref sig .tc := ⟨.hbm, 211, rfl⟩
abbrev main_v189 : Ref sig .tc := ⟨.hbm, 212, rfl⟩
abbrev main_v190 : Ref sig .tc := ⟨.hbm, 213, rfl⟩
abbrev main_v191 : Ref sig .tc := ⟨.hbm, 214, rfl⟩
abbrev main_v192 : Ref sig .tc := ⟨.hbm, 215, rfl⟩
abbrev main_v193 : Ref sig .tc := ⟨.hbm, 216, rfl⟩
abbrev main_v194 : Ref sig .tc := ⟨.hbm, 217, rfl⟩
abbrev main_v195 : Ref sig .tc := ⟨.hbm, 218, rfl⟩

abbrev nD : Nat := 1
abbrev τ : Topo := Topo.v7x

variable {F : FTy → Type} [FloatOps F]
-- ==== Kernel2.lean ====
abbrev S32768x1024 : Shape := ⟨2, ![32768, 1024]⟩
abbrev S1024x5632 : Shape := ⟨2, ![1024, 5632]⟩
abbrev S2816x1024 : Shape := ⟨2, ![2816, 1024]⟩
abbrev S1024 : Shape := ⟨1, ![1024]⟩
abbrev S1024x6656 : Shape := ⟨2, ![1024, 6656]⟩
abbrev S1x1024 : Shape := ⟨2, ![1, 1024]⟩
abbrev S1024x1024 : Shape := ⟨2, ![1024, 1024]⟩
abbrev S32x6656 : Shape := ⟨2, ![32, 6656]⟩
abbrev S256x1024 : Shape := ⟨2, ![256, 1024]⟩
abbrev S1024x256 : Shape := ⟨2, ![1024, 256]⟩
abbrev S256x256 : Shape := ⟨2, ![256, 256]⟩
abbrev S256 : Shape := ⟨1, ![256]⟩
abbrev S256x1 : Shape := ⟨2, ![256, 1]⟩

abbrev nBuf : Space → Nat
  | .hbm => 12
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S1024x6656, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S1x1024, .f32⟩
  | .hbm, ⟨10, _⟩ => ⟨S32768x1024, .f32⟩
  | .hbm, ⟨11, _⟩ => ⟨S1024x6656, .bf16⟩
  | .local _ .vmem, ⟨0, _⟩ => ⟨S1024x1024, .f32⟩
  | .local _ .vmem, ⟨1, _⟩ => ⟨S1024x1024, .f32⟩
  | .local _ .vmem, ⟨2, _⟩ => ⟨S1024x5632, .bf16⟩
  | .local _ .vmem, ⟨3, _⟩ => ⟨S2816x1024, .bf16⟩
  | .local _ .vmem, ⟨4, _⟩ => ⟨S1x1024, .f32⟩
  | .local _ .vmem, ⟨5, _⟩ => ⟨S1x1024, .f32⟩
  | .local _ .vmem, ⟨6, _⟩ => ⟨S32x6656, .f32⟩
  | .local _ .vmem, ⟨7, _⟩ => ⟨S32x6656, .f32⟩
  | .local _ .vmem, ⟨8, _⟩ => ⟨S1024x1024, .f32⟩
  | .local _ .vmem, ⟨9, _⟩ => ⟨S1024x1024, .f32⟩
  | .local _ .vmem, ⟨10, _⟩ => ⟨S32x6656, .bf16⟩
  | .local _ .vmem, ⟨11, _⟩ => ⟨S32x6656, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x6656 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x6656 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S32768x1024 : Shape := ⟨2, ![32768, 1024]⟩
abbrev S1024x5632 : Shape := ⟨2, ![1024, 5632]⟩
abbrev S2816x1024 : Shape := ⟨2, ![2816, 1024]⟩
abbrev S1024 : Shape := ⟨1, ![1024]⟩
abbrev S1024x6656 : Shape := ⟨2, ![1024, 6656]⟩
abbrev S_ : Shape := ⟨0, ![]⟩
abbrev S32768x5632 : Shape := ⟨2, ![32768, 5632]⟩
abbrev S32768x2816 : Shape := ⟨2, ![32768, 2816]⟩
abbrev S32768 : Shape := ⟨1, ![32768]⟩
abbrev S32768x1 : Shape := ⟨2, ![32768, 1]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S1024x6656, .f32⟩
  | .hbm, ⟨6, _⟩ => ⟨S_, .f32⟩
  | .hbm, ⟨7, _⟩ => ⟨S32768x1024, .f32⟩
  | .hbm, ⟨8, _⟩ => ⟨S32768x1024, .f32⟩
  | .hbm, ⟨9, _⟩ => ⟨S32768x5632, .f32⟩
  | .hbm, ⟨10, _⟩ => ⟨S32768x2816, .f32⟩
  | .hbm, ⟨11, _⟩ => ⟨S32768x2816, .f32⟩
  | .hbm, ⟨12, _⟩ => ⟨S32768x2816, .f32⟩
  | .hbm, ⟨13, _⟩ => ⟨S32768x2816, .f32⟩
  | .hbm, ⟨14, _⟩ => ⟨S_, .f32⟩
  | .hbm, ⟨15, _⟩ => ⟨S32768x2816, .f32⟩
  | .hbm, ⟨16, _⟩ => ⟨S32768x2816, .f32⟩
  | .hbm, ⟨17, _⟩ => ⟨S_, .f32⟩
  | .hbm, ⟨18, _⟩ => ⟨S32768x2816, .f32⟩
  | .hbm, ⟨19, _⟩ => ⟨S32768x2816, .f32⟩
  | .hbm, ⟨20, _⟩ => ⟨S32768x2816, .f32⟩
  | .hbm, ⟨21, _⟩ => ⟨S32768x2816, .f32⟩
  | .hbm, ⟨22, _⟩ => ⟨S32768x1024, .f32⟩
  | .hbm, ⟨23, _⟩ => ⟨S_, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S_, .f32⟩
  | .hbm, ⟨28, _⟩ => ⟨S32768, .f32⟩
  | .hbm, ⟨29, _⟩ => ⟨S32768x1, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S_, .f32⟩
  | .hbm, ⟨37, _⟩ => ⟨S32768, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S32768x1024, .f32⟩
  | .hbm, ⟨43, _⟩ => ⟨S32768x1024, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S32768x1, .f32⟩
  | .hbm, ⟨48, _⟩ => ⟨S32768x1024, .f32⟩
  | .hbm, ⟨49, _⟩ => ⟨S32768x1024, .f32⟩
  | .hbm, ⟨50, _⟩ => ⟨S1x1024, .f32⟩
  | .hbm, ⟨51, _⟩ => ⟨S32768x1024, .f32⟩
  | .hbm, ⟨52, _⟩ => ⟨S32768x1024, .f32⟩
  | .hbm, ⟨53, _⟩ => ⟨S1x1024, .f32⟩
  | .hbm, ⟨54, _⟩ => ⟨S32768x1024, .f32⟩
  | .hbm, ⟨55, _⟩ => ⟨S32768x1024, .f32⟩
  | .hbm, ⟨56, _⟩ => ⟨S1024x6656, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== Kernel3.lean ====
abbrev S32768x1024 : Shape := ⟨2, ![32768, 1024]⟩
abbrev S32768x512 : Shape := ⟨2, ![32768, 512]⟩
abbrev S1024x1024 : Shape := ⟨2, ![1024, 1024]⟩
abbrev S512x1024 : Shape := ⟨2, ![512, 1024]⟩
abbrev S1024 : Shape := ⟨1, ![1024]⟩
abbrev S1x1024 : Shape := ⟨2, ![1, 1024]⟩
abbrev S1024x512 : Shape := ⟨2, ![1024, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩

abbrev nBuf : Space → Nat
  | .hbm => 16
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x512, .bf16⟩
  | .hbm, ⟨3, _⟩ => ⟨S32768x1024, .bf16⟩
  | .hbm, ⟨4, _⟩ => ⟨S32768x1024, .bf16⟩
  | .hbm, ⟨5, _⟩ => ⟨S1024x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x1024, .bf16⟩
  | .hbm, ⟨11, _⟩ => ⟨S512x1024, .bf16⟩
  | .hbm, ⟨12, _⟩ => ⟨S1024x1024, .bf16⟩
  | .hbm, ⟨13, _⟩ => ⟨S1x1024, .f32⟩
  | .hbm, ⟨14, _⟩ => ⟨S1x1024, .f32⟩
  | .hbm, ⟨15, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S32768x1024 : Shape := ⟨2, ![32768, 1024]⟩
abbrev S32768x512 : Shape := ⟨2, ![32768, 512]⟩
abbrev S1024x1024 : Shape := ⟨2, ![1024, 1024]⟩
abbrev S512x1024 : Shape := ⟨2, ![512, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x512, .bf16⟩
  | .hbm, ⟨3, _⟩ => ⟨S32768x1024, .bf16⟩
  | .hbm, ⟨4, _⟩ => ⟨S32768x1024, .bf16⟩
  | .hbm, ⟨5, _⟩ => ⟨S1024x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S32768x1024, .f32⟩
  | .hbm, ⟨11, _⟩ => ⟨S32768x1024, .f32⟩
  | .hbm, ⟨12, _⟩ => ⟨S32768x512, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S_, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S_, .f32⟩
  | .hbm, ⟨25, _⟩ => ⟨S32768, .f32⟩
  | .hbm, ⟨26, _⟩ => ⟨S32768x1, .f32⟩
  | .hbm, ⟨27, _⟩ => ⟨S_, .f32⟩
  | .hbm, ⟨28, _⟩ => ⟨S32768x1, .f32⟩
  | .hbm, ⟨29, _⟩ => ⟨S32768x1, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S_, .f32⟩
  | .hbm, ⟨34, _⟩ => ⟨S32768, .f32⟩
  | .hbm, ⟨35, _⟩ => ⟨S32768x1, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S32768x1024, .f32⟩
  | .hbm, ⟨40, _⟩ => ⟨S32768x1024, .f32⟩
  | .hbm, ⟨41, _⟩ => ⟨S_, .f32⟩
  | .hbm, ⟨42, _⟩ => ⟨S32768x1, .f32⟩
  | .hbm, ⟨43, _⟩ => ⟨S32768x1, .f32⟩
  | .hbm, ⟨44, _⟩ => ⟨S32768x1, .f32⟩
  | .hbm, ⟨45, _⟩ => ⟨S32768x1024, .f32⟩
  | .hbm, ⟨46, _⟩ => ⟨S32768x1024, .f32⟩
  | .hbm, ⟨47, _⟩ => ⟨S1x1024, .f32⟩
  | .hbm, ⟨48, _⟩ => ⟨S32768x1024, .f32⟩
  | .hbm, ⟨49, _⟩ => ⟨S32768x1024, .f32⟩
  | .hbm, ⟨50, _⟩ => ⟨S1x1024, .f32⟩
  | .hbm, ⟨51, _⟩ => ⟨S32768x1024, .f32⟩
  | .hbm, ⟨52, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]
-- ==== Kernel4.lean ====
abbrev S32768x1024 : Shape := ⟨2, ![32768, 1024]⟩
abbrev S1024x6656 : Shape := ⟨2, ![1024, 6656]⟩
abbrev S2048 : Shape := ⟨1, ![2048]⟩
abbrev S_ : Shape := ⟨0, ![]⟩
abbrev S63 : Shape := ⟨1, ![63]⟩
abbrev S1 : Shape := ⟨1, ![1]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S4 : Shape := ⟨1, ![4]⟩
abbrev S256 : Shape := ⟨1, ![256]⟩
abbrev S1x4 : Shape := ⟨2, ![1, 4]⟩
abbrev S256x1 : Shape := ⟨2, ![256, 1]⟩
abbrev S256x4 : Shape := ⟨2, ![256, 4]⟩
abbrev S256x4x128 : Shape := ⟨3, ![256, 4, 128]⟩
abbrev S256x512 : Shape := ⟨2, ![256, 512]⟩
abbrev S8 : Shape := ⟨1, ![8]⟩
abbrev S1x8 : Shape := ⟨2, ![1, 8]⟩
abbrev S2048x8 : Shape := ⟨2, ![2048, 8]⟩
abbrev S2048x48 : Shape := ⟨2, ![2048, 48]⟩
abbrev S1x2048x1x64 : Shape := ⟨4, ![1, 2048, 1, 64]⟩
abbrev S1x2048x2x64 : Shape := ⟨4, ![1, 2048, 2, 64]⟩
abbrev S32768x512 : Shape := ⟨2, ![32768, 512]⟩
abbrev S16x512x2048 : Shape := ⟨3, ![16, 512, 2048]⟩
abbrev S128x1x512 : Shape := ⟨3, ![128, 1, 512]⟩
abbrev S512x1024 : Shape := ⟨2, ![512, 1024]⟩
abbrev S512x128 : Shape := ⟨2, ![512, 128]⟩
abbrev S512x512 : Shape := ⟨2, ![512, 512]⟩
abbrev S1x512x512 : Shape := ⟨3, ![1, 512, 512]⟩
abbrev S2x1x512 : Shape := ⟨3, ![2, 1, 512]⟩
abbrev S256x1024 : Shape := ⟨2, ![256, 1024]⟩
abbrev S1024x512 : Shape := ⟨2, ![1024, 512]⟩
abbrev S256x128 : Shape := ⟨2, ![256, 128]⟩
abbrev S1024x1024 : Shape := ⟨2, ![1024, 1024]⟩
abbrev S512x256 : Shape := ⟨2, ![512, 256]⟩
abbrev S1x512x256 : Shape := ⟨3, ![1, 512, 256]⟩
abbrev S512 : Shape := ⟨1, ![512]⟩
abbrev S1x512 : Shape := ⟨2, ![1, 512]⟩
abbrev S1x1x512 : Shape := ⟨3, ![1, 1, 512]⟩

abbrev nBuf : Space → Nat
  | .hbm => 154
  | .vmem => 35
  | .smem => 0
  | _ => 0

abbrev hbmTy0_0 (i : Nat) : BufTy := match i % 128 with
  | 0 => ⟨S32768x1024, .f32⟩
  | 1 => ⟨S1024x6656, .f32⟩
  | 2 => ⟨S2048, .i32⟩
  | 3 => ⟨S2048, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S63, .f32⟩
  | 12 => ⟨S_, .f32⟩
  | 13 => ⟨S63, .f32⟩
  | 14 => ⟨S63, .f32⟩
  | 15 => ⟨S1, .f32⟩
  | 16 => ⟨S_, .f32⟩
  | 17 => ⟨S63, .f32⟩
  | 18 => ⟨S63, .f32⟩
  | 19 => ⟨S63, .f32⟩
  | 20 => ⟨S63, .f32⟩
  | 21 => ⟨S1, .f32⟩
  | 22 => ⟨S63, .f32⟩
  | 23 => ⟨S63, .f32⟩
  | 24 => ⟨S63, .f32⟩
  | 25 => ⟨S1, .f32⟩
  | 26 => ⟨S64, .f32⟩
  | 27 => ⟨S_, .f32⟩
  | 28 => ⟨S64, .f32⟩
  | 29 => ⟨S64, .f32⟩
  | 30 => ⟨S_, .f32⟩
  | 31 => ⟨S64, .f32⟩
  | 32 => ⟨S64, .f32⟩
  | 33 => ⟨S2048x1, .f32⟩
  | 34 => ⟨S1x64, .f32⟩
  | 35 => ⟨S2048x64, .f32⟩
  | 36 => ⟨S2048x64, .f32⟩
  | 37 => ⟨S2048x64, .f32⟩
  | 38 => ⟨S2048x64, .f32⟩
  | 39 => ⟨S2048x64, .f32⟩
  | 40 => ⟨S2048x128, .f32⟩
  | 41 => ⟨S2048x64, .f32⟩
  | 42 => ⟨S2048x128, .f32⟩
  | 43 => ⟨S4, .f32⟩
  | 44 => ⟨S_, .f32⟩
  | 45 => ⟨S4, .f32⟩
  | 46 => ⟨S4, .f32⟩
  | 47 => ⟨S_, .f32⟩
  | 48 => ⟨S4, .f32⟩
  | 49 => ⟨S4, .f32⟩
  | 50 => ⟨S_, .f32⟩
  | 51 => ⟨S4, .f32⟩
  | 52 => ⟨S4, .f32⟩
  | 53 => ⟨S4, .f32⟩
  | 54 => ⟨S256, .i32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S256, .i32⟩
  | 62 => ⟨S256, .i32⟩
  | 63 => ⟨S_, .i32⟩
  | 64 => ⟨S256, .i32⟩
  | 65 => ⟨S256, .i1⟩
  | 66 => ⟨S_, .i32⟩
  | 67 => ⟨S256, .i32⟩
  | 68 => ⟨S256, .i1⟩
  | 69 => ⟨S_, .i32⟩
  | 70 => ⟨S_, .i1⟩
  | 71 => ⟨S256, .i1⟩
  | 72 => ⟨S256, .i1⟩
  | 73 => ⟨S256, .i1⟩
  | 74 => ⟨S256, .i32⟩
  | 75 => ⟨S256, .i32⟩
  | 76 => ⟨S256, .i32⟩
  | 77 => ⟨S256, .f32⟩
  | 78 => ⟨S_, .f32⟩
  | 79 => ⟨S256, .f32⟩
  | 80 => ⟨S256, .f32⟩
  | 81 => ⟨S1x4, .f32⟩
  | 82 => ⟨S256x1, .f32⟩
  | 83 => ⟨S256x4, .f32⟩
  | 84 => ⟨S256x4, .f32⟩
  | 85 => ⟨S256x4, .f32⟩
  | 86 => ⟨S256x4, .f32⟩
  | 87 => ⟨S1x4, .f32⟩
  | 88 => ⟨S1x4, .f32⟩
  | 89 => ⟨S256x1, .f32⟩
  | 90 => ⟨S256x4, .f32⟩
  | 91 => ⟨S256x4, .f32⟩
  | 92 => ⟨S256x4, .f32⟩
  | 93 => ⟨S256x4, .f32⟩
  | 94 => ⟨S_, .f32⟩
  | 95 => ⟨S256x4, .f32⟩
  | 96 => ⟨S256x4, .f32⟩
  | 97 => ⟨S256x4x128, .f32⟩
  | 98 => ⟨S256x512, .f32⟩
  | 99 => ⟨S256x4x128, .f32⟩
  | 100 => ⟨S256x512, .f32⟩
  | 101 => ⟨S8, .f32⟩
  | 102 => ⟨S_, .f32⟩
  | 103 => ⟨S8, .f32⟩
  | 104 => ⟨S8, .f32⟩
  | 105 => ⟨S_, .f32⟩
  | 106 => ⟨S8, .f32⟩
  | 107 => ⟨S8, .f32⟩
  | 108 => ⟨S_, .f32⟩
  | 109 => ⟨S8, .f32⟩
  | 110 => ⟨S8, .f32⟩
  | 111 => ⟨S_, .f32⟩
  | 112 => ⟨S8, .f32⟩
  | 113 => ⟨S8, .f32⟩
  | 114 => ⟨S_, .f32⟩
  | 115 => ⟨S8, .f32⟩
  | 116 => ⟨S8, .f32⟩
  | 117 => ⟨S2048x1, .f32⟩
  | 118 => ⟨S1x8, .f32⟩
  | 119 => ⟨S2048x8, .f32⟩
  | 120 => ⟨S2048x8, .f32⟩
  | 121 => ⟨S2048x8, .f32⟩
  | 122 => ⟨S2048x8, .f32⟩
  | 123 => ⟨S2048x8, .f32⟩
  | 124 => ⟨S_, .f32⟩
  | 125 => ⟨S2048x48, .f32⟩
  | 126 => ⟨S_, .f32⟩
  | 127 => ⟨S2048x48, .f32⟩
  | _ => ⟨S32768x1024, .f32⟩

abbrev hbmTy0_1 (i : Nat) : BufTy := match i % 128 with
  | 0 => ⟨S_, .f32⟩
  | 1 => ⟨S2048x8, .f32⟩
  | 2 => ⟨S2048x64, .f32⟩
  | 3 => ⟨S1x2048x1x64, .f32⟩
  | 4 => ⟨S1x2048x2x64, .f32⟩
  | 5 => ⟨S2048x128, .f32⟩
  | 6 => ⟨S2048x8, .f32⟩
  | 7 => ⟨S2048x64, .f32⟩
  | 8 => ⟨S1x2048x1x64, .f32⟩
  | 9 => ⟨S1x2048x2x64, .f32⟩
  | 10 => ⟨S2048x128, .f32⟩
  | 11 => ⟨S2048x64, .f32⟩
  | 12 => ⟨S1x2048x1x64, .f32⟩
  | 13 => ⟨S1x2048x2x64, .f32⟩
  | 14 => ⟨S2048x128, .f32⟩
  | 15 => ⟨S1024x6656, .bf16⟩
  | 16 => ⟨S32768x512, .bf16⟩
  | 17 => ⟨S16x512x2048, .bf16⟩
  | 18 => ⟨S32768x1024, .bf16⟩
  | 19 => ⟨S32768x1024, .bf16⟩
  | 20 => ⟨S16x512x2048, .f32⟩
  | 21 => ⟨S32768x512, .bf16⟩
  | 22 => ⟨S16x512x2048, .bf16⟩
  | 23 => ⟨S32768x1024, .bf16⟩
  | 24 => ⟨S32768x1024, .bf16⟩
  | 25 => ⟨S128x1x512, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1024x6656, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S256x512, .f32⟩
  | .local _ .vmem, ⟨8, _⟩ => ⟨S256x512, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x512, .bf16⟩
  | .local _ .vmem, ⟨16, _⟩ => ⟨S512x512, .bf16⟩
  | .local _ .vmem, ⟨17, _⟩ => ⟨S1x512x512, .bf16⟩
  | .local _ .vmem, ⟨18, _⟩ => ⟨S1x512x512, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S1x512x512, .f32⟩
  | .local _ .vmem, ⟨24, _⟩ => ⟨S1x512x512, .f32⟩
  | .local _ .vmem, ⟨25, _⟩ => ⟨S512x512, .bf16⟩
  | .local _ .vmem, ⟨26, _⟩ => ⟨S512x512, .bf16⟩
  | .local _ .vmem, ⟨27, _⟩ => ⟨S1x512x512, .bf16⟩
  | .local _ .vmem, ⟨28, _⟩ => ⟨S1x512x512, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S2x1x512, .f32⟩
  | .local _ .vmem, ⟨34, _⟩ => ⟨S2x1x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_cst : Ref sig .tc := ⟨.hbm, 9, rfl⟩
abbrev main_call0_v3 : Ref sig .tc := ⟨.hbm, 10, rfl⟩
abbrev main_call0_v4 : Ref sig .tc := ⟨.hbm, 11, rfl⟩
abbrev main_call0_cst_0 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_cst_1 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_v2 : Ref sig .tc := ⟨.hbm, 26, rfl⟩
abbrev main_cst_1 : Ref sig .tc := ⟨.hbm, 27, rfl⟩
abbrev main_v3 : Ref sig .tc := ⟨.hbm, 28, rfl⟩
abbrev main_v4 : Ref sig .tc := ⟨.hbm, 29, rfl⟩
abbrev main_cst_2 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_3 : Ref sig .tc := ⟨.hbm, 44, rfl⟩
abbrev main_v18 : Ref sig .tc := ⟨.hbm, 45, rfl⟩
abbrev main_v19 : Ref sig .tc := ⟨.hbm, 46, rfl⟩
abbrev main_cst_4 : Ref sig .tc := ⟨.hbm, 47, rfl⟩
abbrev main_v20 : Ref sig .tc := ⟨.hbm, 48, rfl⟩
abbrev main_v21 : Ref sig .tc := ⟨.hbm, 49, rfl⟩
abbrev main_cst_5 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_c : Ref sig .tc := ⟨.hbm, 55, rfl⟩
abbrev main_call1_v0 : Ref sig .tc := ⟨.hbm, 56, rfl⟩
abbrev main_call1_c : Ref sig .tc := ⟨.hbm, 57, rfl⟩
abbrev main_call1_v1 : Ref sig .tc := ⟨.hbm, 58, rfl⟩
abbrev main_call1_c_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_c_1 : Ref sig .tc := ⟨.hbm, 63, rfl⟩
abbrev main_call1_v5 : Ref sig .tc := ⟨.hbm, 64, rfl⟩
abbrev main_call1_v6 : Ref sig .tc := ⟨.hbm, 65, rfl⟩
abbrev main_call1_c_2 : Ref sig .tc := ⟨.hbm, 66, rfl⟩
abbrev main_call1_v7 : Ref sig .tc := ⟨.hbm, 67, rfl⟩
abbrev main_call1_v8 : Ref sig .tc := ⟨.hbm, 68, rfl⟩
abbrev main_call1_c_3 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_v12 : Ref sig .tc := ⟨.hbm, 73, rfl⟩
abbrev main_call1_v13 : Ref sig .tc := ⟨.hbm, 74, rfl⟩
abbrev main_call1_v14 : Ref sig .tc := ⟨.hbm, 75, rfl⟩
abbrev main_v26 : Ref sig .tc := ⟨.hbm, 76, rfl⟩
abbrev main_v27 : Ref sig .tc := ⟨.hbm, 77, rfl⟩
abbrev main_cst_6 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_cst_7 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_cst_8 : Ref sig .tc := ⟨.hbm, 102, rfl⟩
abbrev main_v50 : Ref sig .tc := ⟨.hbm, 103, rfl⟩
abbrev main_v51 : Ref sig .tc := ⟨.hbm, 104, rfl⟩
abbrev main_cst_9 : Ref sig .tc := ⟨.hbm, 105, rfl⟩
abbrev main_v52 : Ref sig .tc := ⟨.hbm, 106, rfl⟩
abbrev main_v53 : Ref sig .tc := ⟨.hbm, 107, rfl⟩
abbrev main_cst_10 : Ref sig .tc := ⟨.hbm, 108, rfl⟩
abbrev main_v54 : Ref sig .tc := ⟨.hbm, 109, rfl⟩
abbrev main_v55 : Ref sig .tc := ⟨.hbm, 110, rfl⟩
abbrev main_cst_11 : Ref sig .tc := ⟨.hbm, 111, rfl⟩
abbrev main_v56 : Ref sig .tc := ⟨.hbm, 112, rfl⟩
abbrev main_v57 : Ref sig .tc := ⟨.hbm, 113, rfl⟩
abbrev main_cst_12 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_cst_13 : Ref sig .tc := ⟨.hbm, 124, rfl⟩
abbrev main_v67 : Ref sig .tc := ⟨.hbm, 125, rfl⟩
abbrev main_cst_14 : Ref sig .tc := ⟨.hbm, 126, rfl⟩
abbrev main_v68 : Ref sig .tc := ⟨.hbm, 127, rfl⟩
abbrev main_cst_15 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84_0 : Ref sig .tc := ⟨.hbm, 144, rfl⟩
abbrev main_v84_1 : Ref sig .tc := ⟨.hbm, 145, rfl⟩
abbrev main_v84_2 : Ref sig .tc := ⟨.hbm, 146, rfl⟩
abbrev main_v84_3 : Ref sig .tc := ⟨.hbm, 147, rfl⟩
abbrev main_v84_4 : Ref sig .tc := ⟨.hbm, 148, rfl⟩
abbrev main_v84_5 : Ref sig .tc := ⟨.hbm, 149, rfl⟩
abbrev main_v84_6 : Ref sig .tc := ⟨.hbm, 150, rfl⟩
abbrev main_v84_7 : Ref sig .tc := ⟨.hbm, 151, rfl⟩
abbrev main_v84_8 : Ref sig .tc := ⟨.hbm, 152, rfl⟩
abbrev main_v84_9 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![v1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![v1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_16 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![v1.toNat, c0_i32.toNat]

def cc0_transform_18 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x6656 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S2x1x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference4Ideal.lean ====
abbrev S32768x1024 : Shape := ⟨2, ![32768, 1024]⟩
abbrev S1024x6656 : Shape := ⟨2, ![1024, 6656]⟩
abbrev S16x2048x1024 : Shape := ⟨3, ![16, 2048, 1024]⟩
abbrev S16x2048x6656 : Shape := ⟨3, ![16, 2048, 6656]⟩
abbrev S16x2048x512 : Shape := ⟨3, ![16, 2048, 512]⟩
abbrev S16x2048x2048 : Shape := ⟨3, ![16, 2048, 2048]⟩
abbrev S2048 : Shape := ⟨1, ![2048]⟩
abbrev S_ : Shape := ⟨0, ![]⟩
abbrev S63 : Shape := ⟨1, ![63]⟩
abbrev S1 : Shape := ⟨1, ![1]⟩
abbrev S64 : Shape := ⟨1, ![64]⟩
abbrev S16x2048x4x128 : Shape := ⟨4, ![16, 2048, 4, 128]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S16x2048x4x64 : Shape := ⟨4, ![16, 2048, 4, 64]⟩
abbrev S4 : Shape := ⟨1, ![4]⟩
abbrev S128 : Shape := ⟨1, ![128]⟩
abbrev S1x4 : Shape := ⟨2, ![1, 4]⟩
abbrev S128x1 : Shape := ⟨2, ![128, 1]⟩
abbrev S128x4 : Shape := ⟨2, ![128, 4]⟩
abbrev S16x16x128x4x128 : Shape := ⟨5, ![16, 16, 128, 4, 128]⟩
abbrev S1x1x128x4x1 : Shape := ⟨5, ![1, 1, 128, 4, 1]⟩
abbrev S8 : Shape := ⟨1, ![8]⟩
abbrev S16x2048x8x64 : Shape := ⟨4, ![16, 2048, 8, 64]⟩
abbrev S16x2048x8x16 : Shape := ⟨4, ![16, 2048, 8, 16]⟩
abbrev S1x8 : Shape := ⟨2, ![1, 8]⟩
abbrev S2048x8 : Shape := ⟨2, ![2048, 8]⟩
abbrev S1x2048x1x8 : Shape := ⟨4, ![1, 2048, 1, 8]⟩
abbrev S16x2048x8x8 : Shape := ⟨4, ![16, 2048, 8, 8]⟩
abbrev S16x2048x8x48 : Shape := ⟨4, ![16, 2048, 8, 48]⟩
abbrev S16x8x256x8x64 : Shape := ⟨5, ![16, 8, 256, 8, 64]⟩
abbrev S16x8x8x64 : Shape := ⟨4, ![16, 8, 8, 64]⟩
abbrev S32768x512 : Shape := ⟨2, ![32768, 512]⟩
abbrev S16x512x2048 : Shape := ⟨3, ![16, 512, 2048]⟩
abbrev S128x1x512 : Shape := ⟨3, ![128, 1, 512]⟩

abbrev nBuf : Space → Nat
  | .hbm => 239
  | .vmem => 0
  | .smem => 0
  | _ => 0

abbrev hbmTy0_0 (i : Nat) : BufTy := match i % 128 with
  | 0 => ⟨S32768x1024, .f32⟩
  | 1 => ⟨S1024x6656, .f32⟩
  | 2 => ⟨S16x2048x1024, .f32⟩
  | 3 => ⟨S16x2048x6656, .f32⟩
  | 4 => ⟨S16x2048x512, .f32⟩
  | 5 => ⟨S16x2048x512, .f32⟩
  | 6 => ⟨S16x2048x1024, .f32⟩
  | 7 => ⟨S16x2048x1024, .f32⟩
  | 8 => ⟨S16x2048x512, .f32⟩
  | 9 => ⟨S16x2048x512, .f32⟩
  | 10 => ⟨S16x2048x512, .f32⟩
  | 11 => ⟨S16x2048x2048, .f32⟩
  | 12 => ⟨S2048, .i32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S63, .f32⟩
  | 21 => ⟨S_, .f32⟩
  | 22 => ⟨S63, .f32⟩
  | 23 => ⟨S63, .f32⟩
  | 24 => ⟨S1, .f32⟩
  | 25 => ⟨S_, .f32⟩
  | 26 => ⟨S63, .f32⟩
  | 27 => ⟨S63, .f32⟩
  | 28 => ⟨S63, .f32⟩
  | 29 => ⟨S63, .f32⟩
  | 30 => ⟨S1, .f32⟩
  | 31 => ⟨S63, .f32⟩
  | 32 => ⟨S63, .f32⟩
  | 33 => ⟨S63, .f32⟩
  | 34 => ⟨S1, .f32⟩
  | 35 => ⟨S64, .f32⟩
  | 36 => ⟨S_, .f32⟩
  | 37 => ⟨S64, .f32⟩
  | 38 => ⟨S64, .f32⟩
  | 39 => ⟨S_, .f32⟩
  | 40 => ⟨S64, .f32⟩
  | 41 => ⟨S64, .f32⟩
  | 42 => ⟨S16x2048x4x128, .f32⟩
  | 43 => ⟨S2048x1, .i32⟩
  | 44 => ⟨S2048x1, .f32⟩
  | 45 => ⟨S1x64, .f32⟩
  | 46 => ⟨S2048x64, .f32⟩
  | 47 => ⟨S2048x64, .f32⟩
  | 48 => ⟨S2048x64, .f32⟩
  | 49 => ⟨S2048x64, .f32⟩
  | 50 => ⟨S1x2048x1x64, .f32⟩
  | 51 => ⟨S2048x64, .f32⟩
  | 52 => ⟨S1x2048x1x64, .f32⟩
  | 53 => ⟨S16x2048x4x64, .f32⟩
  | 54 => ⟨S16x2048x4x64, .f32⟩
  | 55 => ⟨S16x2048x4x64, .f32⟩
  | 56 => ⟨S16x2048x4x64, .f32⟩
  | 57 => ⟨S16x2048x4x64, .f32⟩
  | 58 => ⟨S16x2048x4x64, .f32⟩
  | 59 => ⟨S16x2048x4x64, .f32⟩
  | 60 => ⟨S16x2048x4x64, .f32⟩
  | 61 => ⟨S16x2048x4x64, .f32⟩
  | 62 => ⟨S16x2048x4x64, .f32⟩
  | 63 => ⟨S16x2048x4x64, .f32⟩
  | 64 => ⟨S16x2048x4x64, .f32⟩
  | 65 => ⟨S16x2048x4x128, .f32⟩
  | 66 => ⟨S16x2048x4x128, .f32⟩
  | 67 => ⟨S2048x1, .i32⟩
  | 68 => ⟨S2048x1, .f32⟩
  | 69 => ⟨S1x64, .f32⟩
  | 70 => ⟨S2048x64, .f32⟩
  | 71 => ⟨S2048x64, .f32⟩
  | 72 => ⟨S2048x64, .f32⟩
  | 73 => ⟨S2048x64, .f32⟩
  | 74 => ⟨S1x2048x1x64, .f32⟩
  | 75 => ⟨S2048x64, .f32⟩
  | 76 => ⟨S1x2048x1x64, .f32⟩
  | 77 => ⟨S16x2048x4x64, .f32⟩
  | 78 => ⟨S16x2048x4x64, .f32⟩
  | 79 => ⟨S16x2048x4x64, .f32⟩
  | 80 => ⟨S16x2048x4x64, .f32⟩
  | 81 => ⟨S16x2048x4x64, .f32⟩
  | 82 => ⟨S16x2048x4x64, .f32⟩
  | 83 => ⟨S16x2048x4x64, .f32⟩
  | 84 => ⟨S16x2048x4x64, .f32⟩
  | 85 => ⟨S16x2048x4x64, .f32⟩
  | 86 => ⟨S16x2048x4x64, .f32⟩
  | 87 => ⟨S16x2048x4x64, .f32⟩
  | 88 => ⟨S16x2048x4x64, .f32⟩
  | 89 => ⟨S16x2048x4x128, .f32⟩
  | 90 => ⟨S_, .f32⟩
  | 91 => ⟨S16x2048x4x128, .f32⟩
  | 92 => ⟨S16x2048x4x128, .f32⟩
  | 93 => ⟨S4, .f32⟩
  | 94 => ⟨S_, .f32⟩
  | 95 => ⟨S4, .f32⟩
  | 96 => ⟨S4, .f32⟩
  | 97 => ⟨S_, .f32⟩
  | 98 => ⟨S4, .f32⟩
  | 99 => ⟨S4, .f32⟩
  | 100 => ⟨S_, .f32⟩
  | 101 => ⟨S4, .f32⟩
  | 102 => ⟨S4, .f32⟩
  | 103 => ⟨S4, .f32⟩
  | 104 => ⟨S128, .f32⟩
  | 105 => ⟨S1x4, .f32⟩
  | 106 => ⟨S_, .f32⟩
  | 107 => ⟨S128, .f32⟩
  | 108 => ⟨S128, .f32⟩
  | 109 => ⟨S128x1, .f32⟩
  | 110 => ⟨S128x4, .f32⟩
  | 111 => ⟨S128x4, .f32⟩
  | 112 => ⟨S128x4, .f32⟩
  | 113 => ⟨S16x16x128x4x128, .f32⟩
  | 114 => ⟨S128x4, .f32⟩
  | 115 => ⟨S1x1x128x4x1, .f32⟩
  | 116 => ⟨S16x16x128x4x128, .f32⟩
  | 117 => ⟨S16x16x128x4x128, .f32⟩
  | 118 => ⟨S16x16x128x4x128, .f32⟩
  | 119 => ⟨S128x4, .f32⟩
  | 120 => ⟨S128x4, .f32⟩
  | 121 => ⟨S1x1x128x4x1, .f32⟩
  | 122 => ⟨S16x16x128x4x128, .f32⟩
  | 123 => ⟨S16x16x128x4x128, .f32⟩
  | 124 => ⟨S8, .f32⟩
  | 125 => ⟨S_, .f32⟩
  | 126 => ⟨S8, .f32⟩
  | 127 => ⟨S8, .f32⟩
  | _ => ⟨S32768x1024, .f32⟩

abbrev hbmTy0_1 (i : Nat) : BufTy := match i % 128 with
  | 0 => ⟨S_, .f32⟩
  | 1 => ⟨S8, .f32⟩
  | 2 => ⟨S8, .f32⟩
  | 3 => ⟨S_, .f32⟩
  | 4 => ⟨S8, .f32⟩
  | 5 => ⟨S8, .f32⟩
  | 6 => ⟨S_, .f32⟩
  | 7 => ⟨S8, .f32⟩
  | 8 => ⟨S8, .f32⟩
  | 9 => ⟨S_, .f32⟩
  | 10 => ⟨S8, .f32⟩
  | 11 => ⟨S8, .f32⟩
  | 12 => ⟨S16x2048x8x64, .f32⟩
  | 13 => ⟨S16x2048x8x64, .f32⟩
  | 14 => ⟨S16x2048x8x16, .f32⟩
  | 15 => ⟨S2048x1, .i32⟩
  | 16 => ⟨S2048x1, .f32⟩
  | 17 => ⟨S1x8, .f32⟩
  | 18 => ⟨S2048x8, .f32⟩
  | 19 => ⟨S2048x8, .f32⟩
  | 20 => ⟨S2048x8, .f32⟩
  | 21 => ⟨S2048x8, .f32⟩
  | 22 => ⟨S1x2048x1x8, .f32⟩
  | 23 => ⟨S2048x8, .f32⟩
  | 24 => ⟨S1x2048x1x8, .f32⟩
  | 25 => ⟨S16x2048x8x8, .f32⟩
  | 26 => ⟨S16x2048x8x8, .f32⟩
  | 27 => ⟨S16x2048x8x8, .f32⟩
  | 28 => ⟨S16x2048x8x8, .f32⟩
  | 29 => ⟨S16x2048x8x8, .f32⟩
  | 30 => ⟨S16x2048x8x8, .f32⟩
  | 31 => ⟨S16x2048x8x8, .f32⟩
  | 32 => ⟨S16x2048x8x8, .f32⟩
  | 33 => ⟨S16x2048x8x8, .f32⟩
  | 34 => ⟨S16x2048x8x8, .f32⟩
  | 35 => ⟨S16x2048x8x8, .f32⟩
  | 36 => ⟨S16x2048x8x8, .f32⟩
  | 37 => ⟨S16x2048x8x16, .f32⟩
  | 38 => ⟨S16x2048x8x48, .f32⟩
  | 39 => ⟨S16x2048x8x64, .f32⟩
  | 40 => ⟨S16x2048x8x16, .f32⟩
  | 41 => ⟨S2048x1, .i32⟩
  | 42 => ⟨S2048x1, .f32⟩
  | 43 => ⟨S1x8, .f32⟩
  | 44 => ⟨S2048x8, .f32⟩
  | 45 => ⟨S2048x8, .f32⟩
  | 46 => ⟨S2048x8, .f32⟩
  | 47 => ⟨S2048x8, .f32⟩
  | 48 => ⟨S1x2048x1x8, .f32⟩
  | 49 => ⟨S2048x8, .f32⟩
  | 50 => ⟨S1x2048x1x8, .f32⟩
  | 51 => ⟨S16x2048x8x8, .f32⟩
  | 52 => ⟨S16x2048x8x8, .f32⟩
  | 53 => ⟨S16x2048x8x8, .f32⟩
  | 54 => ⟨S16x2048x8x8, .f32⟩
  | 55 => ⟨S16x2048x8x8, .f32⟩
  | 56 => ⟨S16x2048x8x8, .f32⟩
  | 57 => ⟨S16x2048x8x8, .f32⟩
  | 58 => ⟨S16x2048x8x8, .f32⟩
  | 59 => ⟨S16x2048x8x8, .f32⟩
  | 60 => ⟨S16x2048x8x8, .f32⟩
  | 61 => ⟨S16x2048x8x8, .f32⟩
  | 62 => ⟨S16x2048x8x8, .f32⟩
  | 63 => ⟨S16x2048x8x16, .f32⟩
  | 64 => ⟨S16x2048x8x48, .f32⟩
  | 65 => ⟨S16x2048x8x64, .f32⟩
  | 66 => ⟨S16x8x256x8x64, .f32⟩
  | 67 => ⟨S_, .f32⟩
  | 68 => ⟨S16x8x8x64, .f32⟩
  | 69 => ⟨S_, .f32⟩
  | 70 => ⟨S16x8x8x64, .f32⟩
  | 71 => ⟨S16x8x8x64, .f32⟩
  | 72 => ⟨S16x2048x2048, .f32⟩
  | 73 => ⟨S16x2048x2048, .f32⟩
  | 74 => ⟨S_, .f32⟩
  | 75 => ⟨S16x2048x2048, .f32⟩
  | 76 => ⟨S16x2048x2048, .f32⟩
  | 77 => ⟨S_, .f32⟩
  | 78 => ⟨S16x2048x2048, .f32⟩
  | 79 => ⟨S16x2048x2048, .f32⟩
  | 80 => ⟨S16x2048x1024, .f32⟩
  | 81 => ⟨S16x2048x1024, .f32⟩
  | 82 => ⟨S32768x512, .f32⟩
  | 83 => ⟨S32768x512, .bf16⟩
  | 84 => ⟨S16x2048x512, .f32⟩
  | 85 => ⟨S16x512x2048, .f32⟩
  | 86 => ⟨S16x512x2048, .bf16⟩
  | 87 => ⟨S32768x1024, .f32⟩
  | 88 => ⟨S32768x1024, .bf16⟩
  | 89 => ⟨S16x2048x1024, .f32⟩
  | 90 => ⟨S16x2048x1024, .f32⟩
  | 91 => ⟨S_, .f32⟩
  | 92 => ⟨S16x2048x1024, .f32⟩
  | 93 => ⟨S16x2048x1024, .f32⟩
  | 94 => ⟨S_, .f32⟩
  | 95 => ⟨S16x2048x1024, .f32⟩
  | 96 => ⟨S16x2048x1024, .f32⟩
  | 97 => ⟨S16x2048x1024, .f32⟩
  | 98 => ⟨S32768x1024, .f32⟩
  | 99 => ⟨S32768x1024, .bf16⟩
  | 100 => ⟨S16x2048x512, .f32⟩
  | 101 => ⟨S16x512x2048, .f32⟩
  | 102 => ⟨S32768x512, .f32⟩
  | 103 => ⟨S32768x512, .bf16⟩
  | 104 => ⟨S16x512x2048, .f32⟩
  | 105 => ⟨S16x512x2048, .bf16⟩
  | 106 => ⟨S32768x1024, .f32⟩
  | 107 => ⟨S32768x1024, .bf16⟩
  | 108 => ⟨S32768x1024, .f32⟩
  | 109 => ⟨S32768x1024, .bf16⟩
  | 110 => ⟨S128x1x512, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_cst : Ref sig .tc := ⟨.hbm, 18, rfl⟩
abbrev main_call0_v3 : Ref sig .tc := ⟨.hbm, 19, rfl⟩
abbrev main_call0_v4 : Ref sig .tc := ⟨.hbm, 20, rfl⟩
abbrev main_call0_cst_0 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_cst_1 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_v15 : Ref sig .tc := ⟨.hbm, 33, rfl⟩
abbrev main_call0_v16 : Ref sig .tc := ⟨.hbm, 34, rfl⟩
abbrev main_v11 : Ref sig .tc := ⟨.hbm, 35, rfl⟩
abbrev main_cst_1 : Ref sig .tc := ⟨.hbm, 36, rfl⟩
abbrev main_v12 : Ref sig .tc := ⟨.hbm, 37, rfl⟩
abbrev main_v13 : Ref sig .tc := ⟨.hbm, 38, rfl⟩
abbrev main_cst_2 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_3 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_4 : Ref sig .tc := ⟨.hbm, 94, rfl⟩
abbrev main_v67 : Ref sig .tc := ⟨.hbm, 95, rfl⟩
abbrev main_v68 : Ref sig .tc := ⟨.hbm, 96, rfl⟩
abbrev main_cst_5 : Ref sig .tc := ⟨.hbm, 97, rfl⟩
abbrev main_v69 : Ref sig .tc := ⟨.hbm, 98, rfl⟩
abbrev main_v70 : Ref sig .tc := ⟨.hbm, 99, rfl⟩
abbrev main_cst_6 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_7 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_8 : Ref sig .tc := ⟨.hbm, 125, rfl⟩
abbrev main_v94 : Ref sig .tc := ⟨.hbm, 126, rfl⟩
abbrev main_v95 : Ref sig .tc := ⟨.hbm, 127, rfl⟩
abbrev main_cst_9 : Ref sig .tc := ⟨.hbm, 128, rfl⟩
abbrev main_v96 : Ref sig .tc := ⟨.hbm, 129, rfl⟩
abbrev main_v97 : Ref sig .tc := ⟨.hbm, 130, rfl⟩
abbrev main_cst_10 : Ref sig .tc := ⟨.hbm, 131, rfl⟩
abbrev main_v98 : Ref sig .tc := ⟨.hbm, 132, rfl⟩
abbrev main_v99 : Ref sig .tc := ⟨.hbm, 133, rfl⟩
abbrev main_cst_11 : Ref sig .tc := ⟨.hbm, 134, rfl⟩
abbrev main_v100 : Ref sig .tc := ⟨.hbm, 135, rfl⟩
abbrev main_v101 : Ref sig .tc := ⟨.hbm, 136, rfl⟩
abbrev main_cst_12 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_cst_13 : Ref sig .tc := ⟨.hbm, 195, rfl⟩
abbrev main_v159 : Ref sig .tc := ⟨.hbm, 196, rfl⟩
abbrev main_cst_14 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_cst_15 : Ref sig .tc := ⟨.hbm, 202, rfl⟩
abbrev main_v164 : Ref sig .tc := ⟨.hbm, 203, rfl⟩
abbrev main_v165 : Ref sig .tc := ⟨.hbm, 204, rfl⟩
abbrev main_cst_16 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_call1_v0 : Ref sig .tc := ⟨.hbm, 217, rfl⟩
abbrev main_call1_v1 : Ref sig .tc := ⟨.hbm, 218, rfl⟩
abbrev main_call1_cst : Ref sig .tc := ⟨.hbm, 219, rfl⟩
abbrev main_call1_v2 : Ref sig .tc := ⟨.hbm, 220, rfl⟩
abbrev main_call1_v3 : Ref sig .tc := ⟨.hbm, 221, rfl⟩
abbrev main_call1_cst_0 : Ref sig .tc := ⟨.hbm, 222, rfl⟩
abbrev main_call1_v4 : Ref sig .tc := ⟨.hbm, 223, rfl⟩
abbrev main_call1_v5 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩

abbrev nD : Nat := 1
abbrev τ : Topo := Topo.v7x

variable {F : FTy → Type} [FloatOps F]
-- ==== Kernel5.lean ====
abbrev S16x512x2048 : Shape := ⟨3, ![16, 512, 2048]⟩
abbrev S16x2048x512 : Shape := ⟨3, ![16, 2048, 512]⟩
abbrev S16x8x512 : Shape := ⟨3, ![16, 8, 512]⟩
abbrev S1x128x2048 : Shape := ⟨3, ![1, 128, 2048]⟩
abbrev S1x2048x128 : Shape := ⟨3, ![1, 2048, 128]⟩
abbrev S1x8x128 : Shape := ⟨3, ![1, 8, 128]⟩
abbrev S128x2048 : Shape := ⟨2, ![128, 2048]⟩
abbrev S2048x128 : Shape := ⟨2, ![2048, 128]⟩
abbrev S8x128 : Shape := ⟨2, ![8, 128]⟩
abbrev S256x256 : Shape := ⟨2, ![256, 256]⟩
abbrev S8x2048 : Shape := ⟨2, ![8, 2048]⟩
abbrev S16x128 : Shape := ⟨2, ![16, 128]⟩
abbrev S16x2048 : Shape := ⟨2, ![16, 2048]⟩
abbrev S1x2048 : Shape := ⟨2, ![1, 2048]⟩
abbrev S64x2048 : Shape := ⟨2, ![64, 2048]⟩
abbrev S56x2048 : Shape := ⟨2, ![56, 2048]⟩
abbrev S80x2048 : Shape := ⟨2, ![80, 2048]⟩
abbrev S128x256 : Shape := ⟨2, ![128, 256]⟩
abbrev S256x128 : Shape := ⟨2, ![256, 128]⟩
abbrev S32x8x256 : Shape := ⟨3, ![32, 8, 256]⟩
abbrev S8x256 : Shape := ⟨2, ![8, 256]⟩
abbrev S256 : Shape := ⟨1, ![256]⟩
abbrev S1x256 : Shape := ⟨2, ![1, 256]⟩
abbrev S80x256 : Shape := ⟨2, ![80, 256]⟩
abbrev S64x256 : Shape := ⟨2, ![64, 256]⟩

abbrev nBuf : Space → Nat
  | .hbm => 5
  | .vmem => 10
  | .smem => 0
  | _ => 0

abbrev bufTy : (tb : Table) → Fin (tcTables nBuf tb) → BufTy
  | .hbm, ⟨0, _⟩ => ⟨S16x512x2048, .f32⟩
  | .hbm, ⟨1, _⟩ => ⟨S16x2048x512, .bf16⟩
  | .hbm, ⟨2, _⟩ => ⟨S16x512x2048, .bf16⟩
  | .hbm, ⟨3, _⟩ => ⟨S16x8x512, .f32⟩
  | .hbm, ⟨4, _⟩ => ⟨S16x2048x512, .bf16⟩
  | .local _ .vmem, ⟨0, _⟩ => ⟨S1x128x2048, .f32⟩
  | .local _ .vmem, ⟨1, _⟩ => ⟨S1x128x2048, .f32⟩
  | .local _ .vmem, ⟨2, _⟩ => ⟨S1x2048x128, .bf16⟩
  | .local _ .vmem, ⟨3, _⟩ => ⟨S1x2048x128, .bf16⟩
  | .local _ .vmem, ⟨4, _⟩ => ⟨S1x128x2048, .bf16⟩
  | .local _ .vmem, ⟨5, _⟩ => ⟨S1x128x2048, .bf16⟩
  | .local _ .vmem, ⟨6, _⟩ => ⟨S1x8x128, .f32⟩
  | .local _ .vmem, ⟨7, _⟩ => ⟨S1x8x128, .f32⟩
  | .local _ .vmem, ⟨8, _⟩ => ⟨S1x2048x128, .bf16⟩
  | .local _ .vmem, ⟨9, _⟩ => ⟨S1x2048x128, .bf16⟩
  | _, _ => ⟨S16x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel5Ideal.lean ====
variable {F : FTy → Type} [FloatOps F] [Named F]
def κ : String → Option EReal := fun
  | "mask" => some ⊥
  | "scale" => some (((1 / 8) * (Real.log 2)⁻¹ : ℝ) : EReal)
  | _ => none
-- ==== Reference5Ideal.lean ====
abbrev S16x512x2048 : Shape := ⟨3, ![16, 512, 2048]⟩
abbrev S16x2048x512 : Shape := ⟨3, ![16, 2048, 512]⟩
abbrev S16x8x512 : Shape := ⟨3, ![16, 8, 512]⟩
abbrev S16x8x64x2048 : Shape := ⟨4, ![16, 8, 64, 2048]⟩
abbrev S16x8x2048x64 : Shape := ⟨4, ![16, 8, 2048, 64]⟩
abbrev S16x2048x8x64 : Shape := ⟨4, ![16, 2048, 8, 64]⟩
abbrev S16x8x8x64 : Shape := ⟨4, ![16, 8, 8, 64]⟩
abbrev S2048 : Shape := ⟨1, ![2048]⟩
abbrev S_ : Shape := ⟨0, ![]⟩
abbrev S8 : Shape := ⟨1, ![8]⟩
abbrev S1x8 : Shape := ⟨2, ![1, 8]⟩
abbrev S2048x1 : Shape := ⟨2, ![2048, 1]⟩
abbrev S2048x8 : Shape := ⟨2, ![2048, 8]⟩
abbrev S1x1x2048x8 : Shape := ⟨4, ![1, 1, 2048, 8]⟩
abbrev S16x8x2048x8 : Shape := ⟨4, ![16, 8, 2048, 8]⟩
abbrev S16x8x2048x3 : Shape := ⟨4, ![16, 8, 2048, 3]⟩
abbrev S16x8x2048x3x1 : Shape := ⟨5, ![16, 8, 2048, 3, 1]⟩
abbrev S1x1x1x1x8 : Shape := ⟨5, ![1, 1, 1, 1, 8]⟩
abbrev S16x8x2048x3x8 : Shape := ⟨5, ![16, 8, 2048, 3, 8]⟩
abbrev S1x2048 : Shape := ⟨2, ![1, 2048]⟩
abbrev S2048x2048 : Shape := ⟨2, ![2048, 2048]⟩
abbrev S16x8x2048x8x256 : Shape := ⟨5, ![16, 8, 2048, 8, 256]⟩
abbrev S16x8x2048x2048 : Shape := ⟨4, ![16, 8, 2048, 2048]⟩
abbrev S1x1x2048x2048 : Shape := ⟨4, ![1, 1, 2048, 2048]⟩
abbrev S16x8x2048 : Shape := ⟨3, ![16, 8, 2048]⟩
abbrev S16x8x2048x1 : Shape := ⟨4, ![16, 8, 2048, 1]⟩

abbrev nBuf : Space → Nat
  | .hbm => 101
  | .vmem => 0
  | .smem => 0
  | _ => 0

abbrev bufTy : (tb : Table) → Fin (tcTables nBuf tb) → BufTy
  | .hbm, ⟨0, _⟩ => ⟨S16x512x2048, .f32⟩
  | .hbm, ⟨1, _⟩ => ⟨S16x2048x512, .bf16⟩
  | .hbm, ⟨2, _⟩ => ⟨S16x512x2048, .bf16⟩
  | .hbm, ⟨3, _⟩ => ⟨S16x8x512, .f32⟩
  | .hbm, ⟨4, _⟩ => ⟨S16x8x64x2048, .f32⟩
  | .hbm, ⟨5, _⟩ => ⟨S16x8x2048x64, .f32⟩
  | .hbm, ⟨6, _⟩ => ⟨S16x2048x512, .f32⟩
  | .hbm, ⟨7, _⟩ => ⟨S16x2048x8x64, .f32⟩
  | .hbm, ⟨8, _⟩ => ⟨S16x8x2048x64, .f32⟩
  | .hbm, ⟨9, _⟩ => ⟨S16x512x2048, .f32⟩
  | .hbm, ⟨10, _⟩ => ⟨S16x8x64x2048, .f32⟩
  | .hbm, ⟨11, _⟩ => ⟨S16x8x2048x64, .f32⟩
  | .hbm, ⟨12, _⟩ => ⟨S16x8x8x64, .f32⟩
  | .hbm, ⟨13, _⟩ => ⟨S16x8x8x64, .f32⟩
  | .hbm, ⟨14, _⟩ => ⟨S2048, .i32⟩
  | .hbm, ⟨15, _⟩ => ⟨S_, .i32⟩
  | .hbm, ⟨16, _⟩ => ⟨S_, .i32⟩
  | .hbm, ⟨17, _⟩ => ⟨S2048, .i32⟩
  | .hbm, ⟨18, _⟩ => ⟨S2048, .i32⟩
  | .hbm, ⟨19, _⟩ => ⟨S2048, .i32⟩
  | .hbm, ⟨20, _⟩ => ⟨S_, .i32⟩
  | .hbm, ⟨21, _⟩ => ⟨S2048, .i32⟩
  | .hbm, ⟨22, _⟩ => ⟨S2048, .i1⟩
  | .hbm, ⟨23, _⟩ => ⟨S2048, .i32⟩
  | .hbm, ⟨24, _⟩ => ⟨S2048, .i32⟩
  | .hbm, ⟨25, _⟩ => ⟨S_, .i32⟩
  | .hbm, ⟨26, _⟩ => ⟨S2048, .i32⟩
  | .hbm, ⟨27, _⟩ => ⟨S2048, .i1⟩
  | .hbm, ⟨28, _⟩ => ⟨S2048, .i1⟩
  | .hbm, ⟨29, _⟩ => ⟨S_, .i32⟩
  | .hbm, ⟨30, _⟩ => ⟨S2048, .i32⟩
  | .hbm, ⟨31, _⟩ => ⟨S2048, .i32⟩
  | .hbm, ⟨32, _⟩ => ⟨S2048, .i32⟩
  | .hbm, ⟨33, _⟩ => ⟨S8, .i32⟩
  | .hbm, ⟨34, _⟩ => ⟨S1x8, .i32⟩
  | .hbm, ⟨35, _⟩ => ⟨S2048x1, .i32⟩
  | .hbm, ⟨36, _⟩ => ⟨S2048x8, .i32⟩
  | .hbm, ⟨37, _⟩ => ⟨S2048x8, .i32⟩
  | .hbm, ⟨38, _⟩ => ⟨S2048x8, .i1⟩
  | .hbm, ⟨39, _⟩ => ⟨S1x1x2048x8, .i1⟩
  | .hbm, ⟨40, _⟩ => ⟨S16x8x2048x8, .f32⟩
  | .hbm, ⟨41, _⟩ => ⟨S_, .f32⟩
  | .hbm, ⟨42, _⟩ => ⟨S_, .f32⟩
  | .hbm, ⟨43, _⟩ => ⟨S16x8x2048x8, .i1⟩
  | .hbm, ⟨44, _⟩ => ⟨S16x8x2048x8, .f32⟩
  | .hbm, ⟨45, _⟩ => ⟨S16x8x2048x8, .f32⟩
  | .hbm, ⟨46, _⟩ => ⟨S16x8x2048x3, .f32⟩
  | .hbm, ⟨47, _⟩ => ⟨S16x8x2048x3, .i32⟩
  | .hbm, ⟨48, _⟩ => ⟨S16x8x2048x3x1, .i32⟩
  | .hbm, ⟨49, _⟩ => ⟨S8, .i32⟩
  | .hbm, ⟨50, _⟩ => ⟨S1x1x1x1x8, .i32⟩
  | .hbm, ⟨51, _⟩ => ⟨S16x8x2048x3x8, .i32⟩
  | .hbm, ⟨52, _⟩ => ⟨S16x8x2048x3x8, .i32⟩
  | .hbm, ⟨53, _⟩ => ⟨S16x8x2048x3x8, .i1⟩
  | .hbm, ⟨54, _⟩ => ⟨S_, .i1⟩
  | .hbm, ⟨55, _⟩ => ⟨S16x8x2048x8, .i1⟩
  | .hbm, ⟨56, _⟩ => ⟨S1x1x2048x8, .i1⟩
  | .hbm, ⟨57, _⟩ => ⟨S16x8x2048x8, .i1⟩
  | .hbm, ⟨58, _⟩ => ⟨S16x8x2048x8, .i1⟩
  | .hbm, ⟨59, _⟩ => ⟨S2048x1, .i32⟩
  | .hbm, ⟨60, _⟩ => ⟨S1x2048, .i32⟩
  | .hbm, ⟨61, _⟩ => ⟨S2048x2048, .i32⟩
  | .hbm, ⟨62, _⟩ => ⟨S2048x2048, .i32⟩
  | .hbm, ⟨63, _⟩ => ⟨S2048x2048, .i1⟩
  | .hbm, ⟨64, _⟩ => ⟨S16x8x2048x8x256, .i1⟩
  | .hbm, ⟨65, _⟩ => ⟨S16x8x2048x2048, .i1⟩
  | .hbm, ⟨66, _⟩ => ⟨S1x2048, .i32⟩
  | .hbm, ⟨67, _⟩ => ⟨S2048x1, .i32⟩
  | .hbm, ⟨68, _⟩ => ⟨S2048x2048, .i32⟩
  | .hbm, ⟨69, _⟩ => ⟨S2048x2048, .i32⟩
  | .hbm, ⟨70, _⟩ => ⟨S2048x2048, .i1⟩
  | .hbm, ⟨71, _⟩ => ⟨S2048x2048, .i1⟩
  | .hbm, ⟨72, _⟩ => ⟨S1x1x2048x2048, .i1⟩
  | .hbm, ⟨73, _⟩ => ⟨S16x8x2048x2048, .i1⟩
  | .hbm, ⟨74, _⟩ => ⟨S16x8x2048x2048, .i1⟩
  | .hbm, ⟨75, _⟩ => ⟨S16x8x2048x2048, .f32⟩
  | .hbm, ⟨76, _⟩ => ⟨S_, .f32⟩
  | .hbm, ⟨77, _⟩ => ⟨S16x8x2048x2048, .f32⟩
  | .hbm, ⟨78, _⟩ => ⟨S16x8x2048x2048, .f32⟩
  | .hbm, ⟨79, _⟩ => ⟨S_, .f32⟩
  | .hbm, ⟨80, _⟩ => ⟨S_, .f32⟩
  | .hbm, ⟨81, _⟩ => ⟨S16x8x2048x2048, .f32⟩
  | .hbm, ⟨82, _⟩ => ⟨S16x8x2048x2048, .f32⟩
  | .hbm, ⟨83, _⟩ => ⟨S_, .f32⟩
  | .hbm, ⟨84, _⟩ => ⟨S16x8x2048, .f32⟩
  | .hbm, ⟨85, _⟩ => ⟨S_, .f32⟩
  | .hbm, ⟨86, _⟩ => ⟨S16x8x2048, .f32⟩
  | .hbm, ⟨87, _⟩ => ⟨S16x8x2048, .f32⟩
  | .hbm, ⟨88, _⟩ => ⟨S16x8x2048x1, .f32⟩
  | .hbm, ⟨89, _⟩ => ⟨S16x8x2048x2048, .f32⟩
  | .hbm, ⟨90, _⟩ => ⟨S16x8x2048x2048, .f32⟩
  | .hbm, ⟨91, _⟩ => ⟨S16x8x2048x2048, .f32⟩
  | .hbm, ⟨92, _⟩ => ⟨S_, .f32⟩
  | .hbm, ⟨93, _⟩ => ⟨S16x8x2048, .f32⟩
  | .hbm, ⟨94, _⟩ => ⟨S16x8x2048x1, .f32⟩
  | .hbm, ⟨95, _⟩ => ⟨S16x8x2048x2048, .f32⟩
  | .hbm, ⟨96, _⟩ => ⟨S16x8x2048x2048, .f32⟩
  | .hbm, ⟨97, _⟩ => ⟨S16x8x2048x64, .f32⟩
  | .hbm, ⟨98, _⟩ => ⟨S16x2048x8x64, .f32⟩
  | .hbm, ⟨99, _⟩ => ⟨S16x2048x512, .f32⟩
  | .hbm, ⟨100, _⟩ => ⟨S16x2048x512, .bf16⟩
  | _, _ => ⟨S16x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v20 : Ref sig .tc := ⟨.hbm, 45, rfl⟩
abbrev main_values : Ref sig .tc := ⟨.hbm, 46, rfl⟩
abbrev main_indices : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_c_0 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_1 : Ref sig .tc := ⟨.hbm, 76, rfl⟩
abbrev main_v48 : Ref sig .tc := ⟨.hbm, 77, rfl⟩
abbrev main_v49 : Ref sig .tc := ⟨.hbm, 78, rfl⟩
abbrev main_cst_2 : Ref sig .tc := ⟨.hbm, 79, rfl⟩
abbrev main_call2_v0 : Ref sig .tc := ⟨.hbm, 80, rfl⟩
abbrev main_call2_v1 : Ref sig .tc := ⟨.hbm, 81, rfl⟩
abbrev main_v50 : Ref sig .tc := ⟨.hbm, 82, rfl⟩
abbrev main_cst_3 : Ref sig .tc := ⟨.hbm, 83, rfl⟩
abbrev main_v51 : Ref sig .tc := ⟨.hbm, 84, rfl⟩
abbrev main_cst_4 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_5 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩

abbrev nD : Nat := 1
abbrev τ : Topo := Topo.v7x

variable {F : FTy → Type} [FloatOps F]
-- ==== Proof.Layer.Turn.lean ====
module

public import Idealize.ShloMosaic.PureOps.Ideal.Laws

/-! The input projections of a token as functions over the extended reals, and the rotations by position of the retention
    and of the local attention. A column is a natural number, so that a rotation's partner is a sum or a difference. -/

@[expose] public section

noncomputable section

namespace Cert.Layer

/-- Column `j` of a token's projection. -/
def project (x : Fin 1024 → EReal) (w : Fin 1024 → Fin 6656 → EReal) (j : ℕ) : EReal :=
  ∑ k, x k * w k ⟨j % 6656, Nat.mod_lt _ (by decide)⟩

/-- The rotation of a head of 128: column `j` below 64 and column `j + 64` turn together. -/
def turnHead (p : ℕ → EReal) (co si : Fin 64 → EReal) (w : ℕ) : EReal :=
  if w % 128 < 64 then p w * co ⟨w % 64, Nat.mod_lt _ (by decide)⟩ - p (w + 64) * si ⟨w % 64, Nat.mod_lt _ (by decide)⟩
  else p (w - 64) * si ⟨w % 64, Nat.mod_lt _ (by decide)⟩ + p w * co ⟨w % 64, Nat.mod_lt _ (by decide)⟩

/-- The rotation of the first 16 of a head of 64: column `j` below 8 and column `j + 8` turn together, the rest stay. -/
def turnPart (p : ℕ → EReal) (co si : Fin 8 → EReal) (w : ℕ) : EReal :=
  if w % 64 < 8 then p w * co ⟨w % 8, Nat.mod_lt _ (by decide)⟩ - p (w + 8) * si ⟨w % 8, Nat.mod_lt _ (by decide)⟩
  else if w % 64 < 16 then p (w - 8) * si ⟨w % 8, Nat.mod_lt _ (by decide)⟩ + p w * co ⟨w % 8, Nat.mod_lt _ (by decide)⟩
  else p w

/-- A head's rotation, as one multiply by each of two tables of 128 lanes: the sines carry the sign. -/
theorem turnHead_of_tables (p : ℕ → EReal) (co si : Fin 64 → EReal) (w : ℕ) (tc ts : EReal)
    (hc : tc = co ⟨w % 64, Nat.mod_lt _ (by decide)⟩)
    (hs : ts = if w % 128 < 64 then -si ⟨w % 64, Nat.mod_lt _ (by decide)⟩ else si ⟨w % 64, Nat.mod_lt _ (by decide)⟩) :
    p w * tc + p (w / 128 * 128 + (w % 128 + 64) % 128) * ts = turnHead p co si w := by
  unfold turnHead
  rw [hc, hs]
  by_cases h : w % 128 < 64
  · rw [if_pos h, if_pos h, show w / 128 * 128 + (w % 128 + 64) % 128 = w + 64 by omega, mul_neg, sub_eq_add_neg]
  · rw [if_neg h, if_neg h, show w / 128 * 128 + (w % 128 + 64) % 128 = w - 64 by omega, add_comm]

/-- A part's rotation, as one multiply by each of three tables of 128 lanes, with zeros where a partner has no part. -/
theorem turnPart_of_tables (p : ℕ → EReal) (co si : Fin 8 → EReal) (w : ℕ) (tc ta tb : EReal)
    (hc : tc = if w % 64 < 16 then co ⟨w % 8, Nat.mod_lt _ (by decide)⟩ else 1)
    (ha : ta = if w % 64 < 8 then -si ⟨w % 8, Nat.mod_lt _ (by decide)⟩ else 0)
    (hb : tb = if w % 64 < 8 then 0 else if w % 64 < 16 then si ⟨w % 8, Nat.mod_lt _ (by decide)⟩ else 0) :
    p w * tc + p (w / 128 * 128 + (w % 128 + 8) % 128) * ta + p (w / 128 * 128 + (w % 128 + 120) % 128) * tb = turnPart p co si w := by
  unfold turnPart
  rw [hc, ha, hb]
  by_cases h : w % 64 < 8
  · rw [if_pos h, if_pos h, if_pos h, if_pos (by omega), show w / 128 * 128 + (w % 128 + 8) % 128 = w + 8 by omega, mul_neg,
      mul_zero, add_zero, sub_eq_add_neg]
  · by_cases h' : w % 64 < 16
    · rw [if_neg h, if_neg h, if_neg h, if_pos h', if_pos h', if_pos h', show w / 128 * 128 + (w % 128 + 120) % 128 = w - 8 by omega,
        mul_zero, add_zero, add_comm]
    · rw [if_neg h, if_neg h, if_neg h, if_neg h', if_neg h', if_neg h', mul_zero, mul_zero, mul_one, add_zero, add_zero]

end Cert.Layer

end
-- ==== Proof.InProj.Tile.lean ====
module

public import proofs.«01_k».proof.Proof.Gen.Kernel4Ideal.Skeleton
public import proofs.«01_k».proof.Proof.Layer.Turn
public import Idealize.ShloMosaic.Lib.Pipeline.ValueKit
public import Idealize.ShloMosaic.Lib.Pointwise

/-! What the input-projection kernel does to 256 rows: the projections and their rotations, read entry by entry. -/

@[expose] public section

set_option maxRecDepth 16384

noncomputable section

namespace Cert.Kernel4Ideal.Result

open Cert.Kernel4Ideal Cert.Kernel4Ideal.Gen Idealize.ShloMosaic Idealize.ShloMosaic.TcCoe Idealize.SL.Sem
open Idealize.ShloMosaic.Pointwise
open Cert.Layer

/-- The 256 rows of a 512-row array from row `a` on. -/
def rowsT {n : ℕ} {φ : EltTy} (x : Vec Ideal ⟨2, ![512, n]⟩ φ) (a : ℕ) : Vec Ideal ⟨2, ![256, n]⟩ φ := fun i =>
  x (ix2 (⟨(a + (i 0).val) % 512, Nat.mod_lt _ (by decide)⟩ : Fin 512) (i 1 : Fin n))

/-- The `n` columns of the weights from column `o` on. -/
def colsT (n : ℕ) {φ : EltTy} (x : Vec Ideal S1024x6656 φ) (o : ℕ) : Vec Ideal ⟨2, ![1024, n]⟩ φ := fun i =>
  x (ix2 (i 0 : Fin 1024) (⟨(o + (i 1).val) % 6656, Nat.mod_lt _ (by decide)⟩ : Fin 6656))

/-- The 128 columns of a table of 512 from column `o` on. -/
def lanesT {φ : EltTy} (x : Vec Ideal S256x512 φ) (o : ℕ) : Vec Ideal S256x128 φ := fun i =>
  x (ix2 (i 0 : Fin 256) (⟨(o + (i 1).val) % 512, Nat.mod_lt _ (by decide)⟩ : Fin 512))

theorem ld_rows {φ : EltTy} (x : Vec Ideal S512x1024 φ) (a : ℕ) (inb) :
    View.ld (Val := Elt Ideal) (e' := φ) x (Rect.unit ![a, 0] S256x1024.size inb) = rowsT x a := by
  have ha : a + 256 ≤ 512 := inb 0
  funext i
  refine View.ld_unit_apply_of x _ _ inb i _ fun d => ?_
  have h0 : (i 0).val < 256 := (i 0).isLt
  match d with
  | ⟨0, _⟩ => show (a + (i 0).val) % 512 = a + (i 0).val; omega
  | ⟨1, _⟩ => show (i 1).val = 0 + (i 1).val; omega

theorem ld_table {φ : EltTy} (x : Vec Ideal S512x128 φ) (a : ℕ) (inb) :
    View.ld (Val := Elt Ideal) (e' := φ) x (Rect.unit ![a, 0] S256x128.size inb) = rowsT x a := by
  have ha : a + 256 ≤ 512 := inb 0
  funext i
  refine View.ld_unit_apply_of x _ _ inb i _ fun d => ?_
  have h0 : (i 0).val < 256 := (i 0).isLt
  match d with
  | ⟨0, _⟩ => show (a + (i 0).val) % 512 = a + (i 0).val; omega
  | ⟨1, _⟩ => show (i 1).val = 0 + (i 1).val; omega

theorem ld_cols {φ : EltTy} (x : Vec Ideal S1024x6656 φ) (o : ℕ) (inb) :
    View.ld (Val := Elt Ideal) (e' := φ) x (Rect.unit ![0, o] S1024x512.size inb) = colsT 512 x o := by
  have ho : o + 512 ≤ 6656 := inb 1
  funext i
  refine View.ld_unit_apply_of x _ _ inb i _ fun d => ?_
  have h1 : (i 1).val < 512 := (i 1).isLt
  match d with
  | ⟨0, _⟩ => show (i 0).val = 0 + (i 0).val; omega
  | ⟨1, _⟩ => show (o + (i 1).val) % 6656 = o + (i 1).val; omega

theorem ld_wide {φ : EltTy} (x : Vec Ideal S1024x6656 φ) (o : ℕ) (inb) :
    View.ld (Val := Elt Ideal) (e' := φ) x (Rect.unit ![0, o] S1024x1024.size inb) = colsT 1024 x o := by
  have ho : o + 1024 ≤ 6656 := inb 1
  funext i
  refine View.ld_unit_apply_of x _ _ inb i _ fun d => ?_
  have h1 : (i 1).val < 1024 := (i 1).isLt
  match d with
  | ⟨0, _⟩ => show (i 0).val = 0 + (i 0).val; omega
  | ⟨1, _⟩ => show (o + (i 1).val) % 6656 = o + (i 1).val; omega

theorem ld_lanes {φ : EltTy} (x : Vec Ideal S256x512 φ) (o : ℕ) (inb) :
    View.ld (Val := Elt Ideal) (e' := φ) x (Rect.unit ![0, o] S256x128.size inb) = lanesT x o := by
  have ho : o + 128 ≤ 512 := inb 1
  funext i
  refine View.ld_unit_apply_of x _ _ inb i _ fun d => ?_
  have h1 : (i 1).val < 128 := (i 1).isLt
  match d with
  | ⟨0, _⟩ => show (i 0).val = 0 + (i 0).val; omega
  | ⟨1, _⟩ => show (o + (i 1).val) % 512 = o + (i 1).val; omega

/-- A projection of 256 rows to 512 and to 1024 columns, of rows and weights given. -/
def projV (x : Vec Ideal S256x1024 .f32) (w : Vec Ideal S1024x512 .bf16) : FVec Ideal S256x512 .f32 :=
  matmul (φ₁ := .bf16) (φ₂ := .bf16) dot_S256x1024_S1024x512_S256x512_1_0_0_1_n_n none (truncf .bf16 x bitsLt_bf16_f32)
    (shapeCast S1024x512 w shapeCasts_S1024x512_S1024x512) (constant S256x512 .f32 0x00000000#32)
def wideV (x : Vec Ideal S256x1024 .f32) (w : Vec Ideal S1024x1024 .bf16) : FVec Ideal S256x1024 .f32 :=
  matmul (φ₁ := .bf16) (φ₂ := .bf16) dot_S256x1024_S1024x1024_S256x1024_1_0_0_1_n_n none (truncf .bf16 x bitsLt_bf16_f32)
    (shapeCast S1024x1024 w shapeCasts_S1024x1024_S1024x1024) (constant S256x1024 .f32 0x00000000#32)
def projT (x0 : Vec Ideal S512x1024 .f32) (x1 : Vec Ideal S1024x6656 .bf16) (a o : ℕ) : FVec Ideal S256x512 .f32 :=
  projV (rowsT x0 a) (colsT 512 x1 o)
def wideT (x0 : Vec Ideal S512x1024 .f32) (x1 : Vec Ideal S1024x6656 .bf16) (a o : ℕ) : FVec Ideal S256x1024 .f32 :=
  wideV (rowsT x0 a) (colsT 1024 x1 o)

/-- A head's rotation and decay. -/
def headT (x co si d : FVec Ideal S256x128 .f32) : FVec Ideal S256x128 .f32 :=
  mulf (addf (mulf x (shapeCast S256x128 co shapeCasts_S256x128_S256x128))
    (mulf (dynamicRotate 1 64#32 none x rotates_S256x128_d1) (shapeCast S256x128 si shapeCasts_S256x128_S256x128)))
    (shapeCast S256x128 d shapeCasts_S256x128_S256x128)

/-- The four heads' rotations and decays. -/
def headsV (p : FVec Ideal S256x512 .f32) (co si d0 d1 d2 d3 : FVec Ideal S256x128 .f32) : FVec Ideal S256x512 .f32 :=
  concatenate S256x512 1 [⟨S256x128, headT (extractStridedSlice S256x128 ![0, 0] p slices_S256x512_o0_0_S256x128) co si d0⟩,
    ⟨S256x128, headT (extractStridedSlice S256x128 ![0, 128] p slices_S256x512_o0_128_S256x128) co si d1⟩,
    ⟨S256x128, headT (extractStridedSlice S256x128 ![0, 256] p slices_S256x512_o0_256_S256x128) co si d2⟩,
    ⟨S256x128, headT (extractStridedSlice S256x128 ![0, 384] p slices_S256x512_o0_384_S256x128) co si d3⟩]
    concatenates_S256x128_S256x128_S256x128_S256x128_S256x512_d1
def headsT (p : FVec Ideal S256x512 .f32) (co si : FVec Ideal S256x128 .f32) (d : Vec Ideal S256x512 .f32) : FVec Ideal S256x512 .f32 :=
  headsV p co si (lanesT d 0) (lanesT d 128) (lanesT d 256) (lanesT d 384)

/-- The rotation of two heads' first columns. -/
def pairT (x co sa sb : FVec Ideal S256x128 .f32) : FVec Ideal S256x128 .f32 :=
  addf (addf (mulf x (shapeCast S256x128 co shapeCasts_S256x128_S256x128))
      (mulf (dynamicRotate 1 120#32 none x rotates_S256x128_d1) (shapeCast S256x128 sa shapeCasts_S256x128_S256x128)))
    (mulf (dynamicRotate 1 8#32 none x rotates_S256x128_d1) (shapeCast S256x128 sb shapeCasts_S256x128_S256x128))

/-- The eight heads' rotations. -/
def pairsT (p : FVec Ideal S256x512 .f32) (co sa sb : FVec Ideal S256x128 .f32) : FVec Ideal S256x512 .f32 :=
  concatenate S256x512 1 [⟨S256x128, pairT (extractStridedSlice S256x128 ![0, 0] p slices_S256x512_o0_0_S256x128) co sa sb⟩,
    ⟨S256x128, pairT (extractStridedSlice S256x128 ![0, 128] p slices_S256x512_o0_128_S256x128) co sa sb⟩,
    ⟨S256x128, pairT (extractStridedSlice S256x128 ![0, 256] p slices_S256x512_o0_256_S256x128) co sa sb⟩,
    ⟨S256x128, pairT (extractStridedSlice S256x128 ![0, 384] p slices_S256x512_o0_384_S256x128) co sa sb⟩]
    concatenates_S256x128_S256x128_S256x128_S256x128_S256x512_d1

/-- A projection, entry by entry. -/
theorem projT_apply (x0 : Vec Ideal S512x1024 .f32) (x1 : Vec Ideal S1024x6656 .bf16) (a o : ℕ) (i : Fin 256) (w : Fin 512) :
    projT x0 x1 a o (ix2 i w) = project (fun k => x0 (ix2 (⟨(a + i.val) % 512, Nat.mod_lt _ (by decide)⟩ : Fin 512) k))
      (fun k j => x1 (ix2 k j)) (o + w.val) := by
  pointwise [projT, projV]
  rfl
theorem wideT_apply (x0 : Vec Ideal S512x1024 .f32) (x1 : Vec Ideal S1024x6656 .bf16) (a o : ℕ) (i : Fin 256) (w : Fin 1024) :
    wideT x0 x1 a o (ix2 i w) = project (fun k => x0 (ix2 (⟨(a + i.val) % 512, Nat.mod_lt _ (by decide)⟩ : Fin 512) k))
      (fun k j => x1 (ix2 k j)) (o + w.val) := by
  pointwise [wideT, wideV]
  rfl

/-- A rotation of the lanes, entry by entry. -/
theorem rotate_apply (x : FVec Ideal S256x128 .f32) (n : BitVec 32) (h : S256x128.Rotates 1 none) (i : Fin 256) (l : Fin 128) :
    dynamicRotate 1 n none x h (ix2 i l) = x (ix2 i (⟨(l.val + 128 - n.toNat % 128) % 128, Nat.mod_lt _ (by decide)⟩ : Fin 128)) := by
  pointwise

/-- A head's rotation, entry by entry. -/
theorem headT_apply (x co si d : FVec Ideal S256x128 .f32) (i : Fin 256) (l : Fin 128) :
    headT x co si d (ix2 i l) = (x (ix2 i l) * co (ix2 i l)
      + x (ix2 i (⟨(l.val + 128 - 64) % 128, Nat.mod_lt _ (by decide)⟩ : Fin 128)) * si (ix2 i l)) * d (ix2 i l) := by
  pointwise [headT]

theorem pairT_apply (x co sa sb : FVec Ideal S256x128 .f32) (i : Fin 256) (l : Fin 128) :
    pairT x co sa sb (ix2 i l) = x (ix2 i l) * co (ix2 i l)
      + x (ix2 i (⟨(l.val + 128 - 120) % 128, Nat.mod_lt _ (by decide)⟩ : Fin 128)) * sa (ix2 i l)
      + x (ix2 i (⟨(l.val + 128 - 8) % 128, Nat.mod_lt _ (by decide)⟩ : Fin 128)) * sb (ix2 i l) := by
  pointwise [pairT]

/-- The heads' rotations, entry by entry. -/
theorem headsT_apply (p : FVec Ideal S256x512 .f32) (co si : FVec Ideal S256x128 .f32) (d : Vec Ideal S256x512 .f32) (i : Fin 256) (w : Fin 512) :
    headsT p co si d (ix2 i w) = (p (ix2 i w) * co (ix2 i (⟨w.val % 128, Nat.mod_lt _ (by decide)⟩ : Fin 128))
      + p (ix2 i (⟨w.val / 128 * 128 + (w.val % 128 + 64) % 128, by omega⟩ : Fin 512)) * si (ix2 i (⟨w.val % 128, Nat.mod_lt _ (by decide)⟩ : Fin 128)))
        * d (ix2 i w) := by
  pointwise [headsT, headsV]
  split_ifs
  all_goals
    rw [headT_apply]
    pointwise [lanesT]
    refine congrArg₂ (· * ·) (congrArg₂ (· + ·)
      (congrArg₂ (· * ·) (congrArg (fun z => p (ix2 i z)) (Fin.ext ?_)) (congrArg (fun z => co (ix2 i z)) (Fin.ext ?_)))
      (congrArg₂ (· * ·) (congrArg (fun z => p (ix2 i z)) (Fin.ext ?_)) (congrArg (fun z => si (ix2 i z)) (Fin.ext ?_))))
      (congrArg (fun z => d (ix2 i z)) (Fin.ext ?_)) <;> dsimp only <;> omega

theorem pairsT_apply (p : FVec Ideal S256x512 .f32) (co sa sb : FVec Ideal S256x128 .f32) (i : Fin 256) (w : Fin 512) :
    pairsT p co sa sb (ix2 i w) = p (ix2 i w) * co (ix2 i (⟨w.val % 128, Nat.mod_lt _ (by decide)⟩ : Fin 128))
      + p (ix2 i (⟨w.val / 128 * 128 + (w.val % 128 + 8) % 128, by omega⟩ : Fin 512)) * sa (ix2 i (⟨w.val % 128, Nat.mod_lt _ (by decide)⟩ : Fin 128))
      + p (ix2 i (⟨w.val / 128 * 128 + (w.val % 128 + 120) % 128, by omega⟩ : Fin 512)) * sb (ix2 i (⟨w.val % 128, Nat.mod_lt _ (by decide)⟩ : Fin 128)) := by
  pointwise [pairsT]
  split_ifs
  all_goals
    rw [pairT_apply]
    pointwise
    refine congrArg₂ (· + ·) (congrArg₂ (· + ·)
      (congrArg₂ (· * ·) (congrArg (fun z => p (ix2 i z)) (Fin.ext ?_)) (congrArg (fun z => co (ix2 i z)) (Fin.ext ?_)))
      (congrArg₂ (· * ·) (congrArg (fun z => p (ix2 i z)) (Fin.ext ?_)) (congrArg (fun z => sa (ix2 i z)) (Fin.ext ?_))))
      (congrArg₂ (· * ·) (congrArg (fun z => p (ix2 i z)) (Fin.ext ?_)) (congrArg (fun z => sb (ix2 i z)) (Fin.ext ?_))) <;> dsimp only <;> omega

end Cert.Kernel4Ideal.Result

end
-- ==== Proof.InProj.Piece.lean ====
module

public import proofs.«01_k».proof.Proof.Gen.Kernel4Ideal.Value
public import proofs.«01_k».proof.Proof.InProj.Tile

/-! The pieces the input-projection kernel stores in its ten windows: each window is, cell by cell, the piece of the cell's 256 rows. -/

@[expose] public section

set_option maxRecDepth 16384

noncomputable section

namespace Cert.Kernel4Ideal.Result

open Cert.Kernel4Ideal Cert.Kernel4Ideal.Gen Idealize.ShloMosaic Idealize.ShloMosaic.TcCoe Idealize.SL.Sem
open Idealize.ShloMosaic.Pointwise

theorem at_r0_0 (x : Vec Ideal S512x1024 .f32) : View.ld (Val := Elt Ideal) (e' := .f32) x r0_0 = rowsT x 0 := ld_rows x 0 _
theorem at_r0_1 (x : Vec Ideal S512x1024 .f32) : View.ld (Val := Elt Ideal) (e' := .f32) x r0_1 = rowsT x 256 := ld_rows x 256 _
theorem at_r0_4 (x : Vec Ideal S512x128 .f32) : View.ld (Val := Elt Ideal) (e' := .f32) x r0_4 = rowsT x 0 := ld_table x 0 _
theorem at_r0_19 (x : Vec Ideal S512x128 .f32) : View.ld (Val := Elt Ideal) (e' := .f32) x r0_19 = rowsT x 256 := ld_table x 256 _
theorem at_r0_5 (x : Vec Ideal S256x512 .f32) : View.ld (Val := Elt Ideal) (e' := .f32) x r0_5 = lanesT x 0 := ld_lanes x 0 _
theorem at_r0_6 (x : Vec Ideal S256x512 .f32) : View.ld (Val := Elt Ideal) (e' := .f32) x r0_6 = lanesT x 128 := ld_lanes x 128 _
theorem at_r0_7 (x : Vec Ideal S256x512 .f32) : View.ld (Val := Elt Ideal) (e' := .f32) x r0_7 = lanesT x 256 := ld_lanes x 256 _
theorem at_r0_8 (x : Vec Ideal S256x512 .f32) : View.ld (Val := Elt Ideal) (e' := .f32) x r0_8 = lanesT x 384 := ld_lanes x 384 _
theorem at_r0_2 (x : Vec Ideal S1024x6656 .bf16) : View.ld (Val := Elt Ideal) (e' := .bf16) x r0_2 = colsT 512 x 0 := ld_cols x 0 _
theorem at_r0_3 (x : Vec Ideal S1024x6656 .bf16) : View.ld (Val := Elt Ideal) (e' := .bf16) x r0_3 = colsT 512 x 512 := ld_cols x 512 _
theorem at_r0_13 (x : Vec Ideal S1024x6656 .bf16) : View.ld (Val := Elt Ideal) (e' := .bf16) x r0_13 = colsT 512 x 3072 := ld_cols x 3072 _
theorem at_r0_14 (x : Vec Ideal S1024x6656 .bf16) : View.ld (Val := Elt Ideal) (e' := .bf16) x r0_14 = colsT 512 x 3584 := ld_cols x 3584 _
theorem at_r0_15 (x : Vec Ideal S1024x6656 .bf16) : View.ld (Val := Elt Ideal) (e' := .bf16) x r0_15 = colsT 512 x 4096 := ld_cols x 4096 _
theorem at_r0_10 (x : Vec Ideal S1024x6656 .bf16) : View.ld (Val := Elt Ideal) (e' := .bf16) x r0_10 = colsT 1024 x 1024 := ld_wide x 1024 _
theorem at_r0_12 (x : Vec Ideal S1024x6656 .bf16) : View.ld (Val := Elt Ideal) (e' := .bf16) x r0_12 = colsT 1024 x 2048 := ld_wide x 2048 _
theorem at_r0_17 (x : Vec Ideal S1024x6656 .bf16) : View.ld (Val := Elt Ideal) (e' := .bf16) x r0_17 = colsT 1024 x 4608 := ld_wide x 4608 _
theorem at_r0_18 (x : Vec Ideal S1024x6656 .bf16) : View.ld (Val := Elt Ideal) (e' := .bf16) x r0_18 = colsT 1024 x 5632 := ld_wide x 5632 _

/-- The retained queries of the 256 rows from row `a` on. -/
def piece9 (x0 : Vec Ideal S512x1024 .f32) (x1 : Vec Ideal S1024x6656 .bf16) (x2 x3 : Vec Ideal S512x128 .f32) (x4 x5 : Vec Ideal S256x512 .f32) (x6 x7 x8 : Vec Ideal S512x128 .f32) (a : ℕ) : FVec Ideal S256x512 .bf16 :=
  truncf .bf16 (headsT (projT x0 x1 a 0) (rowsT x2 a) (rowsT x3 a) x4) bitsLt_bf16_f32
theorem out_pieces9 (x0 : Vec Ideal S512x1024 .f32) (x1 : Vec Ideal S1024x6656 .bf16) (x2 x3 : Vec Ideal S512x128 .f32) (x4 x5 : Vec Ideal S256x512 .f32) (x6 x7 x8 : Vec Ideal S512x128 .f32) (y) (G : S512x512.Idx → Elt Ideal .bf16)
    (hG : ∀ (r : ℕ) (x : S256x512.Idx), r < 2 → (y 0).val = r * 256 + (x 0).val → (y 1).val = (x 1).val →
      piece9 x0 x1 x2 x3 x4 x5 x6 x7 x8 (r * 256) x = G y) :
    out0_9 x0 x1 x2 x3 x4 x5 x6 x7 x8 y = G y := by
  unfold_out out0_9
  canon_tiles x h
  all_goals
    unfold_payloads
  case piece0 =>
    have g : piece9 x0 x1 x2 x3 x4 x5 x6 x7 x8 256 x = G y := hG 1 x (by decide) (by simpa using h0) (by simpa using h1)
    unfold piece9 projT headsT at g
    rw [← at_r0_1 x0, ← at_r0_2 x1, ← at_r0_19 x2, ← at_r0_19 x3, ← at_r0_5 x4, ← at_r0_6 x4, ← at_r0_7 x4, ← at_r0_8 x4] at g
    unfold projV headsV headT at g
    exact g
  case piece1 =>
    have g : piece9 x0 x1 x2 x3 x4 x5 x6 x7 x8 0 x = G y := hG 0 x (by decide) (by simpa using h0) (by simpa using h1)
    unfold piece9 projT headsT at g
    rw [← at_r0_0 x0, ← at_r0_2 x1, ← at_r0_4 x2, ← at_r0_4 x3, ← at_r0_5 x4, ← at_r0_6 x4, ← at_r0_7 x4, ← at_r0_8 x4] at g
    unfold projV headsV headT at g
    exact g

/-- The retained keys of the 256 rows from row `a` on. -/
def piece10 (x0 : Vec Ideal S512x1024 .f32) (x1 : Vec Ideal S1024x6656 .bf16) (x2 x3 : Vec Ideal S512x128 .f32) (x4 x5 : Vec Ideal S256x512 .f32) (x6 x7 x8 : Vec Ideal S512x128 .f32) (a : ℕ) : FVec Ideal S1x512x256 .bf16 :=
  shapeCast S1x512x256 (truncf .bf16 (transpose S512x256 [1, 0] (headsT (projT x0 x1 a 512) (rowsT x2 a) (rowsT x3 a) x5) transposes_S256x512_p1_0_S512x256) bitsLt_bf16_f32) shapeCasts_S512x256_S1x512x256
theorem out_pieces10 (x0 : Vec Ideal S512x1024 .f32) (x1 : Vec Ideal S1024x6656 .bf16) (x2 x3 : Vec Ideal S512x128 .f32) (x4 x5 : Vec Ideal S256x512 .f32) (x6 x7 x8 : Vec Ideal S512x128 .f32) (y) (G : S1x512x512.Idx → Elt Ideal .bf16)
    (hG : ∀ (r : ℕ) (x : S1x512x256.Idx), r < 2 → (y 0).val = (x 0).val → (y 1).val = (x 1).val → (y 2).val = r * 256 + (x 2).val →
      piece10 x0 x1 x2 x3 x4 x5 x6 x7 x8 (r * 256) x = G y) :
    out0_10 x0 x1 x2 x3 x4 x5 x6 x7 x8 y = G y := by
  unfold_out out0_10
  canon_tiles x h
  all_goals
    unfold_payloads
  case piece0 =>
    have g : piece10 x0 x1 x2 x3 x4 x5 x6 x7 x8 256 x = G y := hG 1 x (by decide) (by simpa using h0) (by simpa using h1) (by simpa using h2)
    unfold piece10 projT headsT at g
    rw [← at_r0_1 x0, ← at_r0_3 x1, ← at_r0_19 x2, ← at_r0_19 x3, ← at_r0_5 x5, ← at_r0_6 x5, ← at_r0_7 x5, ← at_r0_8 x5] at g
    unfold projV headsV headT at g
    exact g
  case piece1 =>
    have g : piece10 x0 x1 x2 x3 x4 x5 x6 x7 x8 0 x = G y := hG 0 x (by decide) (by simpa using h0) (by simpa using h1) (by simpa using h2)
    unfold piece10 projT headsT at g
    rw [← at_r0_0 x0, ← at_r0_3 x1, ← at_r0_4 x2, ← at_r0_4 x3, ← at_r0_5 x5, ← at_r0_6 x5, ← at_r0_7 x5, ← at_r0_8 x5] at g
    unfold projV headsV headT at g
    exact g

/-- The retained values of the 256 rows from row `a` on. -/
def piece11 (x0 : Vec Ideal S512x1024 .f32) (x1 : Vec Ideal S1024x6656 .bf16) (x2 x3 : Vec Ideal S512x128 .f32) (x4 x5 : Vec Ideal S256x512 .f32) (x6 x7 x8 : Vec Ideal S512x128 .f32) (a : ℕ) : FVec Ideal S256x1024 .bf16 :=
  truncf .bf16 (wideT x0 x1 a 1024) bitsLt_bf16_f32
theorem out_pieces11 (x0 : Vec Ideal S512x1024 .f32) (x1 : Vec Ideal S1024x6656 .bf16) (x2 x3 : Vec Ideal S512x128 .f32) (x4 x5 : Vec Ideal S256x512 .f32) (x6 x7 x8 : Vec Ideal S512x128 .f32) (y) (G : S512x1024.Idx → Elt Ideal .bf16)
    (hG : ∀ (r : ℕ) (x : S256x1024.Idx), r < 2 → (y 0).val = r * 256 + (x 0).val → (y 1).val = (x 1).val →
      piece11 x0 x1 x2 x3 x4 x5 x6 x7 x8 (r * 256) x = G y) :
    out0_11 x0 x1 x2 x3 x4 x5 x6 x7 x8 y = G y := by
  unfold_out out0_11
  canon_tiles x h
  all_goals
    unfold_payloads
  case piece0 =>
    have g : piece11 x0 x1 x2 x3 x4 x5 x6 x7 x8 256 x = G y := hG 1 x (by decide) (by simpa using h0) (by simpa using h1)
    unfold piece11 wideT at g
    rw [← at_r0_1 x0, ← at_r0_10 x1] at g
    unfold wideV at g
    exact g
  case piece1 =>
    have g : piece11 x0 x1 x2 x3 x4 x5 x6 x7 x8 0 x = G y := hG 0 x (by decide) (by simpa using h0) (by simpa using h1)
    unfold piece11 wideT at g
    rw [← at_r0_0 x0, ← at_r0_10 x1] at g
    unfold wideV at g
    exact g

/-- The retention gates of the 256 rows from row `a` on. -/
def piece12 (x0 : Vec Ideal S512x1024 .f32) (x1 : Vec Ideal S1024x6656 .bf16) (x2 x3 : Vec Ideal S512x128 .f32) (x4 x5 : Vec Ideal S256x512 .f32) (x6 x7 x8 : Vec Ideal S512x128 .f32) (a : ℕ) : FVec Ideal S256x1024 .bf16 :=
  truncf .bf16 (mulf (wideT x0 x1 a 2048) (logistic (wideT x0 x1 a 2048))) bitsLt_bf16_f32
theorem out_pieces12 (x0 : Vec Ideal S512x1024 .f32) (x1 : Vec Ideal S1024x6656 .bf16) (x2 x3 : Vec Ideal S512x128 .f32) (x4 x5 : Vec Ideal S256x512 .f32) (x6 x7 x8 : Vec Ideal S512x128 .f32) (y) (G : S512x1024.Idx → Elt Ideal .bf16)
    (hG : ∀ (r : ℕ) (x : S256x1024.Idx), r < 2 → (y 0).val = r * 256 + (x 0).val → (y 1).val = (x 1).val →
      piece12 x0 x1 x2 x3 x4 x5 x6 x7 x8 (r * 256) x = G y) :
    out0_12 x0 x1 x2 x3 x4 x5 x6 x7 x8 y = G y := by
  unfold_out out0_12
  canon_tiles x h
  all_goals
    unfold_payloads
  case piece0 =>
    have g : piece12 x0 x1 x2 x3 x4 x5 x6 x7 x8 256 x = G y := hG 1 x (by decide) (by simpa using h0) (by simpa using h1)
    unfold piece12 wideT at g
    rw [← at_r0_1 x0, ← at_r0_12 x1] at g
    unfold wideV at g
    exact g
  case piece1 =>
    have g : piece12 x0 x1 x2 x3 x4 x5 x6 x7 x8 0 x = G y := hG 0 x (by decide) (by simpa using h0) (by simpa using h1)
    unfold piece12 wideT at g
    rw [← at_r0_0 x0, ← at_r0_12 x1] at g
    unfold wideV at g
    exact g

/-- The attention queries of the 256 rows from row `a` on. -/
def piece13 (x0 : Vec Ideal S512x1024 .f32) (x1 : Vec Ideal S1024x6656 .bf16) (x2 x3 : Vec Ideal S512x128 .f32) (x4 x5 : Vec Ideal S256x512 .f32) (x6 x7 x8 : Vec Ideal S512x128 .f32) (a : ℕ) : FVec Ideal S1x512x256 .f32 :=
  shapeCast S1x512x256 (transpose S512x256 [1, 0] (pairsT (projT x0 x1 a 3072) (rowsT x6 a) (rowsT x7 a) (rowsT x8 a)) transposes_S256x512_p1_0_S512x256) shapeCasts_S512x256_S1x512x256
theorem out_pieces13 (x0 : Vec Ideal S512x1024 .f32) (x1 : Vec Ideal S1024x6656 .bf16) (x2 x3 : Vec Ideal S512x128 .f32) (x4 x5 : Vec Ideal S256x512 .f32) (x6 x7 x8 : Vec Ideal S512x128 .f32) (y) (G : S1x512x512.Idx → Elt Ideal .f32)
    (hG : ∀ (r : ℕ) (x : S1x512x256.Idx), r < 2 → (y 0).val = (x 0).val → (y 1).val = (x 1).val → (y 2).val = r * 256 + (x 2).val →
      piece13 x0 x1 x2 x3 x4 x5 x6 x7 x8 (r * 256) x = G y) :
    out0_13 x0 x1 x2 x3 x4 x5 x6 x7 x8 y = G y := by
  unfold_out out0_13
  canon_tiles x h
  all_goals
    unfold_payloads
  case piece0 =>
    have g : piece13 x0 x1 x2 x3 x4 x5 x6 x7 x8 256 x = G y := hG 1 x (by decide) (by simpa using h0) (by simpa using h1) (by simpa using h2)
    unfold piece13 projT at g
    rw [← at_r0_1 x0, ← at_r0_13 x1, ← at_r0_19 x6, ← at_r0_19 x7, ← at_r0_19 x8] at g
    unfold projV pairsT pairT at g
    exact g
  case piece1 =>
    have g : piece13 x0 x1 x2 x3 x4 x5 x6 x7 x8 0 x = G y := hG 0 x (by decide) (by simpa using h0) (by simpa using h1) (by simpa using h2)
    unfold piece13 projT at g
    rw [← at_r0_0 x0, ← at_r0_13 x1, ← at_r0_4 x6, ← at_r0_4 x7, ← at_r0_4 x8] at g
    unfold projV pairsT pairT at g
    exact g

/-- The attention keys of the 256 rows from row `a` on. -/
def piece14 (x0 : Vec Ideal S512x1024 .f32) (x1 : Vec Ideal S1024x6656 .bf16) (x2 x3 : Vec Ideal S512x128 .f32) (x4 x5 : Vec Ideal S256x512 .f32) (x6 x7 x8 : Vec Ideal S512x128 .f32) (a : ℕ) : FVec Ideal S256x512 .bf16 :=
  truncf .bf16 (pairsT (projT x0 x1 a 3584) (rowsT x6 a) (rowsT x7 a) (rowsT x8 a)) bitsLt_bf16_f32
theorem out_pieces14 (x0 : Vec Ideal S512x1024 .f32) (x1 : Vec Ideal S1024x6656 .bf16) (x2 x3 : Vec Ideal S512x128 .f32) (x4 x5 : Vec Ideal S256x512 .f32) (x6 x7 x8 : Vec Ideal S512x128 .f32) (y) (G : S512x512.Idx → Elt Ideal .bf16)
    (hG : ∀ (r : ℕ) (x : S256x512.Idx), r < 2 → (y 0).val = r * 256 + (x 0).val → (y 1).val = (x 1).val →
      piece14 x0 x1 x2 x3 x4 x5 x6 x7 x8 (r * 256) x = G y) :
    out0_14 x0 x1 x2 x3 x4 x5 x6 x7 x8 y = G y := by
  unfold_out out0_14
  canon_tiles x h
  all_goals
    unfold_payloads
  case piece0 =>
    have g : piece14 x0 x1 x2 x3 x4 x5 x6 x7 x8 256 x = G y := hG 1 x (by decide) (by simpa using h0) (by simpa using h1)
    unfold piece14 projT at g
    rw [← at_r0_1 x0, ← at_r0_14 x1, ← at_r0_19 x6, ← at_r0_19 x7, ← at_r0_19 x8] at g
    unfold projV pairsT pairT at g
    exact g
  case piece1 =>
    have g : piece14 x0 x1 x2 x3 x4 x5 x6 x7 x8 0 x = G y := hG 0 x (by decide) (by simpa using h0) (by simpa using h1)
    unfold piece14 projT at g
    rw [← at_r0_0 x0, ← at_r0_14 x1, ← at_r0_4 x6, ← at_r0_4 x7, ← at_r0_4 x8] at g
    unfold projV pairsT pairT at g
    exact g

/-- The attention values of the 256 rows from row `a` on. -/
def piece15 (x0 : Vec Ideal S512x1024 .f32) (x1 : Vec Ideal S1024x6656 .bf16) (x2 x3 : Vec Ideal S512x128 .f32) (x4 x5 : Vec Ideal S256x512 .f32) (x6 x7 x8 : Vec Ideal S512x128 .f32) (a : ℕ) : FVec Ideal S1x512x256 .bf16 :=
  shapeCast S1x512x256 (truncf .bf16 (transpose S512x256 [1, 0] (projT x0 x1 a 4096) transposes_S256x512_p1_0_S512x256) bitsLt_bf16_f32) shapeCasts_S512x256_S1x512x256
theorem out_pieces15 (x0 : Vec Ideal S512x1024 .f32) (x1 : Vec Ideal S1024x6656 .bf16) (x2 x3 : Vec Ideal S512x128 .f32) (x4 x5 : Vec Ideal S256x512 .f32) (x6 x7 x8 : Vec Ideal S512x128 .f32) (y) (G : S1x512x512.Idx → Elt Ideal .bf16)
    (hG : ∀ (r : ℕ) (x : S1x512x256.Idx), r < 2 → (y 0).val = (x 0).val → (y 1).val = (x 1).val → (y 2).val = r * 256 + (x 2).val →
      piece15 x0 x1 x2 x3 x4 x5 x6 x7 x8 (r * 256) x = G y) :
    out0_15 x0 x1 x2 x3 x4 x5 x6 x7 x8 y = G y := by
  unfold_out out0_15
  canon_tiles x h
  all_goals
    unfold_payloads
  case piece0 =>
    have g : piece15 x0 x1 x2 x3 x4 x5 x6 x7 x8 256 x = G y := hG 1 x (by decide) (by simpa using h0) (by simpa using h1) (by simpa using h2)
    unfold piece15 projT at g
    rw [← at_r0_1 x0, ← at_r0_15 x1] at g
    unfold projV at g
    exact g
  case piece1 =>
    have g : piece15 x0 x1 x2 x3 x4 x5 x6 x7 x8 0 x = G y := hG 0 x (by decide) (by simpa using h0) (by simpa using h1) (by simpa using h2)
    unfold piece15 projT at g
    rw [← at_r0_0 x0, ← at_r0_15 x1] at g
    unfold projV at g
    exact g

/-- The gates of the first branch of the 256 rows from row `a` on. -/
def piece16 (x0 : Vec Ideal S512x1024 .f32) (x1 : Vec Ideal S1024x6656 .bf16) (x2 x3 : Vec Ideal S512x128 .f32) (x4 x5 : Vec Ideal S256x512 .f32) (x6 x7 x8 : Vec Ideal S512x128 .f32) (a : ℕ) : FVec Ideal S256x1024 .bf16 :=
  truncf .bf16 (logistic (wideT x0 x1 a 4608)) bitsLt_bf16_f32
theorem out_pieces16 (x0 : Vec Ideal S512x1024 .f32) (x1 : Vec Ideal S1024x6656 .bf16) (x2 x3 : Vec Ideal S512x128 .f32) (x4 x5 : Vec Ideal S256x512 .f32) (x6 x7 x8 : Vec Ideal S512x128 .f32) (y) (G : S512x1024.Idx → Elt Ideal .bf16)
    (hG : ∀ (r : ℕ) (x : S256x1024.Idx), r < 2 → (y 0).val = r * 256 + (x 0).val → (y 1).val = (x 1).val →
      piece16 x0 x1 x2 x3 x4 x5 x6 x7 x8 (r * 256) x = G y) :
    out0_16 x0 x1 x2 x3 x4 x5 x6 x7 x8 y = G y := by
  unfold_out out0_16
  canon_tiles x h
  all_goals
    unfold_payloads
  case piece0 =>
    have g : piece16 x0 x1 x2 x3 x4 x5 x6 x7 x8 256 x = G y := hG 1 x (by decide) (by simpa using h0) (by simpa using h1)
    unfold piece16 wideT at g
    rw [← at_r0_1 x0, ← at_r0_17 x1] at g
    unfold wideV at g
    exact g
  case piece1 =>
    have g : piece16 x0 x1 x2 x3 x4 x5 x6 x7 x8 0 x = G y := hG 0 x (by decide) (by simpa using h0) (by simpa using h1)
    unfold piece16 wideT at g
    rw [← at_r0_0 x0, ← at_r0_17 x1] at g
    unfold wideV at g
    exact g

/-- The gates of the second branch of the 256 rows from row `a` on. -/
def piece17 (x0 : Vec Ideal S512x1024 .f32) (x1 : Vec Ideal S1024x6656 .bf16) (x2 x3 : Vec Ideal S512x128 .f32) (x4 x5 : Vec Ideal S256x512 .f32) (x6 x7 x8 : Vec Ideal S512x128 .f32) (a : ℕ) : FVec Ideal S256x1024 .bf16 :=
  truncf .bf16 (logistic (wideT x0 x1 a 5632)) bitsLt_bf16_f32
theorem out_pieces17 (x0 : Vec Ideal S512x1024 .f32) (x1 : Vec Ideal S1024x6656 .bf16) (x2 x3 : Vec Ideal S512x128 .f32) (x4 x5 : Vec Ideal S256x512 .f32) (x6 x7 x8 : Vec Ideal S512x128 .f32) (y) (G : S512x1024.Idx → Elt Ideal .bf16)
    (hG : ∀ (r : ℕ) (x : S256x1024.Idx), r < 2 → (y 0).val = r * 256 + (x 0).val → (y 1).val = (x 1).val →
      piece17 x0 x1 x2 x3 x4 x5 x6 x7 x8 (r * 256) x = G y) :
    out0_17 x0 x1 x2 x3 x4 x5 x6 x7 x8 y = G y := by
  unfold_out out0_17
  canon_tiles x h
  all_goals
    unfold_payloads
  case piece0 =>
    have g : piece17 x0 x1 x2 x3 x4 x5 x6 x7 x8 256 x = G y := hG 1 x (by decide) (by simpa using h0) (by simpa using h1)
    unfold piece17 wideT at g
    rw [← at_r0_1 x0, ← at_r0_18 x1] at g
    unfold wideV at g
    exact g
  case piece1 =>
    have g : piece17 x0 x1 x2 x3 x4 x5 x6 x7 x8 0 x = G y := hG 0 x (by decide) (by simpa using h0) (by simpa using h1)
    unfold piece17 wideT at g
    rw [← at_r0_0 x0, ← at_r0_18 x1] at g
    unfold wideV at g
    exact g

/-- The key means of the 256 rows from row `a` on. -/
def piece18 (x0 : Vec Ideal S512x1024 .f32) (x1 : Vec Ideal S1024x6656 .bf16) (x2 x3 : Vec Ideal S512x128 .f32) (x4 x5 : Vec Ideal S256x512 .f32) (x6 x7 x8 : Vec Ideal S512x128 .f32) (a : ℕ) : FVec Ideal S1x1x512 .f32 :=
  shapeCast S1x1x512 (divf (shapeCast S1x512 (multiReduction .add [0] S512 (pairsT (projT x0 x1 a 3584) (rowsT x6 a) (rowsT x7 a) (rowsT x8 a)) 0x00000000#32 reduces_S256x512_S512 (.inl rfl) rfl) shapeCasts_S512_S1x512) (broadcast S1x512 (Scalar.ofBits .f32 0x43800000#32))) shapeCasts_S1x512_S1x1x512
theorem out_pieces18 (x0 : Vec Ideal S512x1024 .f32) (x1 : Vec Ideal S1024x6656 .bf16) (x2 x3 : Vec Ideal S512x128 .f32) (x4 x5 : Vec Ideal S256x512 .f32) (x6 x7 x8 : Vec Ideal S512x128 .f32) (y) (G : S2x1x512.Idx → Elt Ideal .f32)
    (hG : ∀ (r : ℕ) (x : S1x1x512.Idx), r < 2 → (y 0).val = r + (x 0).val → (y 1).val = (x 1).val → (y 2).val = (x 2).val →
      piece18 x0 x1 x2 x3 x4 x5 x6 x7 x8 (r * 256) x = G y) :
    out0_18 x0 x1 x2 x3 x4 x5 x6 x7 x8 y = G y := by
  unfold_out out0_18
  canon_tiles x h
  all_goals
    unfold_payloads
  case piece0 =>
    have g : piece18 x0 x1 x2 x3 x4 x5 x6 x7 x8 256 x = G y := hG 1 x (by decide) (by simpa using h0) (by simpa using h1) (by simpa using h2)
    unfold piece18 projT at g
    rw [← at_r0_1 x0, ← at_r0_14 x1, ← at_r0_19 x6, ← at_r0_19 x7, ← at_r0_19 x8] at g
    unfold projV pairsT pairT at g
    exact g
  case piece1 =>
    have g : piece18 x0 x1 x2 x3 x4 x5 x6 x7 x8 0 x = G y := hG 0 x (by decide) (by simpa using h0) (by simpa using h1) (by simpa using h2)
    unfold piece18 projT at g
    rw [← at_r0_0 x0, ← at_r0_14 x1, ← at_r0_4 x6, ← at_r0_4 x7, ← at_r0_4 x8] at g
    unfold projV pairsT pairT at g
    exact g

end Cert.Kernel4Ideal.Result

end
-- ==== Proof.Retention.Tile.lean ====
module

public import proofs.«01_k».proof.Proof.Gen.KernelIdeal.Value
public import Idealize.ShloMosaic.Lib.Pipeline.ValueKit
public import Idealize.ShloMosaic.Lib.Pipeline.ReadBack
public import Idealize.ShloMosaic.Lib.Pointwise

/-! The kernel's retention of one (batch, head) tile by tile: the state's step and a chunk's output as array
    operations, and the statement that each piece the kernel stores is one of them. -/

@[expose] public section

set_option maxRecDepth 16384

noncomputable section

namespace Cert.KernelIdeal.Tile

open Cert.KernelIdeal Cert.KernelIdeal.Gen Idealize.ShloMosaic Idealize.ShloMosaic.TcCoe Idealize.SL.Sem
open Idealize.ShloMosaic.Pipeline (Dat)

/-- The 128 × 128 block of the queries at row `a`, column `b`. -/
def qAt (x : Vec Ideal S1x2048x512 .bf16) (a b : ℕ) : Vec Ideal S1x128x128 .bf16 := fun i =>
  x (fun d => match d with
    | ⟨0, _⟩ => (0 : Fin 1)
    | ⟨1, _⟩ => (⟨(a + (i 1).val) % 2048, Nat.mod_lt _ (by decide)⟩ : Fin 2048)
    | ⟨2, _⟩ => (⟨(b + (i 2).val) % 512, Nat.mod_lt _ (by decide)⟩ : Fin 512))

/-- The 128 × 128 block of the transposed keys at row `a`, column `b`. -/
def kAt (x : Vec Ideal S1x512x2048 .bf16) (a b : ℕ) : Vec Ideal S1x128x128 .bf16 := fun i =>
  x (fun d => match d with
    | ⟨0, _⟩ => (0 : Fin 1)
    | ⟨1, _⟩ => (⟨(a + (i 1).val) % 512, Nat.mod_lt _ (by decide)⟩ : Fin 512)
    | ⟨2, _⟩ => (⟨(b + (i 2).val) % 2048, Nat.mod_lt _ (by decide)⟩ : Fin 2048))

/-- The 128 × 256 block of the values (or of the gate) at row `a`, column `b`. -/
def vAt (x : Vec Ideal S1x2048x1024 .bf16) (a b : ℕ) : Vec Ideal S1x128x256 .bf16 := fun i =>
  x (fun d => match d with
    | ⟨0, _⟩ => (0 : Fin 1)
    | ⟨1, _⟩ => (⟨(a + (i 1).val) % 2048, Nat.mod_lt _ (by decide)⟩ : Fin 2048)
    | ⟨2, _⟩ => (⟨(b + (i 2).val) % 1024, Nat.mod_lt _ (by decide)⟩ : Fin 1024))

theorem ld_q (x : Vec Ideal S1x2048x512 .bf16) (a b : ℕ) (inb) :
    View.ld (Val := Elt Ideal) (e' := .bf16) x (Rect.unit ![0, a, b] ![1, 128, 128] inb) = qAt x a b := by
  have ha : a + 128 ≤ 2048 := inb 1
  have hb : b + 128 ≤ 512 := inb 2
  funext i
  refine View.ld_unit_apply_of x _ _ inb i _ fun d => ?_
  have h0 : (i 0).val < 1 := (i 0).isLt
  have h1 : (i 1).val < 128 := (i 1).isLt
  have h2 : (i 2).val < 128 := (i 2).isLt
  match d with
  | ⟨0, _⟩ => show 0 = 0 + (i 0).val; omega
  | ⟨1, _⟩ => show (a + (i 1).val) % 2048 = a + (i 1).val; omega
  | ⟨2, _⟩ => show (b + (i 2).val) % 512 = b + (i 2).val; omega

theorem ld_k (x : Vec Ideal S1x512x2048 .bf16) (a b : ℕ) (inb) :
    View.ld (Val := Elt Ideal) (e' := .bf16) x (Rect.unit ![0, a, b] ![1, 128, 128] inb) = kAt x a b := by
  have ha : a + 128 ≤ 512 := inb 1
  have hb : b + 128 ≤ 2048 := inb 2
  funext i
  refine View.ld_unit_apply_of x _ _ inb i _ fun d => ?_
  have h0 : (i 0).val < 1 := (i 0).isLt
  have h1 : (i 1).val < 128 := (i 1).isLt
  have h2 : (i 2).val < 128 := (i 2).isLt
  match d with
  | ⟨0, _⟩ => show 0 = 0 + (i 0).val; omega
  | ⟨1, _⟩ => show (a + (i 1).val) % 512 = a + (i 1).val; omega
  | ⟨2, _⟩ => show (b + (i 2).val) % 2048 = b + (i 2).val; omega

theorem ld_v (x : Vec Ideal S1x2048x1024 .bf16) (a b : ℕ) (inb) :
    View.ld (Val := Elt Ideal) (e' := .bf16) x (Rect.unit ![0, a, b] ![1, 128, 256] inb) = vAt x a b := by
  have ha : a + 128 ≤ 2048 := inb 1
  have hb : b + 256 ≤ 1024 := inb 2
  funext i
  refine View.ld_unit_apply_of x _ _ inb i _ fun d => ?_
  have h0 : (i 0).val < 1 := (i 0).isLt
  have h1 : (i 1).val < 128 := (i 1).isLt
  have h2 : (i 2).val < 256 := (i 2).isLt
  match d with
  | ⟨0, _⟩ => show 0 = 0 + (i 0).val; omega
  | ⟨1, _⟩ => show (a + (i 1).val) % 2048 = a + (i 1).val; omega
  | ⟨2, _⟩ => show (b + (i 2).val) % 1024 = b + (i 2).val; omega

/-- A head's decay over a chunk, as the kernel's constant. -/
def decayT : Fin 4 → Ideal .f32
  | 0 => Named.named κ "chunk_decay_0" 0x3C8CC36A#32
  | 1 => Named.named κ "chunk_decay_1" 0x3E08698E#32
  | 2 => Named.named κ "chunk_decay_2" 0x3EBB9DB9#32
  | 3 => Named.named κ "chunk_decay_3" 0x3F1B1EB1#32

/-- The state before chunk `n` of head `h`. -/
def stateT (h : Fin 4) (x1 : Vec Ideal S1x512x2048 .bf16) (x2 : Vec Ideal S1x2048x1024 .bf16) : ℕ → FVec Ideal S128x256 .f32
  | 0 => broadcast S128x256 (Scalar.ofBits .f32 0x00000000#32)
  | n + 1 => mulf (broadcast S128x256 (decayT h)) (addf (stateT h x1 x2 n)
      (matmul (φ₁ := .bf16) (φ₂ := .bf16) dot_S128x128_S128x256_S128x256_1_0_0_1_n_n none
        (shapeCast S128x128 (kAt x1 (h.val * 128) (n * 128)) shapeCasts_S1x128x128_S128x128)
        (shapeCast S128x256 (vAt x2 (n * 128) (h.val * 256)) shapeCasts_S1x128x256_S128x256)
        (constant S128x256 .f32 0x00000000#32)))

/-- Two 128 × 128 arrays side by side. -/
def sideT (a b : FVec Ideal S128x128 .bf16) : FVec Ideal S128x256 .bf16 :=
  concatenate S128x256 1 [⟨S128x128, a⟩, ⟨S128x128, b⟩] concatenates_S128x128_S128x128_S128x256_d1

/-- Two 128 × 256 arrays one over the other. -/
def overT (a b : FVec Ideal S128x256 .bf16) : FVec Ideal S256x256 .bf16 :=
  concatenate S256x256 0 [⟨S128x256, a⟩, ⟨S128x256, b⟩] concatenates_S128x256_S128x256_S256x256_d0

theorem side_eq (a b : FVec Ideal S128x128 .bf16) (p) :
    concatenate S128x256 1 [⟨S128x128, a⟩, ⟨S128x128, b⟩] p = sideT a b := rfl

theorem over_eq (a b : FVec Ideal S128x256 .bf16) (p) :
    concatenate S256x256 0 [⟨S128x256, a⟩, ⟨S128x256, b⟩] p = overT a b := rfl

/-- A chunk's output from its queries, transposed keys, values and state, before the group norm. -/
def outT (q : Vec Ideal S1x128x128 .bf16) (kt : Vec Ideal S1x128x128 .bf16) (v : Vec Ideal S1x128x256 .bf16)
    (st : FVec Ideal S128x256 .f32) : FVec Ideal S128x256 .f32 :=
  matmul (φ₁ := .bf16) (φ₂ := .bf16) dot_S128x256_S256x256_S128x256_1_0_0_1_n_n none
    (sideT
      (truncf .bf16 (select
          (cmpi .sle (iota .tc S128x128 32 [1] iota_S128x128_d1_w32) (iota .tc S128x128 32 [0] iota_S128x128_d0_w32))
          (matmul (φ₁ := .bf16) (φ₂ := .bf16) dot_S128x128_S128x128_S128x128_1_0_0_1_n_n none (shapeCast S128x128 q shapeCasts_S1x128x128_S128x128)
            (shapeCast S128x128 kt shapeCasts_S1x128x128_S128x128) (constant S128x128 .f32 0x00000000#32))
          (broadcast S128x128 (Scalar.ofBits .f32 0x00000000#32 : Ideal .f32))) bitsLt_bf16_f32)
      (shapeCast S128x128 q shapeCasts_S1x128x128_S128x128))
    (overT (shapeCast S128x256 v shapeCasts_S1x128x256_S128x256) (truncf .bf16 st bitsLt_bf16_f32))
    (constant S128x256 .f32 0x00000000#32)

/-- A chunk's output, found in the kernel's text. -/
theorem out_eq (q : Vec Ideal S1x128x128 .bf16) (kt : Vec Ideal S1x128x128 .bf16) (v : Vec Ideal S1x128x256 .bf16)
    (st : FVec Ideal S128x256 .f32) (p1 p2 p3 p4 p5 p6 p7 p8) :
    matmul (φ₁ := .bf16) (φ₂ := .bf16) dot_S128x256_S256x256_S128x256_1_0_0_1_n_n none
      (sideT
        (truncf .bf16 (select
            (cmpi .sle (iota .tc S128x128 32 [1] p1) (iota .tc S128x128 32 [0] p2))
            (matmul (φ₁ := .bf16) (φ₂ := .bf16) dot_S128x128_S128x128_S128x128_1_0_0_1_n_n none (shapeCast S128x128 q p3)
              (shapeCast S128x128 kt p4) (constant S128x128 .f32 0x00000000#32))
            (broadcast S128x128 (Scalar.ofBits .f32 0x00000000#32 : Ideal .f32))) p5)
        (shapeCast S128x128 q p6))
      (overT (shapeCast S128x256 v p7) (truncf .bf16 st p8))
      (constant S128x256 .f32 0x00000000#32) = outT q kt v st := rfl

/-- The mean of each row. -/
def meanT (o : FVec Ideal S128x256 .f32) : FVec Ideal S128x1 .f32 :=
  divf (shapeCast S128x1 (multiReduction .add [1] S128 o 0x00000000#32 reduces_S128x256_S128 (.inl rfl) rfl) shapeCasts_S128_S128x1)
    (broadcast S128x1 (Scalar.ofBits .f32 0x43800000#32))

/-- Each row less its mean. -/
def centreT (o : FVec Ideal S128x256 .f32) : FVec Ideal S128x256 .f32 :=
  subf o (broadcastTo S128x256 (meanT o) broadcasts_S128x1_S128x256)

/-- The group norm of a chunk's output, gated, as stored. -/
def pieceT (o : FVec Ideal S128x256 .f32) (g : Vec Ideal S1x128x256 .bf16) : FVec Ideal S1x128x256 .bf16 :=
  shapeCast S1x128x256 (truncf .bf16
    (mulf (mulf (centreT o)
        (broadcastTo S128x256 (rsqrt (addf (meanT (mulf (centreT o) (centreT o)))
          (broadcast S128x1 (Scalar.ofBits .f32 0x3727C5AC#32)))) broadcasts_S128x1_S128x256))
      (extf .f32 (shapeCast S128x256 g shapeCasts_S1x128x256_S128x256) bitsLt_bf16_f32)) bitsLt_bf16_f32)
    shapeCasts_S128x256_S1x128x256

/-- The piece the kernel stores for chunk `n` of head `h`. -/
def tileT (x0 : Vec Ideal S1x2048x512 .bf16) (x1 : Vec Ideal S1x512x2048 .bf16) (x2 x3 : Vec Ideal S1x2048x1024 .bf16)
    (n : ℕ) (h : Fin 4) : FVec Ideal S1x128x256 .bf16 :=
  pieceT (outT (qAt x0 (n * 128) (h.val * 128)) (kAt x1 (h.val * 128) (n * 128)) (vAt x2 (n * 128) (h.val * 256))
    (stateT h x1 x2 n)) (vAt x3 (n * 128) (h.val * 256))

/-- The state before the first chunk. -/
def zeroT : FVec Ideal S128x256 .f32 := broadcast S128x256 (Scalar.ofBits .f32 0x00000000#32)

/-- The scratch buffer of zeros, read for a head, is the state before the first chunk. -/
theorem state_zero {o : ℕ} (p inb q) :
    shapeCast S128x256 (View.ld (Val := Elt Ideal) (e' := .f32)
      (shapeCast S4x128x256 (broadcast S4x128x256 (Scalar.ofBits .f32 0x00000000#32 : Ideal .f32)) p)
      (Rect.unit ![o, 0, 0] ![1, 128, 256] inb)) q = zeroT := rfl

/-- The state's first step, found in the kernel's text. -/
theorem state_one (h : Fin 4) (x1 : Vec Ideal S1x512x2048 .bf16) (x2 : Vec Ideal S1x2048x1024 .bf16) (b b' : ℕ)
    (hb : b = h.val * 128) (hb' : b' = h.val * 256) (p q) :
    mulf (broadcast S128x256 (decayT h)) (addf zeroT
      (matmul (φ₁ := .bf16) (φ₂ := .bf16) dot_S128x128_S128x256_S128x256_1_0_0_1_n_n none
        (shapeCast S128x128 (kAt x1 b 0) p) (shapeCast S128x256 (vAt x2 0 b') q)
        (constant S128x256 .f32 0x00000000#32))) = stateT h x1 x2 1 := by
  subst hb hb'; rfl

/-- The state's step, found in the kernel's text. -/
theorem state_step (h : Fin 4) (x1 : Vec Ideal S1x512x2048 .bf16) (x2 : Vec Ideal S1x2048x1024 .bf16) (n a b b' : ℕ)
    (ha : a = n * 128) (hb : b = h.val * 128) (hb' : b' = h.val * 256) (p q) :
    mulf (broadcast S128x256 (decayT h)) (addf (stateT h x1 x2 n)
      (matmul (φ₁ := .bf16) (φ₂ := .bf16) dot_S128x128_S128x256_S128x256_1_0_0_1_n_n none
        (shapeCast S128x128 (kAt x1 b a) p) (shapeCast S128x256 (vAt x2 a b') q)
        (constant S128x256 .f32 0x00000000#32))) = stateT h x1 x2 (n + 1) := by
  subst ha hb hb'; rfl

/-- The decay constants by their names. -/
theorem decayT_0 : (Named.named κ "chunk_decay_0" 0x3C8CC36A#32 : Ideal .f32) = decayT 0 := rfl
theorem decayT_1 : (Named.named κ "chunk_decay_1" 0x3E08698E#32 : Ideal .f32) = decayT 1 := rfl
theorem decayT_2 : (Named.named κ "chunk_decay_2" 0x3EBB9DB9#32 : Ideal .f32) = decayT 2 := rfl
theorem decayT_3 : (Named.named κ "chunk_decay_3" 0x3F1B1EB1#32 : Ideal .f32) = decayT 3 := rfl

end Cert.KernelIdeal.Tile

end
-- ==== Proof.Retention.Algebra.lean ====
module

public import Idealize.ShloMosaic.PureOps.Ideal.Laws
public import Mathlib.Analysis.SpecialFunctions.Log.Basic

/-! The retention of one head, as functions of its queries, keys and values over the extended reals: the
    chunked recurrence with decays folded into the operands, the one with decays applied to the scores, and
    their equality. -/

@[expose] public section

noncomputable section

namespace Cert.Retention

open Idealize.ShloMosaic

/-- A nonnegative real factor distributes over a finite sum of extended reals. -/
theorem coe_mul_sum {ι : Type*} (s : Finset ι) (a : ℝ) (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi,
      EReal.left_distrib_of_nonneg_of_ne_top (by exact_mod_cast ha) (EReal.coe_ne_top a), ih]

/-- The state before chunk `n` when the decay multiplies the state and the new chunk together. -/
def scanFolded (g : EReal) (kt : ℕ → Fin 128 → Fin 128 → EReal) (v : ℕ → Fin 128 → Fin 256 → EReal) :
    ℕ → Fin 128 → Fin 256 → EReal
  | 0, _, _ => 0
  | n + 1, d, e => g * (scanFolded g kt v n d e + ∑ j, kt n d j * v n j e)

/-- The state before chunk `n` when the keys of each chunk carry their own decay to its end. -/
def scanPlain (g : EReal) (kd : ℕ → Fin 128 → Fin 128 → EReal) (v : ℕ → Fin 128 → Fin 256 → EReal) :
    ℕ → Fin 128 → Fin 256 → EReal
  | 0, _, _ => 0
  | n + 1, d, e => g * scanPlain g kd v n d e + ∑ j, kd n j d * v n j e

/-- One row of a chunk's output: the masked scores against the values, plus the query against the state. -/
def rowFolded (i : Fin 128) (qt : Fin 128 → EReal) (kt : Fin 128 → Fin 128 → EReal) (v : Fin 128 → Fin 256 → EReal)
    (st : Fin 128 → Fin 256 → EReal) (e : Fin 256) : EReal :=
  (∑ j, (if j ≤ i then ∑ d, qt d * kt d j else 0) * v j e) + ∑ d, qt d * st d e

/-- One row of a chunk's output, the decays on the scores. -/
def rowPlain (dec : Fin 128 → EReal) (q : Fin 128 → EReal) (k : Fin 128 → Fin 128 → EReal)
    (qd : Fin 128 → EReal) (v : Fin 128 → Fin 256 → EReal) (st : Fin 128 → Fin 256 → EReal) (e : Fin 256) : EReal :=
  (∑ j, ((∑ d, q d * k j d) * dec j) * v j e) + ∑ d, qd d * st d e

/-- A row centred and scaled to unit variance over its 256 entries. -/
def normRow (o : Fin 256 → EReal) (c eps : EReal) (e : Fin 256) : EReal :=
  (o e - Ideal.div (∑ x, o x) c)
    * Ideal.rsqrt (Ideal.div (∑ x, (o x - Ideal.div (∑ x, o x) c) * (o x - Ideal.div (∑ x, o x) c)) c + eps)

section Equal

variable (L : ℝ) (s : EReal) (k : ℕ → Fin 128 → Fin 128 → EReal) (v : ℕ → Fin 128 → Fin 256 → EReal)

/-- The two recurrences give one state. -/
theorem scan_eq (n : ℕ) (d : Fin 128) (e : Fin 256) :
    scanFolded ((Real.exp (L * 128) : ℝ) : EReal)
      (fun n d j => k n j d * (((Real.exp (-L * ((j : ℝ) + 1)) : ℝ) : EReal) * s)) v n d e
    = scanPlain ((Real.exp (L * 128) : ℝ) : EReal)
      (fun n j d => (k n j d * s) * ((Real.exp (L * (127 - (j : ℝ))) : ℝ) : EReal)) v n d e := by
  induction n with
  | zero => rfl
  | succ n ih =>
    simp only [scanFolded, scanPlain]
    rw [EReal.left_distrib_of_nonneg_of_ne_top (by exact_mod_cast (Real.exp_pos _).le) (EReal.coe_ne_top _), ih,
      coe_mul_sum _ _ (Real.exp_pos _).le]
    congr 1
    refine Finset.sum_congr rfl fun j _ => ?_
    have h : ((Real.exp (L * 128) : ℝ) : EReal) * ((Real.exp (-L * ((j : ℝ) + 1)) : ℝ) : EReal)
        = ((Real.exp (L * (127 - (j : ℝ))) : ℝ) : EReal) := by
      rw [← EReal.coe_mul, ← Real.exp_add]; congr 2; ring
    rw [← h]; ac_rfl

/-- Scores of decayed operands are decayed scores. -/
theorem score_eq (q : Fin 128 → EReal) (i j : Fin 128) (kj : Fin 128 → EReal) :
    (∑ d, (q d * ((Real.exp (L * ((i : ℝ) + 1)) : ℝ) : EReal)) * (kj d * (((Real.exp (-L * ((j : ℝ) + 1)) : ℝ) : EReal) * s)))
    = (∑ d, q d * (kj d * s)) * ((Real.exp (L * ((i : ℝ) - (j : ℝ))) : ℝ) : EReal) := by
  rw [mul_comm (∑ d, q d * (kj d * s)), coe_mul_sum _ _ (Real.exp_pos _).le]
  refine Finset.sum_congr rfl fun d _ => ?_
  have h : ((Real.exp (L * ((i : ℝ) + 1)) : ℝ) : EReal) * ((Real.exp (-L * ((j : ℝ) + 1)) : ℝ) : EReal)
      = ((Real.exp (L * ((i : ℝ) - (j : ℝ))) : ℝ) : EReal) := by
    rw [← EReal.coe_mul, ← Real.exp_add]; congr 2; ring
  rw [← h]; ac_rfl

/-- The two forms give one output row. -/
theorem row_eq (q : Fin 128 → EReal) (i : Fin 128) (n : ℕ) (e : Fin 256) :
    rowFolded i (fun d => q d * ((Real.exp (L * ((i : ℝ) + 1)) : ℝ) : EReal))
      (fun d j => k n j d * (((Real.exp (-L * ((j : ℝ) + 1)) : ℝ) : EReal) * s)) (v n)
      (scanFolded ((Real.exp (L * 128) : ℝ) : EReal)
        (fun n d j => k n j d * (((Real.exp (-L * ((j : ℝ) + 1)) : ℝ) : EReal) * s)) v n) e
    = rowPlain (fun j => if j ≤ i then ((Real.exp (L * ((i : ℝ) - (j : ℝ))) : ℝ) : EReal) else 0)
      q (fun j d => k n j d * s) (fun d => q d * ((Real.exp (L * ((i : ℝ) + 1)) : ℝ) : EReal)) (v n)
      (scanPlain ((Real.exp (L * 128) : ℝ) : EReal)
        (fun n j d => (k n j d * s) * ((Real.exp (L * (127 - (j : ℝ))) : ℝ) : EReal)) v n) e := by
  unfold rowFolded rowPlain
  congr 1
  · refine Finset.sum_congr rfl fun j _ => ?_
    beta_reduce
    congr 1
    by_cases hij : j ≤ i
    · rw [if_pos hij, if_pos hij]
      exact score_eq L s q i j (k n j)
    · rw [if_neg hij, if_neg hij, mul_zero]
  · refine Finset.sum_congr rfl fun d _ => ?_
    rw [scan_eq]

end Equal

/-- The logarithm of head `h`'s decay. -/
def lgR (h : Fin 4) : ℝ := Real.log (1 - (1 / 2 : ℝ) ^ (5 + h.val))

/-! ## The layer's retention, from its arrays -/

/-- Row `j` of chunk `n`, column `d` of head `h` of a 512-wide array. -/
def headK (a : Fin 16 → Fin 2048 → Fin 512 → EReal) (b : Fin 16) (h : Fin 4) (n : ℕ) (j d : Fin 128) : EReal :=
  a b ⟨(n * 128 + j.val) % 2048, Nat.mod_lt _ (by decide)⟩ ⟨h.val * 128 + d.val, by omega⟩

/-- Row `j` of chunk `n`, column `e` of head `h` of a 1024-wide array. -/
def headV (a : Fin 16 → Fin 2048 → Fin 1024 → EReal) (b : Fin 16) (h : Fin 4) (n : ℕ) (j : Fin 128) (e : Fin 256) : EReal :=
  a b ⟨(n * 128 + j.val) % 2048, Nat.mod_lt _ (by decide)⟩ ⟨h.val * 256 + e.val, by omega⟩

/-- One entry of the retention with decay logarithm `L` and score scale `s`, before the norm. -/
def retained (L : ℝ) (s : EReal) (q k : Fin 16 → Fin 2048 → Fin 512 → EReal) (v : Fin 16 → Fin 2048 → Fin 1024 → EReal)
    (b : Fin 16) (h : Fin 4) (n : ℕ) (i : Fin 128) (e : Fin 256) : EReal :=
  rowPlain (fun j => if j ≤ i then ((Real.exp (L * ((i : ℝ) - (j : ℝ))) : ℝ) : EReal) else 0)
    (headK q b h n i) (fun j d => headK k b h n j d * s)
    (fun d => headK q b h n i d * ((Real.exp (L * ((i : ℝ) + 1)) : ℝ) : EReal)) (headV v b h n)
    (scanPlain ((Real.exp (L * 128) : ℝ) : EReal)
      (fun n j d => (headK k b h n j d * s) * ((Real.exp (L * (127 - (j : ℝ))) : ℝ) : EReal)) (headV v b h) n) e

/-- The retention normed over each head's 256 columns and gated, at batch `b`, row `s`, column `w`. -/
def normed (sc c eps : EReal) (q k : Fin 16 → Fin 2048 → Fin 512 → EReal) (v g : Fin 16 → Fin 2048 → Fin 1024 → EReal)
    (b : Fin 16) (s : Fin 2048) (w : Fin 1024) : EReal :=
  normRow (fun e => retained (lgR ⟨w.val / 256, by omega⟩) sc q k v b ⟨w.val / 256, by omega⟩ (s.val / 128)
      ⟨s.val % 128, Nat.mod_lt _ (by decide)⟩ e) c eps ⟨w.val % 256, Nat.mod_lt _ (by decide)⟩
    * g b s w

end Cert.Retention

end
-- ==== Proof.Retention.Const.lean ====
module

public import proofs.«01_k».proof.Proof.Retention.Tile
public import proofs.«01_k».proof.Proof.Retention.Algebra

/-! The numbers of the retention at the reals: the decays' logarithms, the positions, and the kernel's named
    decay over a chunk. -/

@[expose] public section

noncomputable section

namespace Cert.Retention

open Idealize.ShloMosaic

/-- A head's decay is positive. -/
theorem decay_pos (h : Fin 4) : 0 < 1 - (1 / 2 : ℝ) ^ (5 + h.val) := by
  fin_cases h <;> norm_num

/-- A small number's bits, read as a signed integer and made a float, are the number. -/
theorem sitofp_small (n : ℕ) (hn : n < 2 ^ 31) :
    (FloatOps.sitofp .f32 (BitVec.ofNat 32 n) : Ideal .f32) = ((n : ℝ) : EReal) := by
  show (((BitVec.ofNat 32 n).toInt : ℝ) : EReal) = _
  have : (BitVec.ofNat 32 n).toInt = (n : ℤ) := by
    rw [BitVec.toInt_eq_toNat_of_lt] <;> simp [BitVec.toNat_ofNat] <;> omega
  rw [this]; simp

theorem lit_two : Ideal.ofBits .f32 0x40000000#32 = ((2 : ℝ) : EReal) := by
  simp [Ideal.ofBits, Ideal.ieee, -EReal.coe_mul]; norm_num
theorem lit_neg_five : Ideal.ofBits .f32 0xC0A00000#32 = ((-5 : ℝ) : EReal) := by
  simp [Ideal.ofBits, Ideal.ieee, -EReal.coe_mul]; norm_num
theorem lit_127 : Ideal.ofBits .f32 0x42FE0000#32 = ((127 : ℝ) : EReal) := by
  simp [Ideal.ofBits, Ideal.ieee, -EReal.coe_mul]; norm_num
theorem lit_128 : Ideal.ofBits .f32 0x43000000#32 = ((128 : ℝ) : EReal) := by
  simp [Ideal.ofBits, Ideal.ieee, -EReal.coe_mul]; norm_num

/-- The logarithm of the decay, as both programs compute it. -/
theorem log_decay (h : Fin 4) :
    Ideal.log (1 - Ideal.pow (Ideal.ofBits .f32 0x40000000#32)
      (Ideal.ofBits .f32 0xC0A00000#32 - (FloatOps.sitofp .f32 (BitVec.ofNat 32 h.val) : Ideal .f32))) = ((lgR h : ℝ) : EReal) := by
  have hp := decay_pos h
  have e : Real.rpow 2 (-5 - (h.val : ℝ)) = (1 / 2 : ℝ) ^ (5 + h.val) := by
    show (2 : ℝ) ^ (-5 - (h.val : ℝ)) = _
    rw [show (-5 - (h.val : ℝ)) = -((5 + h.val : ℕ) : ℝ) by push_cast; ring, Real.rpow_neg (by norm_num), Real.rpow_natCast,
      one_div, inv_pow]
  rw [sitofp_small _ (by omega), lit_two, lit_neg_five, ← EReal.coe_sub]
  show Ideal.log (1 - ((Real.rpow 2 (-5 - (h.val : ℝ)) : ℝ) : EReal)) = _
  rw [e, ← EReal.coe_one, ← EReal.coe_sub]
  show (if _ ≤ (0 : ℝ) then _ else _) = _
  rw [if_neg (not_le.mpr hp)]
  rfl

/-- The exponential of a real. -/
theorem exp_coe (r : ℝ) : Ideal.exp ((r : ℝ) : EReal) = ((Real.exp r : ℝ) : EReal) := rfl

/-- The decay over a chunk is the decay's 128th power. -/
theorem exp_chunk (h : Fin 4) : Real.exp (lgR h * 128) = (1 - (1 / 2 : ℝ) ^ (5 + h.val)) ^ 128 := by
  rw [mul_comm, lgR, show (128 : ℝ) = ((128 : ℕ) : ℝ) by norm_num, Real.exp_nat_mul, Real.exp_log (decay_pos h)]

end Cert.Retention

namespace Cert.KernelIdeal.Tile

open Cert.KernelIdeal Cert.KernelIdeal.Gen Idealize.ShloMosaic Idealize.ShloMosaic.TcCoe
open Cert.Retention

/-- The kernel's named decays are the decays over a chunk. -/
theorem decayT_real (h : Fin 4) : decayT h = ((Real.exp (lgR h * 128) : ℝ) : EReal) := by
  rw [exp_chunk]
  fin_cases h
  · exact (IdealRules.named_const.ideal_named_scalar _ _ _ _ rfl).trans (by congr 1; norm_num)
  · exact (IdealRules.named_const.ideal_named_scalar _ _ _ _ rfl).trans (by congr 1; norm_num)
  · exact (IdealRules.named_const.ideal_named_scalar _ _ _ _ rfl).trans (by congr 1; norm_num)
  · exact (IdealRules.named_const.ideal_named_scalar _ _ _ _ rfl).trans (by congr 1; norm_num)

end Cert.KernelIdeal.Tile

end
-- ==== Proof.Retention.Host.lean ====
module

public import proofs.«01_k».proof.Proof.Retention.Const
public import Idealize.ShloMosaic.Lib.Pointwise

/-! What the host gives the retention kernel: the queries and the transposed keys, each times its decay table. -/

@[expose] public section

set_option maxRecDepth 16384

noncomputable section

namespace Cert.KernelIdeal.Host

open Cert.KernelIdeal Cert.KernelIdeal.Gen Idealize.ShloMosaic Idealize.ShloMosaic.TcCoe Idealize.SL.Sem
open Idealize.ShloMosaic.Pointwise
open Cert.Retention

/-- The logarithm of each head's decay. -/
def logT : FVec Ideal S4 .f32 :=
  Host.log (subf (broadcastInDim S4 ![] bcast_S_S4 (constant S_ .f32 0x3F800000#32))
    (Host.powf (broadcastInDim S4 ![] bcast_S_S4 (constant S_ .f32 0x40000000#32))
      (subf (broadcastInDim S4 ![] bcast_S_S4 (constant S_ .f32 0xC0A00000#32)) (sitofp .f32 (iotaInDim S4 32 0)))))

/-- The divisor 128, as the host's remainder makes it safe. -/
def divisorT : IVec S_ 32 :=
  select (cmpi .eq (constantI S_ 32 128#32) (constantI S_ 32 0#32)) (constantI S_ 32 1#32) (constantI S_ 32 128#32)

/-- The position within a chunk, as the host computes it. -/
def posT : IVec S256 32 :=
  let r : IVec S256 32 := Host.remsi (iotaInDim S256 32 0) (broadcastInDim S256 ![] bcast_S_S256 divisorT)
  select (andi (cmpi .ne (cmpi .slt r (broadcastInDim S256 ![] bcast_S_S256 (constantI S_ 32 0#32)))
      (broadcastInDim S256 ![] bcast_S_S256 (cmpi .slt divisorT (constantI S_ 32 0#32))))
    (cmpi .ne r (broadcastInDim S256 ![] bcast_S_S256 (constantI S_ 32 0#32))))
    (addi r (broadcastInDim S256 ![] bcast_S_S256 divisorT)) r

/-- The position plus one, a float. -/
def stepT : FVec Ideal S256 .f32 :=
  addf (sitofp .f32 posT) (broadcastInDim S256 ![] bcast_S_S256 (constant S_ .f32 0x3F800000#32))

/-- The queries' decay table. -/
def qdecT : FVec Ideal S256x512 .f32 :=
  shapeCast S256x512 (broadcastInDim S256x4x128 ![0, 1] bcast_S256x4_S256x4x128_0_1 (Host.exp (mulf
    (broadcastInDim S256x4 ![0, 1] bcast_S1x4_S256x4_0_1 (broadcastInDim S1x4 ![1] bcast_S4_S1x4_1 logT))
    (broadcastInDim S256x4 ![0, 1] bcast_S256x1_S256x4_0_1 (broadcastInDim S256x1 ![0] bcast_S256_S256x1_0 stepT)))))
    shapeCasts_S256x4x128_S256x512

/-- The keys' decay table, with the scores' scale. -/
def kdecT : FVec Ideal S256x512 .f32 :=
  shapeCast S256x512 (broadcastInDim S256x4x128 ![0, 1] bcast_S256x4_S256x4x128_0_1 (mulf (Host.exp (mulf
    (broadcastInDim S256x4 ![0, 1] bcast_S1x4_S256x4_0_1 (Host.negf (broadcastInDim S1x4 ![1] bcast_S4_S1x4_1 logT)))
    (broadcastInDim S256x4 ![0, 1] bcast_S256x1_S256x4_0_1 (broadcastInDim S256x1 ![0] bcast_S256_S256x1_0 stepT))))
    (broadcastInDim S256x4 ![] bcast_S_S256x4 (constant S_ .f32 0x3DB504F3#32))))
    shapeCasts_S256x4x128_S256x512

/-- A table times every 256 rows of an array. -/
def timesT (a : FVec Ideal S16x2048x512 .f32) (tab : FVec Ideal S256x512 .f32) : FVec Ideal S16x2048x512 .f32 :=
  shapeCast S16x2048x512 (mulf (shapeCast S16x8x256x512 a shapeCasts_S16x2048x512_S16x8x256x512)
    (broadcastInDim S16x8x256x512 ![0, 1, 2, 3] bcast_S1x1x256x512_S16x8x256x512_0_1_2_3
      (broadcastInDim S1x1x256x512 ![2, 3] bcast_S256x512_S1x1x256x512_2_3 tab)))
    shapeCasts_S16x8x256x512_S16x2048x512

variable (m : (ℓ : Loc nD τ sig) → Buf (Elt Ideal) ℓ)

/-- The queries the kernel is given. -/
theorem V_queries (c : Dev nD) :
    V m c main_v37 = truncf (F := Ideal) .bf16 (timesT (m ((c : Thread nD τ).loc main_arg0)) qdecT) bitsLt_bf16_f32 := by
  unfold_abbrev_sides
  simp only [List.flatten_cons, List.flatten_nil, List.append_nil, List.cons_append, List.nil_append]
  after_results_simp
  rfl

/-- The transposed keys the kernel is given. -/
theorem V_keys (c : Dev nD) :
    V m c main_v44 = truncf (F := Ideal) .bf16 (transpose S16x512x2048 [0, 2, 1] (timesT (m ((c : Thread nD τ).loc main_arg1)) kdecT)
      transposes_S16x2048x512_S16x512x2048_0_2_1) bitsLt_bf16_f32 := by
  unfold_abbrev_sides
  simp only [List.flatten_cons, List.flatten_nil, List.append_nil, List.cons_append, List.nil_append]
  after_results_simp
  rfl

/-- The position within a chunk is the row's remainder by 128. -/
theorem posT_apply : ∀ r : Fin 256, posT (ix1 r) = BitVec.ofNat 32 (r.val % 128) := by
  decide +kernel

/-- The logarithms of the decays. -/
theorem logT_apply (h : Fin 4) : logT (ix1 h) = ((lgR h : ℝ) : EReal) := by
  refine Eq.trans ?_ (log_decay h)
  pointwise [logT]

/-- The position plus one. -/
theorem stepT_apply (r : Fin 256) : stepT (ix1 r) = (((r.val % 128 : ℕ) : ℝ) + 1 : ℝ) := by
  unfold stepT
  pointwise
  rw [posT_apply, sitofp_small _ (by omega)]
  push_cast
  rfl

/-- The queries' table. -/
theorem qdecT_apply (r : Fin 256) (w : Fin 512) :
    qdecT (ix2 r w) = ((Real.exp (lgR ⟨w.val / 128, by omega⟩ * (((r.val % 128 : ℕ) : ℝ) + 1)) : ℝ) : EReal) := by
  unfold qdecT
  pointwise
  rw [logT_apply, stepT_apply, ← EReal.coe_mul, exp_coe]

/-- The keys' table. -/
theorem kdecT_apply (r : Fin 256) (w : Fin 512) :
    kdecT (ix2 r w) = ((Real.exp (-lgR ⟨w.val / 128, by omega⟩ * (((r.val % 128 : ℕ) : ℝ) + 1)) : ℝ) : EReal)
      * Ideal.ofBits .f32 0x3DB504F3#32 := by
  unfold kdecT
  pointwise
  rw [logT_apply, stepT_apply, ← EReal.coe_neg, ← EReal.coe_mul, exp_coe]

/-- A table's row repeats every 256 rows. -/
theorem timesT_apply (a : FVec Ideal S16x2048x512 .f32) (tab : FVec Ideal S256x512 .f32) (b : Fin 16) (s : Fin 2048) (w : Fin 512) :
    timesT a tab (ix3 b s w) = a (ix3 b s w) * tab (ix2 ⟨s.val % 256, Nat.mod_lt _ (by decide)⟩ w) := by
  unfold timesT
  pointwise

/-- An argument of the launch as a function of its three coordinates. -/
def argQ (c : Dev nD) : Fin 16 → Fin 2048 → Fin 512 → EReal := fun b s w => m ((c : Thread nD τ).loc main_arg0) (ix3 b s w)
def argK (c : Dev nD) : Fin 16 → Fin 2048 → Fin 512 → EReal := fun b s w => m ((c : Thread nD τ).loc main_arg1) (ix3 b s w)
def argV (c : Dev nD) : Fin 16 → Fin 2048 → Fin 1024 → EReal := fun b s w => m ((c : Thread nD τ).loc main_arg2) (ix3 b s w)
def argG (c : Dev nD) : Fin 16 → Fin 2048 → Fin 1024 → EReal := fun b s w => m ((c : Thread nD τ).loc main_arg3) (ix3 b s w)

/-- The kernel's queries at an index. -/
theorem queries_apply (c : Dev nD) (b : Fin 16) (s : Fin 2048) (w : Fin 512) :
    V m c main_v37 (ix3 b s w)
      = argQ m c b s w * ((Real.exp (lgR ⟨w.val / 128, by omega⟩ * (((s.val % 128 : ℕ) : ℝ) + 1)) : ℝ) : EReal) := by
  rw [V_queries]
  refine (timesT_apply _ _ b s w).trans ?_
  rw [qdecT_apply]
  have e2 : s.val % 256 % 128 = s.val % 128 := by omega
  simp only [e2]
  rfl

/-- The kernel's transposed keys at an index. -/
theorem keys_apply (c : Dev nD) (b : Fin 16) (s : Fin 2048) (w : Fin 512) :
    V m c main_v44 (ix3 b w s)
      = argK m c b s w * (((Real.exp (-lgR ⟨w.val / 128, by omega⟩ * (((s.val % 128 : ℕ) : ℝ) + 1)) : ℝ) : EReal)
        * Ideal.ofBits .f32 0x3DB504F3#32) := by
  rw [V_keys]
  have e0 : transpose S16x512x2048 [0, 2, 1] (timesT (m ((c : Thread nD τ).loc main_arg1)) kdecT) transposes_S16x2048x512_S16x512x2048_0_2_1
      (ix3 b w s) = timesT (m ((c : Thread nD τ).loc main_arg1)) kdecT (ix3 b s w) := by
    pointwise
  refine e0.trans ((timesT_apply _ _ b s w).trans ?_)
  rw [kdecT_apply]
  have e2 : s.val % 256 % 128 = s.val % 128 := by omega
  simp only [e2]
  rfl

end Cert.KernelIdeal.Host

end
-- ==== Proof.InProj.Host.lean ====
module

public import proofs.«01_k».proof.Proof.Gen.Kernel4Ideal.Value
public import proofs.«01_k».proof.Proof.Retention.Host
public import Idealize.ShloMosaic.Lib.Pointwise

/-! What the host gives the input-projection kernel: the weights in the multiply's format, the rotations' tables by
    position and the decay tables. -/

@[expose] public section

set_option maxRecDepth 16384

noncomputable section

namespace Cert.Kernel4Ideal.Result

open Cert.Kernel4Ideal Cert.Kernel4Ideal.Gen Idealize.ShloMosaic Idealize.ShloMosaic.TcCoe Idealize.SL.Sem
open Idealize.ShloMosaic.Pointwise

/-- The 63 steps before one, and one, evenly spaced from zero. -/
def stepsT : FVec Ideal S63 .f32 :=
  Host.divf (sitofp .f32 (iotaInDim S63 32 0)) (broadcastInDim S63 ![] bcast_S_S63 (constant S_ .f32 0x427C0000#32))
def evenT : FVec Ideal S64 .f32 :=
  concatenate S64 0 [⟨S63, addf
      (mulf (broadcastInDim S63 ![0] bcast_S1_S63_0 (shapeCast S1 (constant S_ .f32 0x00000000#32) shapeCasts_S_S1))
        (subf (broadcastInDim S63 ![] bcast_S_S63 (constant S_ .f32 0x3F800000#32)) stepsT))
      (mulf (broadcastInDim S63 ![0] bcast_S1_S63_0 (shapeCast S1 (constant S_ .f32 0x3F800000#32) shapeCasts_S_S1)) stepsT)⟩,
    ⟨S1, broadcastInDim S1 ![] bcast_S_S1 (constant S_ .f32 0x3F800000#32)⟩] concatenates_S63_S1_S64_d0

/-- The retention's 64 frequencies and its angles by position. -/
def freqT : FVec Ideal S64 .f32 :=
  Host.divf (broadcastInDim S64 ![] bcast_S_S64 (constant S_ .f32 0x3F800000#32))
    (Host.powf (broadcastInDim S64 ![] bcast_S_S64 (constant S_ .f32 0x461C4000#32)) evenT)
def angleT : FVec Ideal S2048x64 .f32 :=
  mulf (broadcastInDim S2048x64 ![0, 1] bcast_S2048x1_S2048x64_0_1
      (broadcastInDim S2048x1 ![0] bcast_S2048_S2048x1_0 (sitofp .f32 (iotaInDim S2048 32 0))))
    (broadcastInDim S2048x64 ![0, 1] bcast_S1x64_S2048x64_0_1 (broadcastInDim S1x64 ![1] bcast_S64_S1x64_1 freqT))
def cosT : FVec Ideal S2048x64 .f32 := Host.cos angleT
def sinT : FVec Ideal S2048x64 .f32 := Host.sin angleT

/-- The attention's 8 frequencies and its angles by position. -/
def freq8T : FVec Ideal S8 .f32 :=
  Host.divf (broadcastInDim S8 ![] bcast_S_S8 (constant S_ .f32 0x3F800000#32))
    (Host.powf (broadcastInDim S8 ![] bcast_S_S8 (constant S_ .f32 0x48F42400#32))
      (Host.divf (addf (broadcastInDim S8 ![] bcast_S_S8 (constant S_ .f32 0x00000000#32))
          (mulf (broadcastInDim S8 ![] bcast_S_S8 (constant S_ .f32 0x40000000#32)) (sitofp .f32 (iotaInDim S8 32 0))))
        (broadcastInDim S8 ![] bcast_S_S8 (constant S_ .f32 0x41800000#32))))
def angle8T : FVec Ideal S2048x8 .f32 :=
  mulf (broadcastInDim S2048x8 ![0, 1] bcast_S2048x1_S2048x8_0_1
      (broadcastInDim S2048x1 ![0] bcast_S2048_S2048x1_0 (sitofp .f32 (iotaInDim S2048 32 0))))
    (broadcastInDim S2048x8 ![0, 1] bcast_S1x8_S2048x8_0_1 (broadcastInDim S1x8 ![1] bcast_S8_S1x8_1 freq8T))
def cos8T : FVec Ideal S2048x8 .f32 := Host.cos angle8T
def sin8T : FVec Ideal S2048x8 .f32 := Host.sin angle8T

/-- A table of 64 lanes, twice side by side. -/
def twiceT (x : FVec Ideal S2048x64 .f32) : FVec Ideal S2048x128 .f32 :=
  shapeCast S2048x128 (broadcastInDim S1x2048x2x64 ![0, 1, 2, 3] bcast_S1x2048x1x64_S1x2048x2x64_0_1_2_3
    (shapeCast S1x2048x1x64 x shapeCasts_S2048x64_S1x2048x1x64)) shapeCasts_S1x2048x2x64_S2048x128

/-- Three tables of 8, 8 and 48 lanes, side by side. -/
def besideT (a b : FVec Ideal S2048x8 .f32) (d : FVec Ideal S2048x48 .f32) : FVec Ideal S2048x64 .f32 :=
  concatenate S2048x64 1 [⟨S2048x8, a⟩, ⟨S2048x8, b⟩, ⟨S2048x48, d⟩] concatenates_S2048x8_S2048x8_S2048x48_S2048x64_d1

/-- The constants the attention's tables are filled up with. -/
def ones48 : FVec Ideal S2048x48 .f32 := broadcastInDim S2048x48 ![] bcast_S_S2048x48 (constant S_ .f32 0x3F800000#32)
def zeros48 : FVec Ideal S2048x48 .f32 := broadcastInDim S2048x48 ![] bcast_S_S2048x48 (constant S_ .f32 0x00000000#32)
def zeros8 : FVec Ideal S2048x8 .f32 := broadcastInDim S2048x8 ![] bcast_S_S2048x8 (constant S_ .f32 0x00000000#32)

variable (m : (ℓ : Loc nD τ sig) → Buf (Elt Ideal) ℓ)

/-- The launch's arguments as functions of their coordinates. -/
def argH (c : Dev nD) (s : Fin 32768) (k : Fin 1024) : EReal := m ((c : Thread nD τ).loc main_arg0) (ix2 s k)
def argW (c : Dev nD) (k : Fin 1024) (w : Fin 6656) : EReal := m ((c : Thread nD τ).loc main_arg1) (ix2 k w)

/-- What the kernel is given. -/
theorem V_w (c : Dev nD) (k : Fin 1024) (w : Fin 6656) : V m c main_v83 (ix2 k w) = argW m c k w := by
  have h : V m c main_v83 = truncf (F := Ideal) .bf16 (m ((c : Thread nD τ).loc main_arg1)) bitsLt_bf16_f32 := by
    unfold_abbrev_sides
    try simp only [List.flatten_cons, List.flatten_nil, List.append_nil, List.cons_append, List.nil_append]
    after_results_simp
    try rfl
  rw [h]
  rfl
theorem V_cos (c : Dev nD) : V m c main_v14 = concatenate S2048x128 1 [⟨S2048x64, cosT⟩, ⟨S2048x64, cosT⟩] concatenates_S2048x64_S2048x64_S2048x128_d1 := by
  unfold_abbrev_sides
  try simp only [List.flatten_cons, List.flatten_nil, List.append_nil, List.cons_append, List.nil_append]
  after_results_simp
  try rfl
theorem V_sin (c : Dev nD) : V m c main_v16 = concatenate S2048x128 1 [⟨S2048x64, Host.negf sinT⟩, ⟨S2048x64, sinT⟩] concatenates_S2048x64_S2048x64_S2048x128_d1 := by
  unfold_abbrev_sides
  try simp only [List.flatten_cons, List.flatten_nil, List.append_nil, List.cons_append, List.nil_append]
  after_results_simp
  try rfl
theorem V_qdec (c : Dev nD) : V m c main_v46 = Cert.KernelIdeal.Host.qdecT := by
  unfold_abbrev_sides
  try simp only [List.flatten_cons, List.flatten_nil, List.append_nil, List.cons_append, List.nil_append]
  after_results_simp
  try rfl
theorem V_kdec (c : Dev nD) : V m c main_v48 = Cert.KernelIdeal.Host.kdecT := by
  unfold_abbrev_sides
  try simp only [List.flatten_cons, List.flatten_nil, List.append_nil, List.cons_append, List.nil_append]
  after_results_simp
  try rfl
theorem V_cos8 (c : Dev nD) : V m c main_v73 = twiceT (besideT cos8T cos8T ones48) := by
  unfold_abbrev_sides
  try simp only [List.flatten_cons, List.flatten_nil, List.append_nil, List.cons_append, List.nil_append]
  after_results_simp
  try rfl
theorem V_sin8 (c : Dev nD) : V m c main_v78 = twiceT (besideT (Host.negf sin8T) zeros8 zeros48) := by
  unfold_abbrev_sides
  try simp only [List.flatten_cons, List.flatten_nil, List.append_nil, List.cons_append, List.nil_append]
  after_results_simp
  try rfl
theorem V_nis8 (c : Dev nD) : V m c main_v82 = twiceT (besideT zeros8 sin8T zeros48) := by
  unfold_abbrev_sides
  try simp only [List.flatten_cons, List.flatten_nil, List.append_nil, List.cons_append, List.nil_append]
  after_results_simp
  try rfl

theorem one_word : Ideal.ofBits .f32 0x3F800000#32 = 1 := by
  simp [Ideal.ofBits, Ideal.ieee, -EReal.coe_mul]
  norm_num
theorem zero_word : Ideal.ofBits .f32 0x00000000#32 = 0 := by
  simp [Ideal.ofBits, Ideal.ieee]

/-- The retention's tables at a position and a lane. -/
theorem cos_apply (c : Dev nD) (s : Fin 2048) (l : Fin 128) :
    V m c main_v14 (ix2 s l) = cosT (ix2 s (⟨l.val % 64, Nat.mod_lt _ (by decide)⟩ : Fin 64)) := by
  rw [V_cos]
  pointwise
  split_ifs <;> exact congrArg (fun z => cosT (ix2 s z)) (Fin.ext (by dsimp only; omega))
theorem sin_apply (c : Dev nD) (s : Fin 2048) (l : Fin 128) :
    V m c main_v16 (ix2 s l) = if l.val < 64 then -sinT (ix2 s (⟨l.val % 64, Nat.mod_lt _ (by decide)⟩ : Fin 64))
      else sinT (ix2 s (⟨l.val % 64, Nat.mod_lt _ (by decide)⟩ : Fin 64)) := by
  rw [V_sin]
  pointwise
  split_ifs <;> first
    | exact congrArg (fun z => -sinT (ix2 s z)) (Fin.ext (by dsimp only; omega))
    | exact congrArg (fun z => sinT (ix2 s z)) (Fin.ext (by dsimp only; omega))

/-- A doubled table at a position and a lane. -/
theorem twiceT_apply (x : FVec Ideal S2048x64 .f32) (s : Fin 2048) (l : Fin 128) :
    twiceT x (ix2 s l) = x (ix2 s (⟨l.val % 64, Nat.mod_lt _ (by decide)⟩ : Fin 64)) := by
  pointwise [twiceT]
theorem besideT_apply (a b : FVec Ideal S2048x8 .f32) (d : FVec Ideal S2048x48 .f32) (s : Fin 2048) (l : Fin 64) :
    besideT a b d (ix2 s l) = if l.val < 8 then a (ix2 s (⟨l.val % 8, Nat.mod_lt _ (by decide)⟩ : Fin 8))
      else if l.val < 16 then b (ix2 s (⟨l.val % 8, Nat.mod_lt _ (by decide)⟩ : Fin 8))
      else d (ix2 s (⟨(l.val - 16) % 48, Nat.mod_lt _ (by decide)⟩ : Fin 48)) := by
  pointwise [besideT]
  by_cases h : l.val < 8
  · rw [dif_pos h, if_pos h]
    exact congrArg (fun z => a (ix2 s z)) (Fin.ext (by dsimp only; omega))
  · rw [dif_neg h, if_neg h]
    by_cases h' : l.val - 8 < 8
    · rw [dif_pos h']
      refine Eq.trans ?_ (if_pos (by omega)).symm
      exact congrArg (fun z => b (ix2 s z)) (Fin.ext (by dsimp only; omega))
    · rw [dif_neg h']
      refine Eq.trans ?_ (if_neg (by omega)).symm
      exact congrArg (fun z => d (ix2 s z)) (Fin.ext (by dsimp only; omega))

/-- The attention's tables at a position and a lane. -/
theorem cos8_apply (c : Dev nD) (s : Fin 2048) (l : Fin 128) :
    V m c main_v73 (ix2 s l) = if l.val % 64 < 16 then cos8T (ix2 s (⟨l.val % 8, Nat.mod_lt _ (by decide)⟩ : Fin 8)) else 1 := by
  rw [V_cos8]
  refine (twiceT_apply _ s l).trans ((besideT_apply _ _ _ s _).trans ?_)
  have e : l.val % 64 % 8 = l.val % 8 := by omega
  simp only [e]
  split_ifs <;> first
    | rfl
    | exact one_word
    | (exfalso; omega)
theorem sin8_apply (c : Dev nD) (s : Fin 2048) (l : Fin 128) :
    V m c main_v78 (ix2 s l) = if l.val % 64 < 8 then -sin8T (ix2 s (⟨l.val % 8, Nat.mod_lt _ (by decide)⟩ : Fin 8)) else 0 := by
  rw [V_sin8]
  refine (twiceT_apply _ s l).trans ((besideT_apply _ _ _ s _).trans ?_)
  have e : l.val % 64 % 8 = l.val % 8 := by omega
  simp only [e]
  split_ifs <;> first
    | rfl
    | exact zero_word
    | (exfalso; omega)
theorem nis8_apply (c : Dev nD) (s : Fin 2048) (l : Fin 128) :
    V m c main_v82 (ix2 s l) = if l.val % 64 < 8 then 0
      else if l.val % 64 < 16 then sin8T (ix2 s (⟨l.val % 8, Nat.mod_lt _ (by decide)⟩ : Fin 8)) else 0 := by
  rw [V_nis8]
  refine (twiceT_apply _ s l).trans ((besideT_apply _ _ _ s _).trans ?_)
  have e : l.val % 64 % 8 = l.val % 8 := by omega
  simp only [e]
  split_ifs <;> first
    | rfl
    | exact zero_word
    | (exfalso; omega)

end Cert.Kernel4Ideal.Result

end
-- ==== Proof.InProj.Kernel.lean ====
module

public import proofs.«01_k».proof.Proof.InProj.Piece
public import proofs.«01_k».proof.Proof.InProj.Host

/-! What the input-projection kernel leaves in its ten output arrays: a projection of the token's row each, rotated by the
    token's position and decayed by its place in the chunk, or gated, or averaged over a block of 256 tokens. -/

@[expose] public section

set_option maxRecDepth 16384

noncomputable section

namespace Cert.Kernel4Ideal.Result

open Cert.Kernel4Ideal Cert.Kernel4Ideal.Gen Idealize.ShloMosaic Idealize.ShloMosaic.TcCoe Idealize.SL.Sem
open Idealize.ShloMosaic.Pointwise
open Cert.Layer

/-- A projection's rotation for the retention, entry by entry. -/
theorem headsT_proj (x0 : Vec Ideal S512x1024 .f32) (x1 : Vec Ideal S1024x6656 .bf16) (x2 x3 : Vec Ideal S512x128 .f32)
    (d : Vec Ideal S256x512 .f32) (a o : ℕ) (i : Fin 256) (w : Fin 512) (co si : Fin 64 → EReal)
    (hc : x2 (ix2 (⟨(a + i.val) % 512, Nat.mod_lt _ (by decide)⟩ : Fin 512) (⟨w.val % 128, Nat.mod_lt _ (by decide)⟩ : Fin 128))
      = co ⟨w.val % 64, Nat.mod_lt _ (by decide)⟩)
    (hs : x3 (ix2 (⟨(a + i.val) % 512, Nat.mod_lt _ (by decide)⟩ : Fin 512) (⟨w.val % 128, Nat.mod_lt _ (by decide)⟩ : Fin 128))
      = if w.val % 128 < 64 then -si ⟨w.val % 64, Nat.mod_lt _ (by decide)⟩ else si ⟨w.val % 64, Nat.mod_lt _ (by decide)⟩) :
    headsT (projT x0 x1 a o) (rowsT x2 a) (rowsT x3 a) d (ix2 i w)
      = turnHead (fun j => project (fun k => x0 (ix2 (⟨(a + i.val) % 512, Nat.mod_lt _ (by decide)⟩ : Fin 512) k)) (fun k j => x1 (ix2 k j)) (o + j))
        co si w.val * d (ix2 i w) := by
  rw [headsT_apply]
  simp only [projT_apply]
  exact congrArg (· * d (ix2 i w)) (turnHead_of_tables (fun j => project (fun k => x0 (ix2 (⟨(a + i.val) % 512, Nat.mod_lt _ (by decide)⟩ : Fin 512) k))
    (fun k j => x1 (ix2 k j)) (o + j)) co si w.val _ _ hc hs)

/-- A projection's rotation for the attention, entry by entry. -/
theorem pairsT_proj (x0 : Vec Ideal S512x1024 .f32) (x1 : Vec Ideal S1024x6656 .bf16) (x6 x7 x8 : Vec Ideal S512x128 .f32)
    (a o : ℕ) (i : Fin 256) (w : Fin 512) (co si : Fin 8 → EReal)
    (hc : x6 (ix2 (⟨(a + i.val) % 512, Nat.mod_lt _ (by decide)⟩ : Fin 512) (⟨w.val % 128, Nat.mod_lt _ (by decide)⟩ : Fin 128))
      = if w.val % 64 < 16 then co ⟨w.val % 8, Nat.mod_lt _ (by decide)⟩ else 1)
    (ha : x7 (ix2 (⟨(a + i.val) % 512, Nat.mod_lt _ (by decide)⟩ : Fin 512) (⟨w.val % 128, Nat.mod_lt _ (by decide)⟩ : Fin 128))
      = if w.val % 64 < 8 then -si ⟨w.val % 8, Nat.mod_lt _ (by decide)⟩ else 0)
    (hb : x8 (ix2 (⟨(a + i.val) % 512, Nat.mod_lt _ (by decide)⟩ : Fin 512) (⟨w.val % 128, Nat.mod_lt _ (by decide)⟩ : Fin 128))
      = if w.val % 64 < 8 then 0 else if w.val % 64 < 16 then si ⟨w.val % 8, Nat.mod_lt _ (by decide)⟩ else 0) :
    pairsT (projT x0 x1 a o) (rowsT x6 a) (rowsT x7 a) (rowsT x8 a) (ix2 i w)
      = turnPart (fun j => project (fun k => x0 (ix2 (⟨(a + i.val) % 512, Nat.mod_lt _ (by decide)⟩ : Fin 512) k)) (fun k j => x1 (ix2 k j)) (o + j))
        co si w.val := by
  rw [pairsT_apply]
  simp only [projT_apply]
  exact turnPart_of_tables (fun j => project (fun k => x0 (ix2 (⟨(a + i.val) % 512, Nat.mod_lt _ (by decide)⟩ : Fin 512) k))
    (fun k j => x1 (ix2 k j)) (o + j)) co si w.val _ _ _ hc ha hb

variable (m : (ℓ : Loc nD τ sig) → Buf (Elt Ideal) ℓ)

theorem idx0 : ∀ t : Fin cfg0.N, win0_0.index t = ![t.val % 16 * 4 + t.val / 16, 0] :=
  (by decide +kernel : ∀ t : Fin grid0.N, win0_0.index t = ![t.val % 16 * 4 + t.val / 16, 0])
theorem idx1 : ∀ t : Fin cfg0.N, win0_1.index t = ![0, 0] :=
  (by decide +kernel : ∀ t : Fin grid0.N, win0_1.index t = ![0, 0])
theorem idx2 : ∀ t : Fin cfg0.N, win0_2.index t = ![t.val / 16, 0] :=
  (by decide +kernel : ∀ t : Fin grid0.N, win0_2.index t = ![t.val / 16, 0])
theorem idx3 : ∀ t : Fin cfg0.N, win0_3.index t = ![t.val / 16, 0] :=
  (by decide +kernel : ∀ t : Fin grid0.N, win0_3.index t = ![t.val / 16, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])
theorem idx6 : ∀ t : Fin cfg0.N, win0_6.index t = ![t.val / 16, 0] :=
  (by decide +kernel : ∀ t : Fin grid0.N, win0_6.index t = ![t.val / 16, 0])
theorem idx7 : ∀ t : Fin cfg0.N, win0_7.index t = ![t.val / 16, 0] :=
  (by decide +kernel : ∀ t : Fin grid0.N, win0_7.index t = ![t.val / 16, 0])
theorem idx8 : ∀ t : Fin cfg0.N, win0_8.index t = ![t.val / 16, 0] :=
  (by decide +kernel : ∀ t : Fin grid0.N, win0_8.index t = ![t.val / 16, 0])
theorem idx9 : ∀ t : Fin cfg0.N, win0_9.index t = ![t.val % 16 * 4 + t.val / 16, 0] :=
  (by decide +kernel : ∀ t : Fin grid0.N, win0_9.index t = ![t.val % 16 * 4 + t.val / 16, 0])
theorem idx10 : ∀ t : Fin cfg0.N, win0_10.index t = ![t.val % 16, 0, t.val / 16] :=
  (by decide +kernel : ∀ t : Fin grid0.N, win0_10.index t = ![t.val % 16, 0, t.val / 16])
theorem idx11 : ∀ t : Fin cfg0.N, win0_11.index t = ![t.val % 16 * 4 + t.val / 16, 0] :=
  (by decide +kernel : ∀ t : Fin grid0.N, win0_11.index t = ![t.val % 16 * 4 + t.val / 16, 0])
theorem idx12 : ∀ t : Fin cfg0.N, win0_12.index t = ![t.val % 16 * 4 + t.val / 16, 0] :=
  (by decide +kernel : ∀ t : Fin grid0.N, win0_12.index t = ![t.val % 16 * 4 + t.val / 16, 0])
theorem idx13 : ∀ t : Fin cfg0.N, win0_13.index t = ![t.val % 16, 0, t.val / 16] :=
  (by decide +kernel : ∀ t : Fin grid0.N, win0_13.index t = ![t.val % 16, 0, t.val / 16])
theorem idx14 : ∀ t : Fin cfg0.N, win0_14.index t = ![t.val % 16 * 4 + t.val / 16, 0] :=
  (by decide +kernel : ∀ t : Fin grid0.N, win0_14.index t = ![t.val % 16 * 4 + t.val / 16, 0])
theorem idx15 : ∀ t : Fin cfg0.N, win0_15.index t = ![t.val % 16, 0, t.val / 16] :=
  (by decide +kernel : ∀ t : Fin grid0.N, win0_15.index t = ![t.val % 16, 0, t.val / 16])
theorem idx16 : ∀ t : Fin cfg0.N, win0_16.index t = ![t.val % 16 * 4 + t.val / 16, 0] :=
  (by decide +kernel : ∀ t : Fin grid0.N, win0_16.index t = ![t.val % 16 * 4 + t.val / 16, 0])
theorem idx17 : ∀ t : Fin cfg0.N, win0_17.index t = ![t.val % 16 * 4 + t.val / 16, 0] :=
  (by decide +kernel : ∀ t : Fin grid0.N, win0_17.index t = ![t.val % 16 * 4 + t.val / 16, 0])
theorem idx18 : ∀ t : Fin cfg0.N, win0_18.index t = ![t.val % 16 * 4 + t.val / 16, 0, 0] :=
  (by decide +kernel : ∀ t : Fin grid0.N, win0_18.index t = ![t.val % 16 * 4 + t.val / 16, 0, 0])

/-- Row `i` of a grid point's block, and its position. -/
def rowOf (t : Fin cfg0.N) (i : Fin 512) : Fin 32768 := ⟨(t.val % 16 * 4 + t.val / 16) * 512 + i.val, by
  have h : t.val < 64 := t.isLt
  omega⟩
def posOf (t : Fin cfg0.N) (i : Fin 512) : Fin 2048 := ⟨t.val / 16 * 512 + i.val, by
  have h : t.val < 64 := t.isLt
  omega⟩

theorem blk_h (c : Dev nD) (t : Fin cfg0.N) (i : Fin 512) (k : Fin 1024) : iblk m c 0 t (ix2 i k) = argH m c (rowOf t i) k := by
  unfold argH
  rw [← V_main_arg0 m c]
  blk_ext [iblk, rowOf, idx0 t]
theorem blk_w (c : Dev nD) (t : Fin cfg0.N) (k : Fin 1024) (w : Fin 6656) : iblk m c 1 t (ix2 k w) = argW m c k w := by
  refine Eq.trans ?_ (V_w m c k w)
  blk_ext [iblk, idx1 t]
theorem blk_cos (c : Dev nD) (t : Fin cfg0.N) (i : Fin 512) (l : Fin 128) : iblk m c 2 t (ix2 i l) = V m c main_v14 (ix2 (posOf t i) l) := by
  blk_ext [iblk, posOf, idx2 t]
theorem blk_sin (c : Dev nD) (t : Fin cfg0.N) (i : Fin 512) (l : Fin 128) : iblk m c 3 t (ix2 i l) = V m c main_v16 (ix2 (posOf t i) l) := by
  blk_ext [iblk, posOf, idx3 t]
theorem blk_qdec (c : Dev nD) (t : Fin cfg0.N) (i : Fin 256) (w : Fin 512) : iblk m c 4 t (ix2 i w) = Cert.KernelIdeal.Host.qdecT (ix2 i w) := by
  rw [← V_qdec m c]
  blk_ext [iblk, idx4 t]
theorem blk_kdec (c : Dev nD) (t : Fin cfg0.N) (i : Fin 256) (w : Fin 512) : iblk m c 5 t (ix2 i w) = Cert.KernelIdeal.Host.kdecT (ix2 i w) := by
  rw [← V_kdec m c]
  blk_ext [iblk, idx5 t]
theorem blk_cos8 (c : Dev nD) (t : Fin cfg0.N) (i : Fin 512) (l : Fin 128) : iblk m c 6 t (ix2 i l) = V m c main_v73 (ix2 (posOf t i) l) := by
  blk_ext [iblk, posOf, idx6 t]
theorem blk_sin8 (c : Dev nD) (t : Fin cfg0.N) (i : Fin 512) (l : Fin 128) : iblk m c 7 t (ix2 i l) = V m c main_v78 (ix2 (posOf t i) l) := by
  blk_ext [iblk, posOf, idx7 t]
theorem blk_nis8 (c : Dev nD) (t : Fin cfg0.N) (i : Fin 512) (l : Fin 128) : iblk m c 8 t (ix2 i l) = V m c main_v82 (ix2 (posOf t i) l) := by
  blk_ext [iblk, posOf, idx8 t]

/-- A token's projection from column `o` on, and its rotations. -/
def proj (c : Dev nD) (g : Fin 32768) (o : ℕ) : ℕ → EReal := fun j => project (argH m c g) (argW m c) (o + j)
def turned (c : Dev nD) (g : Fin 32768) (o w : ℕ) : EReal :=
  turnHead (proj m c g o) (fun j => cosT (ix2 (⟨g.val % 2048, Nat.mod_lt _ (by decide)⟩ : Fin 2048) j))
    (fun j => sinT (ix2 (⟨g.val % 2048, Nat.mod_lt _ (by decide)⟩ : Fin 2048) j)) w
def turned8 (c : Dev nD) (g : Fin 32768) (o w : ℕ) : EReal :=
  turnPart (proj m c g o) (fun j => cos8T (ix2 (⟨g.val % 2048, Nat.mod_lt _ (by decide)⟩ : Fin 2048) j))
    (fun j => sin8T (ix2 (⟨g.val % 2048, Nat.mod_lt _ (by decide)⟩ : Fin 2048) j)) w

theorem pos_row (t : Fin cfg0.N) (i : Fin 512) : posOf t i = ⟨(rowOf t i).val % 2048, Nat.mod_lt _ (by decide)⟩ := Fin.ext (by
  have h : t.val < 64 := t.isLt
  show t.val / 16 * 512 + i.val = ((t.val % 16 * 4 + t.val / 16) * 512 + i.val) % 2048
  omega)

/-- Row `i` of the 256 rows from row `a` on of a grid point's block. -/
def tileRow (t : Fin cfg0.N) (a : ℕ) (i : Fin 256) : Fin 32768 := rowOf t (⟨(a + i.val) % 512, Nat.mod_lt _ (by decide)⟩ : Fin 512)

theorem proj_tile (c : Dev nD) (t : Fin cfg0.N) (a o : ℕ) (i : Fin 256) (w : Fin 512) :
    projT (iblk m c 0 t) (iblk m c 1 t) a o (ix2 i w) = proj m c (tileRow t a i) o w.val := by
  refine (projT_apply _ _ a o i w).trans ?_
  simp only [blk_h, blk_w]
  rfl
theorem wide_tile (c : Dev nD) (t : Fin cfg0.N) (a o : ℕ) (i : Fin 256) (w : Fin 1024) :
    wideT (iblk m c 0 t) (iblk m c 1 t) a o (ix2 i w) = proj m c (tileRow t a i) o w.val := by
  refine (wideT_apply _ _ a o i w).trans ?_
  simp only [blk_h, blk_w]
  rfl
theorem heads_tile (c : Dev nD) (t : Fin cfg0.N) (d : Vec Ideal S256x512 .f32) (a o : ℕ) (i : Fin 256) (w : Fin 512) :
    headsT (projT (iblk m c 0 t) (iblk m c 1 t) a o) (rowsT (n := 128) (φ := .f32) (iblk m c 2 t) a) (rowsT (n := 128) (φ := .f32) (iblk m c 3 t) a) d (ix2 i w)
      = turned m c (tileRow t a i) o w.val * d (ix2 i w) := by
  refine (headsT_proj _ _ _ _ d a o i w (fun j => cosT (ix2 (posOf t (⟨(a + i.val) % 512, Nat.mod_lt _ (by decide)⟩ : Fin 512)) j))
    (fun j => sinT (ix2 (posOf t (⟨(a + i.val) % 512, Nat.mod_lt _ (by decide)⟩ : Fin 512)) j)) ?_ ?_).trans ?_
  · refine (blk_cos m c t _ _).trans ((cos_apply m c _ _).trans ?_)
    exact congrArg (fun z => cosT (ix2 (posOf t (⟨(a + i.val) % 512, Nat.mod_lt _ (by decide)⟩ : Fin 512)) z)) (Fin.ext (by dsimp only; omega))
  · refine (blk_sin m c t _ _).trans ((sin_apply m c _ _).trans ?_)
    have e : w.val % 128 % 64 = w.val % 64 := by omega
    simp only [e]
  · simp only [blk_h, blk_w, pos_row]
    rfl
theorem pairs_tile (c : Dev nD) (t : Fin cfg0.N) (a o : ℕ) (i : Fin 256) (w : Fin 512) :
    pairsT (projT (iblk m c 0 t) (iblk m c 1 t) a o) (rowsT (n := 128) (φ := .f32) (iblk m c 6 t) a) (rowsT (n := 128) (φ := .f32) (iblk m c 7 t) a)
        (rowsT (n := 128) (φ := .f32) (iblk m c 8 t) a) (ix2 i w)
      = turned8 m c (tileRow t a i) o w.val := by
  have e : w.val % 128 % 64 = w.val % 64 := by omega
  have e' : w.val % 128 % 8 = w.val % 8 := by omega
  refine (pairsT_proj _ _ _ _ _ a o i w (fun j => cos8T (ix2 (posOf t (⟨(a + i.val) % 512, Nat.mod_lt _ (by decide)⟩ : Fin 512)) j))
    (fun j => sin8T (ix2 (posOf t (⟨(a + i.val) % 512, Nat.mod_lt _ (by decide)⟩ : Fin 512)) j)) ?_ ?_ ?_).trans ?_
  · refine (blk_cos8 m c t _ _).trans ((cos8_apply m c _ _).trans ?_)
    simp only [e, e']
  · refine (blk_sin8 m c t _ _).trans ((sin8_apply m c _ _).trans ?_)
    simp only [e, e']
  · refine (blk_nis8 m c t _ _).trans ((nis8_apply m c _ _).trans ?_)
    simp only [e, e']
  · simp only [blk_h, blk_w, pos_row]
    rfl

/-- The rows of the ten results. -/
def row9 (c : Dev nD) (g : Fin 32768) (w : Fin 512) : EReal :=
  turned m c g 0 w.val * Cert.KernelIdeal.Host.qdecT (ix2 (⟨g.val % 256, Nat.mod_lt _ (by decide)⟩ : Fin 256) w)
def row10 (c : Dev nD) (g : Fin 32768) (w : Fin 512) : EReal :=
  turned m c g 512 w.val * Cert.KernelIdeal.Host.kdecT (ix2 (⟨g.val % 256, Nat.mod_lt _ (by decide)⟩ : Fin 256) w)
def row11 (c : Dev nD) (g : Fin 32768) (w : Fin 1024) : EReal := proj m c g 1024 w.val
def row12 (c : Dev nD) (g : Fin 32768) (w : Fin 1024) : EReal := proj m c g 2048 w.val * Ideal.logistic (proj m c g 2048 w.val)
def row13 (c : Dev nD) (g : Fin 32768) (w : Fin 512) : EReal := turned8 m c g 3072 w.val
def row14 (c : Dev nD) (g : Fin 32768) (w : Fin 512) : EReal := turned8 m c g 3584 w.val
def row15 (c : Dev nD) (g : Fin 32768) (w : Fin 512) : EReal := proj m c g 4096 w.val
def row16 (c : Dev nD) (g : Fin 32768) (w : Fin 1024) : EReal := Ideal.logistic (proj m c g 4608 w.val)
def row17 (c : Dev nD) (g : Fin 32768) (w : Fin 1024) : EReal := Ideal.logistic (proj m c g 5632 w.val)
def mean18 (c : Dev nD) (q : Fin 128) (w : Fin 512) : EReal :=
  Ideal.div (∑ i : Fin 256, turned8 m c ⟨q.val * 256 + i.val, by omega⟩ 3584 w.val) (Ideal.ofBits .f32 0x43800000#32)

theorem dec_row (t : Fin cfg0.N) (r : ℕ) (i : Fin 256) : (⟨(tileRow t (r * 256) i).val % 256, Nat.mod_lt _ (by decide)⟩ : Fin 256) = i := Fin.ext (by
  show ((t.val % 16 * 4 + t.val / 16) * 512 + (r * 256 + i.val) % 512) % 256 = i.val
  omega)

theorem tile9 (c : Dev nD) (t : Fin cfg0.N) (r : ℕ) (i : Fin 256) (w : Fin 512) :
    piece9 (iblk m c 0 t) (iblk m c 1 t) (iblk m c 2 t) (iblk m c 3 t) (iblk m c 4 t) (iblk m c 5 t) (iblk m c 6 t) (iblk m c 7 t) (iblk m c 8 t) (r * 256) (ix2 i w) = row9 m c (tileRow t (r * 256) i) w := by
  refine (heads_tile m c t _ _ 0 i w).trans ?_
  rw [row9, dec_row]
  exact congrArg _ (blk_qdec m c t i w)
theorem tile10 (c : Dev nD) (t : Fin cfg0.N) (r : ℕ) (i : Fin 256) (w : Fin 512) :
    piece10 (iblk m c 0 t) (iblk m c 1 t) (iblk m c 2 t) (iblk m c 3 t) (iblk m c 4 t) (iblk m c 5 t) (iblk m c 6 t) (iblk m c 7 t) (iblk m c 8 t) (r * 256) (ix3 0 w i) = row10 m c (tileRow t (r * 256) i) w := by
  refine Eq.trans (by unfold piece10; pointwise; rfl) ((heads_tile m c t _ _ 512 i w).trans ?_)
  rw [row10, dec_row]
  exact congrArg _ (blk_kdec m c t i w)
theorem tile11 (c : Dev nD) (t : Fin cfg0.N) (r : ℕ) (i : Fin 256) (w : Fin 1024) :
    piece11 (iblk m c 0 t) (iblk m c 1 t) (iblk m c 2 t) (iblk m c 3 t) (iblk m c 4 t) (iblk m c 5 t) (iblk m c 6 t) (iblk m c 7 t) (iblk m c 8 t) (r * 256) (ix2 i w) = row11 m c (tileRow t (r * 256) i) w := by
  exact wide_tile m c t _ 1024 i w
theorem tile12 (c : Dev nD) (t : Fin cfg0.N) (r : ℕ) (i : Fin 256) (w : Fin 1024) :
    piece12 (iblk m c 0 t) (iblk m c 1 t) (iblk m c 2 t) (iblk m c 3 t) (iblk m c 4 t) (iblk m c 5 t) (iblk m c 6 t) (iblk m c 7 t) (iblk m c 8 t) (r * 256) (ix2 i w) = row12 m c (tileRow t (r * 256) i) w := by
  unfold piece12
  pointwise
  rw [wide_tile]
  rfl
theorem tile13 (c : Dev nD) (t : Fin cfg0.N) (r : ℕ) (i : Fin 256) (w : Fin 512) :
    piece13 (iblk m c 0 t) (iblk m c 1 t) (iblk m c 2 t) (iblk m c 3 t) (iblk m c 4 t) (iblk m c 5 t) (iblk m c 6 t) (iblk m c 7 t) (iblk m c 8 t) (r * 256) (ix3 0 w i) = row13 m c (tileRow t (r * 256) i) w := by
  refine Eq.trans (by unfold piece13; pointwise) (pairs_tile m c t _ 3072 i w)
theorem tile14 (c : Dev nD) (t : Fin cfg0.N) (r : ℕ) (i : Fin 256) (w : Fin 512) :
    piece14 (iblk m c 0 t) (iblk m c 1 t) (iblk m c 2 t) (iblk m c 3 t) (iblk m c 4 t) (iblk m c 5 t) (iblk m c 6 t) (iblk m c 7 t) (iblk m c 8 t) (r * 256) (ix2 i w) = row14 m c (tileRow t (r * 256) i) w := by
  exact pairs_tile m c t _ 3584 i w
theorem tile15 (c : Dev nD) (t : Fin cfg0.N) (r : ℕ) (i : Fin 256) (w : Fin 512) :
    piece15 (iblk m c 0 t) (iblk m c 1 t) (iblk m c 2 t) (iblk m c 3 t) (iblk m c 4 t) (iblk m c 5 t) (iblk m c 6 t) (iblk m c 7 t) (iblk m c 8 t) (r * 256) (ix3 0 w i) = row15 m c (tileRow t (r * 256) i) w := by
  refine Eq.trans (by unfold piece15; pointwise) (proj_tile m c t _ 4096 i w)
theorem tile16 (c : Dev nD) (t : Fin cfg0.N) (r : ℕ) (i : Fin 256) (w : Fin 1024) :
    piece16 (iblk m c 0 t) (iblk m c 1 t) (iblk m c 2 t) (iblk m c 3 t) (iblk m c 4 t) (iblk m c 5 t) (iblk m c 6 t) (iblk m c 7 t) (iblk m c 8 t) (r * 256) (ix2 i w) = row16 m c (tileRow t (r * 256) i) w := by
  unfold piece16
  pointwise
  rw [wide_tile]
  rfl
theorem tile17 (c : Dev nD) (t : Fin cfg0.N) (r : ℕ) (i : Fin 256) (w : Fin 1024) :
    piece17 (iblk m c 0 t) (iblk m c 1 t) (iblk m c 2 t) (iblk m c 3 t) (iblk m c 4 t) (iblk m c 5 t) (iblk m c 6 t) (iblk m c 7 t) (iblk m c 8 t) (r * 256) (ix2 i w) = row17 m c (tileRow t (r * 256) i) w := by
  unfold piece17
  pointwise
  rw [wide_tile]
  rfl
theorem tile18 (c : Dev nD) (t : Fin cfg0.N) (r : ℕ) (w : Fin 512) (q : Fin 128) (hq : q.val = (t.val % 16 * 4 + t.val / 16) * 2 + r) (hr : r < 2) :
    piece18 (iblk m c 0 t) (iblk m c 1 t) (iblk m c 2 t) (iblk m c 3 t) (iblk m c 4 t) (iblk m c 5 t) (iblk m c 6 t) (iblk m c 7 t) (iblk m c 8 t) (r * 256) (ix3 0 0 w) = mean18 m c q w := by
  unfold piece18 mean18
  pointwise
  refine congrArg (fun z => Ideal.div z (Ideal.ofBits .f32 0x43800000#32)) ?_
  refine Finset.sum_congr rfl fun i _ => (pairs_tile m c t _ 3584 i w).trans (congrArg (fun g => turned8 m c g 3584 w.val) (Fin.ext ?_))
  show (t.val % 16 * 4 + t.val / 16) * 512 + (r * 256 + i.val) % 512 = q.val * 256 + i.val
  omega

/-- The kernel's result 1. -/
def result9 (c : Dev nD) : S32768x512.Idx → Elt Ideal .bf16 := fun I => row9 m c (I 0) (I 1)

theorem out_array9 (c : Dev nD) : (dats m 0 c).arrAt 9 cfg0.N = result9 m c := by
  refine (dats m 0 c).arrAt_eq_of_covers 9 _ (by decide +kernel) fun t hf y => ?_
  blk_simp
  rw [after0_9]
  refine out_pieces9 _ _ _ _ _ _ _ _ _ y (fun y => result9 m c (((cfg0.win 9).blk t).view.emb y)) ?_
  intro r x hr h0 h1
  have hx0 : (x 0).val < 256 := (x 0).isLt
  have hx1 : (x 1).val < 512 := (x 1).isLt
  have ht : t.val < 64 := t.isLt
  have p0 : ((((cfg0.win 9).blk t).view.emb y) 0 : Fin 32768).val = (t.val % 16 * 4 + t.val / 16) * 512 + (r * 256 + (x 0).val) := by
    rw [← h0]; blk_simp [idx9 t]
  have p1 : ((((cfg0.win 9).blk t).view.emb y) 1 : Fin 512).val = (x 1).val := by
    rw [← h1]; blk_simp [idx9 t]
  have hx : x = ix2 (x 0) (x 1) := by blk_ext
  rw [hx]
  refine (tile9 m c t r (x 0) (x 1)).trans ?_
  show _ = row9 m c ((((cfg0.win 9).blk t).view.emb y) 0) ((((cfg0.win 9).blk t).view.emb y) 1)
  generalize (((cfg0.win 9).blk t).view.emb y 0 : Fin 32768) = s at p0
  generalize (((cfg0.win 9).blk t).view.emb y 1 : Fin 512) = w at p1
  have hs : tileRow t (r * 256) (x 0) = s := Fin.ext (by
    show (t.val % 16 * 4 + t.val / 16) * 512 + (r * 256 + (x 0).val) % 512 = s.val; omega)
  have hw : (x 1 : Fin 512) = w := Fin.ext p1.symm
  rw [hs, hw]

/-- The kernel's result 2. -/
def result10 (c : Dev nD) : S16x512x2048.Idx → Elt Ideal .bf16 := fun I => row10 m c (⟨(I 0).val * 2048 + (I 2).val, lt_of_lt_of_le (Nat.add_lt_add_left (I 2).isLt _) (by have h : (I 0).val < 16 := (I 0).isLt; show (I 0).val * 2048 + 2048 ≤ 32768; omega)⟩ : Fin 32768) (I 1)

theorem out_array10 (c : Dev nD) : (dats m 0 c).arrAt 10 cfg0.N = result10 m c := by
  refine (dats m 0 c).arrAt_eq_of_covers 10 _ (by decide +kernel) fun t hf y => ?_
  blk_simp
  rw [after0_10]
  refine out_pieces10 _ _ _ _ _ _ _ _ _ y (fun y => result10 m c (((cfg0.win 10).blk t).view.emb y)) ?_
  intro r x hr h0 h1 h2
  have hx0 : (x 0).val < 1 := (x 0).isLt
  have hx1 : (x 1).val < 512 := (x 1).isLt
  have hx2 : (x 2).val < 256 := (x 2).isLt
  have ht : t.val < 64 := t.isLt
  have p0 : ((((cfg0.win 10).blk t).view.emb y) 0 : Fin 16).val = t.val % 16 := by
    have hy : (y 0).val = 0 := by omega
    blk_simp [idx10 t, hy]
  have p1 : ((((cfg0.win 10).blk t).view.emb y) 1 : Fin 512).val = (x 1).val := by
    rw [← h1]; blk_simp [idx10 t]
  have p2 : ((((cfg0.win 10).blk t).view.emb y) 2 : Fin 2048).val = t.val / 16 * 512 + (r * 256 + (x 2).val) := by
    rw [← h2]; blk_simp [idx10 t]
  have hx : x = ix3 0 (x 1) (x 2) := by
    funext d
    match d with
    | ⟨0, _⟩ => exact Fin.ext (by show (x 0).val = 0; omega)
    | ⟨1, _⟩ => rfl
    | ⟨2, _⟩ => rfl
  rw [hx]
  refine (tile10 m c t r (x 2) (x 1)).trans ?_
  have hw : (x 1 : Fin 512) = (((cfg0.win 10).blk t).view.emb y 1 : Fin 512) := Fin.ext p1.symm
  unfold result10
  refine congrArg₂ (row10 m c) (Fin.ext ?_) hw
  show (t.val % 16 * 4 + t.val / 16) * 512 + (r * 256 + (x 2).val) % 512
    = ((((cfg0.win 10).blk t).view.emb y) 0 : Fin 16).val * 2048 + ((((cfg0.win 10).blk t).view.emb y) 2 : Fin 2048).val
  rw [p0, p2]
  omega

/-- The kernel's result 3. -/
def result11 (c : Dev nD) : S32768x1024.Idx → Elt Ideal .bf16 := fun I => row11 m c (I 0) (I 1)

theorem out_array11 (c : Dev nD) : (dats m 0 c).arrAt 11 cfg0.N = result11 m c := by
  refine (dats m 0 c).arrAt_eq_of_covers 11 _ (by decide +kernel) fun t hf y => ?_
  blk_simp
  rw [after0_11]
  refine out_pieces11 _ _ _ _ _ _ _ _ _ y (fun y => result11 m c (((cfg0.win 11).blk t).view.emb y)) ?_
  intro r x hr h0 h1
  have hx0 : (x 0).val < 256 := (x 0).isLt
  have hx1 : (x 1).val < 1024 := (x 1).isLt
  have ht : t.val < 64 := t.isLt
  have p0 : ((((cfg0.win 11).blk t).view.emb y) 0 : Fin 32768).val = (t.val % 16 * 4 + t.val / 16) * 512 + (r * 256 + (x 0).val) := by
    rw [← h0]; blk_simp [idx11 t]
  have p1 : ((((cfg0.win 11).blk t).view.emb y) 1 : Fin 1024).val = (x 1).val := by
    rw [← h1]; blk_simp [idx11 t]
  have hx : x = ix2 (x 0) (x 1) := by blk_ext
  rw [hx]
  refine (tile11 m c t r (x 0) (x 1)).trans ?_
  show _ = row11 m c ((((cfg0.win 11).blk t).view.emb y) 0) ((((cfg0.win 11).blk t).view.emb y) 1)
  generalize (((cfg0.win 11).blk t).view.emb y 0 : Fin 32768) = s at p0
  generalize (((cfg0.win 11).blk t).view.emb y 1 : Fin 1024) = w at p1
  have hs : tileRow t (r * 256) (x 0) = s := Fin.ext (by
    show (t.val % 16 * 4 + t.val / 16) * 512 + (r * 256 + (x 0).val) % 512 = s.val; omega)
  have hw : (x 1 : Fin 1024) = w := Fin.ext p1.symm
  rw [hs, hw]

/-- The kernel's result 4. -/
def result12 (c : Dev nD) : S32768x1024.Idx → Elt Ideal .bf16 := fun I => row12 m c (I 0) (I 1)

theorem out_array12 (c : Dev nD) : (dats m 0 c).arrAt 12 cfg0.N = result12 m c := by
  refine (dats m 0 c).arrAt_eq_of_covers 12 _ (by decide +kernel) fun t hf y => ?_
  blk_simp
  rw [after0_12]
  refine out_pieces12 _ _ _ _ _ _ _ _ _ y (fun y => result12 m c (((cfg0.win 12).blk t).view.emb y)) ?_
  intro r x hr h0 h1
  have hx0 : (x 0).val < 256 := (x 0).isLt
  have hx1 : (x 1).val < 1024 := (x 1).isLt
  have ht : t.val < 64 := t.isLt
  have p0 : ((((cfg0.win 12).blk t).view.emb y) 0 : Fin 32768).val = (t.val % 16 * 4 + t.val / 16) * 512 + (r * 256 + (x 0).val) := by
    rw [← h0]; blk_simp [idx12 t]
  have p1 : ((((cfg0.win 12).blk t).view.emb y) 1 : Fin 1024).val = (x 1).val := by
    rw [← h1]; blk_simp [idx12 t]
  have hx : x = ix2 (x 0) (x 1) := by blk_ext
  rw [hx]
  refine (tile12 m c t r (x 0) (x 1)).trans ?_
  show _ = row12 m c ((((cfg0.win 12).blk t).view.emb y) 0) ((((cfg0.win 12).blk t).view.emb y) 1)
  generalize (((cfg0.win 12).blk t).view.emb y 0 : Fin 32768) = s at p0
  generalize (((cfg0.win 12).blk t).view.emb y 1 : Fin 1024) = w at p1
  have hs : tileRow t (r * 256) (x 0) = s := Fin.ext (by
    show (t.val % 16 * 4 + t.val / 16) * 512 + (r * 256 + (x 0).val) % 512 = s.val; omega)
  have hw : (x 1 : Fin 1024) = w := Fin.ext p1.symm
  rw [hs, hw]

/-- The kernel's result 5. -/
def result13 (c : Dev nD) : S16x512x2048.Idx → Elt Ideal .f32 := fun I => row13 m c (⟨(I 0).val * 2048 + (I 2).val, lt_of_lt_of_le (Nat.add_lt_add_left (I 2).isLt _) (by have h : (I 0).val < 16 := (I 0).isLt; show (I 0).val * 2048 + 2048 ≤ 32768; omega)⟩ : Fin 32768) (I 1)

theorem out_array13 (c : Dev nD) : (dats m 0 c).arrAt 13 cfg0.N = result13 m c := by
  refine (dats m 0 c).arrAt_eq_of_covers 13 _ (by decide +kernel) fun t hf y => ?_
  blk_simp
  rw [after0_13]
  refine out_pieces13 _ _ _ _ _ _ _ _ _ y (fun y => result13 m c (((cfg0.win 13).blk t).view.emb y)) ?_
  intro r x hr h0 h1 h2
  have hx0 : (x 0).val < 1 := (x 0).isLt
  have hx1 : (x 1).val < 512 := (x 1).isLt
  have hx2 : (x 2).val < 256 := (x 2).isLt
  have ht : t.val < 64 := t.isLt
  have p0 : ((((cfg0.win 13).blk t).view.emb y) 0 : Fin 16).val = t.val % 16 := by
    have hy : (y 0).val = 0 := by omega
    blk_simp [idx13 t, hy]
  have p1 : ((((cfg0.win 13).blk t).view.emb y) 1 : Fin 512).val = (x 1).val := by
    rw [← h1]; blk_simp [idx13 t]
  have p2 : ((((cfg0.win 13).blk t).view.emb y) 2 : Fin 2048).val = t.val / 16 * 512 + (r * 256 + (x 2).val) := by
    rw [← h2]; blk_simp [idx13 t]
  have hx : x = ix3 0 (x 1) (x 2) := by
    funext d
    match d with
    | ⟨0, _⟩ => exact Fin.ext (by show (x 0).val = 0; omega)
    | ⟨1, _⟩ => rfl
    | ⟨2, _⟩ => rfl
  rw [hx]
  refine (tile13 m c t r (x 2) (x 1)).trans ?_
  have hw : (x 1 : Fin 512) = (((cfg0.win 13).blk t).view.emb y 1 : Fin 512) := Fin.ext p1.symm
  unfold result13
  refine congrArg₂ (row13 m c) (Fin.ext ?_) hw
  show (t.val % 16 * 4 + t.val / 16) * 512 + (r * 256 + (x 2).val) % 512
    = ((((cfg0.win 13).blk t).view.emb y) 0 : Fin 16).val * 2048 + ((((cfg0.win 13).blk t).view.emb y) 2 : Fin 2048).val
  rw [p0, p2]
  omega

/-- The kernel's result 6. -/
def result14 (c : Dev nD) : S32768x512.Idx → Elt Ideal .bf16 := fun I => row14 m c (I 0) (I 1)

theorem out_array14 (c : Dev nD) : (dats m 0 c).arrAt 14 cfg0.N = result14 m c := by
  refine (dats m 0 c).arrAt_eq_of_covers 14 _ (by decide +kernel) fun t hf y => ?_
  blk_simp
  rw [after0_14]
  refine out_pieces14 _ _ _ _ _ _ _ _ _ y (fun y => result14 m c (((cfg0.win 14).blk t).view.emb y)) ?_
  intro r x hr h0 h1
  have hx0 : (x 0).val < 256 := (x 0).isLt
  have hx1 : (x 1).val < 512 := (x 1).isLt
  have ht : t.val < 64 := t.isLt
  have p0 : ((((cfg0.win 14).blk t).view.emb y) 0 : Fin 32768).val = (t.val % 16 * 4 + t.val / 16) * 512 + (r * 256 + (x 0).val) := by
    rw [← h0]; blk_simp [idx14 t]
  have p1 : ((((cfg0.win 14).blk t).view.emb y) 1 : Fin 512).val = (x 1).val := by
    rw [← h1]; blk_simp [idx14 t]
  have hx : x = ix2 (x 0) (x 1) := by blk_ext
  rw [hx]
  refine (tile14 m c t r (x 0) (x 1)).trans ?_
  show _ = row14 m c ((((cfg0.win 14).blk t).view.emb y) 0) ((((cfg0.win 14).blk t).view.emb y) 1)
  generalize (((cfg0.win 14).blk t).view.emb y 0 : Fin 32768) = s at p0
  generalize (((cfg0.win 14).blk t).view.emb y 1 : Fin 512) = w at p1
  have hs : tileRow t (r * 256) (x 0) = s := Fin.ext (by
    show (t.val % 16 * 4 + t.val / 16) * 512 + (r * 256 + (x 0).val) % 512 = s.val; omega)
  have hw : (x 1 : Fin 512) = w := Fin.ext p1.symm
  rw [hs, hw]

/-- The kernel's result 7. -/
def result15 (c : Dev nD) : S16x512x2048.Idx → Elt Ideal .bf16 := fun I => row15 m c (⟨(I 0).val * 2048 + (I 2).val, lt_of_lt_of_le (Nat.add_lt_add_left (I 2).isLt _) (by have h : (I 0).val < 16 := (I 0).isLt; show (I 0).val * 2048 + 2048 ≤ 32768; omega)⟩ : Fin 32768) (I 1)

theorem out_array15 (c : Dev nD) : (dats m 0 c).arrAt 15 cfg0.N = result15 m c := by
  refine (dats m 0 c).arrAt_eq_of_covers 15 _ (by decide +kernel) fun t hf y => ?_
  blk_simp
  rw [after0_15]
  refine out_pieces15 _ _ _ _ _ _ _ _ _ y (fun y => result15 m c (((cfg0.win 15).blk t).view.emb y)) ?_
  intro r x hr h0 h1 h2
  have hx0 : (x 0).val < 1 := (x 0).isLt
  have hx1 : (x 1).val < 512 := (x 1).isLt
  have hx2 : (x 2).val < 256 := (x 2).isLt
  have ht : t.val < 64 := t.isLt
  have p0 : ((((cfg0.win 15).blk t).view.emb y) 0 : Fin 16).val = t.val % 16 := by
    have hy : (y 0).val = 0 := by omega
    blk_simp [idx15 t, hy]
  have p1 : ((((cfg0.win 15).blk t).view.emb y) 1 : Fin 512).val = (x 1).val := by
    rw [← h1]; blk_simp [idx15 t]
  have p2 : ((((cfg0.win 15).blk t).view.emb y) 2 : Fin 2048).val = t.val / 16 * 512 + (r * 256 + (x 2).val) := by
    rw [← h2]; blk_simp [idx15 t]
  have hx : x = ix3 0 (x 1) (x 2) := by
    funext d
    match d with
    | ⟨0, _⟩ => exact Fin.ext (by show (x 0).val = 0; omega)
    | ⟨1, _⟩ => rfl
    | ⟨2, _⟩ => rfl
  rw [hx]
  refine (tile15 m c t r (x 2) (x 1)).trans ?_
  have hw : (x 1 : Fin 512) = (((cfg0.win 15).blk t).view.emb y 1 : Fin 512) := Fin.ext p1.symm
  unfold result15
  refine congrArg₂ (row15 m c) (Fin.ext ?_) hw
  show (t.val % 16 * 4 + t.val / 16) * 512 + (r * 256 + (x 2).val) % 512
    = ((((cfg0.win 15).blk t).view.emb y) 0 : Fin 16).val * 2048 + ((((cfg0.win 15).blk t).view.emb y) 2 : Fin 2048).val
  rw [p0, p2]
  omega

/-- The kernel's result 8. -/
def result16 (c : Dev nD) : S32768x1024.Idx → Elt Ideal .bf16 := fun I => row16 m c (I 0) (I 1)

theorem out_array16 (c : Dev nD) : (dats m 0 c).arrAt 16 cfg0.N = result16 m c := by
  refine (dats m 0 c).arrAt_eq_of_covers 16 _ (by decide +kernel) fun t hf y => ?_
  blk_simp
  rw [after0_16]
  refine out_pieces16 _ _ _ _ _ _ _ _ _ y (fun y => result16 m c (((cfg0.win 16).blk t).view.emb y)) ?_
  intro r x hr h0 h1
  have hx0 : (x 0).val < 256 := (x 0).isLt
  have hx1 : (x 1).val < 1024 := (x 1).isLt
  have ht : t.val < 64 := t.isLt
  have p0 : ((((cfg0.win 16).blk t).view.emb y) 0 : Fin 32768).val = (t.val % 16 * 4 + t.val / 16) * 512 + (r * 256 + (x 0).val) := by
    rw [← h0]; blk_simp [idx16 t]
  have p1 : ((((cfg0.win 16).blk t).view.emb y) 1 : Fin 1024).val = (x 1).val := by
    rw [← h1]; blk_simp [idx16 t]
  have hx : x = ix2 (x 0) (x 1) := by blk_ext
  rw [hx]
  refine (tile16 m c t r (x 0) (x 1)).trans ?_
  show _ = row16 m c ((((cfg0.win 16).blk t).view.emb y) 0) ((((cfg0.win 16).blk t).view.emb y) 1)
  generalize (((cfg0.win 16).blk t).view.emb y 0 : Fin 32768) = s at p0
  generalize (((cfg0.win 16).blk t).view.emb y 1 : Fin 1024) = w at p1
  have hs : tileRow t (r * 256) (x 0) = s := Fin.ext (by
    show (t.val % 16 * 4 + t.val / 16) * 512 + (r * 256 + (x 0).val) % 512 = s.val; omega)
  have hw : (x 1 : Fin 1024) = w := Fin.ext p1.symm
  rw [hs, hw]

/-- The kernel's result 9. -/
def result17 (c : Dev nD) : S32768x1024.Idx → Elt Ideal .bf16 := fun I => row17 m c (I 0) (I 1)

theorem out_array17 (c : Dev nD) : (dats m 0 c).arrAt 17 cfg0.N = result17 m c := by
  refine (dats m 0 c).arrAt_eq_of_covers 17 _ (by decide +kernel) fun t hf y => ?_
  blk_simp
  rw [after0_17]
  refine out_pieces17 _ _ _ _ _ _ _ _ _ y (fun y => result17 m c (((cfg0.win 17).blk t).view.emb y)) ?_
  intro r x hr h0 h1
  have hx0 : (x 0).val < 256 := (x 0).isLt
  have hx1 : (x 1).val < 1024 := (x 1).isLt
  have ht : t.val < 64 := t.isLt
  have p0 : ((((cfg0.win 17).blk t).view.emb y) 0 : Fin 32768).val = (t.val % 16 * 4 + t.val / 16) * 512 + (r * 256 + (x 0).val) := by
    rw [← h0]; blk_simp [idx17 t]
  have p1 : ((((cfg0.win 17).blk t).view.emb y) 1 : Fin 1024).val = (x 1).val := by
    rw [← h1]; blk_simp [idx17 t]
  have hx : x = ix2 (x 0) (x 1) := by blk_ext
  rw [hx]
  refine (tile17 m c t r (x 0) (x 1)).trans ?_
  show _ = row17 m c ((((cfg0.win 17).blk t).view.emb y) 0) ((((cfg0.win 17).blk t).view.emb y) 1)
  generalize (((cfg0.win 17).blk t).view.emb y 0 : Fin 32768) = s at p0
  generalize (((cfg0.win 17).blk t).view.emb y 1 : Fin 1024) = w at p1
  have hs : tileRow t (r * 256) (x 0) = s := Fin.ext (by
    show (t.val % 16 * 4 + t.val / 16) * 512 + (r * 256 + (x 0).val) % 512 = s.val; omega)
  have hw : (x 1 : Fin 1024) = w := Fin.ext p1.symm
  rw [hs, hw]

/-- The kernel's result 10. -/
def result18 (c : Dev nD) : S128x1x512.Idx → Elt Ideal .f32 := fun I => mean18 m c (I 0) (I 2)

theorem out_array18 (c : Dev nD) : (dats m 0 c).arrAt 18 cfg0.N = result18 m c := by
  refine (dats m 0 c).arrAt_eq_of_covers 18 _ (by decide +kernel) fun t hf y => ?_
  blk_simp
  rw [after0_18]
  refine out_pieces18 _ _ _ _ _ _ _ _ _ y (fun y => result18 m c (((cfg0.win 18).blk t).view.emb y)) ?_
  intro r x hr h0 h1 h2
  have hx0 : (x 0).val < 1 := (x 0).isLt
  have hx1 : (x 1).val < 1 := (x 1).isLt
  have hx2 : (x 2).val < 512 := (x 2).isLt
  have ht : t.val < 64 := t.isLt
  have p0 : ((((cfg0.win 18).blk t).view.emb y) 0 : Fin 128).val = (t.val % 16 * 4 + t.val / 16) * 2 + r := by
    have hy : (y 0).val = r := by omega
    rw [← hy]; blk_simp [idx18 t]
  have p2 : ((((cfg0.win 18).blk t).view.emb y) 2 : Fin 512).val = (x 2).val := by
    rw [← h2]; blk_simp [idx18 t]
  have hx : x = ix3 0 0 (x 2) := by
    funext d
    match d with
    | ⟨0, _⟩ => exact Fin.ext (by show (x 0).val = 0; omega)
    | ⟨1, _⟩ => exact Fin.ext (by show (x 1).val = 0; omega)
    | ⟨2, _⟩ => rfl
  rw [hx]
  refine (tile18 m c t r (x 2) (((cfg0.win 18).blk t).view.emb y 0 : Fin 128) p0 hr).trans ?_
  have hw : (x 2 : Fin 512) = (((cfg0.win 18).blk t).view.emb y 2 : Fin 512) := Fin.ext p2.symm
  rw [hw]
  rfl

end Cert.Kernel4Ideal.Result

end
-- ==== Proof.InProj.Reference.lean ====
module

public import proofs.«01_k».proof.Proof.Gen.Reference4Ideal.Read
public import proofs.«01_k».proof.Proof.InProj.Host
public import proofs.«01_k».proof.Proof.Layer.Turn
public import Idealize.ShloMosaic.Lib.Pointwise

/-! The reference's input projections read at an index, stage by stage. -/

@[expose] public section

set_option maxRecDepth 16384

noncomputable section

namespace Cert.Reference4Ideal.Result

open Cert.Reference4Ideal Cert.Reference4Ideal.Gen Cert.Reference4Ideal.Read Idealize.ShloMosaic Idealize.ShloMosaic.TcCoe
open Idealize.ShloMosaic.Pointwise
open Cert.Layer Cert.Retention
open Cert.Kernel4Ideal.Result (cosT sinT cos8T sin8T one_word)
open Cert.KernelIdeal.Host (qdecT kdecT qdecT_apply kdecT_apply)

variable (x0 : (⟨S32768x1024, .f32⟩ : BufTy).Contents (Elt Ideal)) (x1 : (⟨S1024x6656, .f32⟩ : BufTy).Contents (Elt Ideal))

/-- The rotations' tables are the ones the kernel's tables are laid out from. -/
theorem cos_eq (s : Fin 2048) (j : Fin 64) : val_main_v23 (F := Ideal) (ix2 s j) = cosT (ix2 s j) := rfl
theorem sin_eq (s : Fin 2048) (j : Fin 64) : val_main_v25 (F := Ideal) (ix2 s j) = sinT (ix2 s j) := rfl
theorem cosk_eq (s : Fin 2048) (j : Fin 64) : val_main_v47 (F := Ideal) (ix2 s j) = cosT (ix2 s j) := rfl
theorem sink_eq (s : Fin 2048) (j : Fin 64) : val_main_v49 (F := Ideal) (ix2 s j) = sinT (ix2 s j) := rfl
theorem cos8_eq (s : Fin 2048) (j : Fin 8) : val_main_v113 (F := Ideal) (ix2 s j) = cos8T (ix2 s j) := rfl
theorem sin8_eq (s : Fin 2048) (j : Fin 8) : val_main_v115 (F := Ideal) (ix2 s j) = sin8T (ix2 s j) := rfl
theorem cos8k_eq (s : Fin 2048) (j : Fin 8) : val_main_v139 (F := Ideal) (ix2 s j) = cos8T (ix2 s j) := rfl
theorem sin8k_eq (s : Fin 2048) (j : Fin 8) : val_main_v141 (F := Ideal) (ix2 s j) = sin8T (ix2 s j) := rfl

/-- A token's projection from column `o` on, and its rotations. -/
def proj (g : Fin 32768) (o : ℕ) : ℕ → EReal := fun j => project (fun k => x0 (ix2 g k)) (fun k w => x1 (ix2 k w)) (o + j)
def turned (g : Fin 32768) (o w : ℕ) : EReal :=
  turnHead (proj x0 x1 g o) (fun j => cosT (ix2 (⟨g.val % 2048, Nat.mod_lt _ (by decide)⟩ : Fin 2048) j))
    (fun j => sinT (ix2 (⟨g.val % 2048, Nat.mod_lt _ (by decide)⟩ : Fin 2048) j)) w
def turned8 (g : Fin 32768) (o w : ℕ) : EReal :=
  turnPart (proj x0 x1 g o) (fun j => cos8T (ix2 (⟨g.val % 2048, Nat.mod_lt _ (by decide)⟩ : Fin 2048) j))
    (fun j => sin8T (ix2 (⟨g.val % 2048, Nat.mod_lt _ (by decide)⟩ : Fin 2048) j)) w

/-- The token of a batch and a position. -/
def token (b : Fin 16) (s : Fin 2048) : Fin 32768 := ⟨b.val * 2048 + s.val, by omega⟩

/-- A projection's column. -/
theorem v1_apply (b : Fin 16) (s : Fin 2048) (w : Fin 6656) :
    val_main_v1 (F := Ideal) x0 x1 (ix3 b s w) = project (fun k => x0 (ix2 (token b s) k)) (fun k w => x1 (ix2 k w)) w.val := by
  pointwise [val_main_v1, val_main_v0]
  unfold project
  simp only [Nat.mod_eq_of_lt w.isLt]
  rfl

/-- The rotated queries. -/
theorem v39_apply (b : Fin 16) (s : Fin 2048) (h : Fin 4) (d : Fin 128) :
    val_main_v39 (F := Ideal) x0 x1 (ix4 b s h d) = turned x0 x1 (token b s) 0 (h.val * 128 + d.val) := by
  unfold val_main_v39 val_main_v38 val_main_v37 val_main_v36 val_main_v35 val_main_v34 val_main_v33 val_main_v32 val_main_v31 val_main_v30 val_main_v29 val_main_v28 val_main_v27 val_main_v26 val_main_v24 val_main_v16 val_main_v2
  pointwise
  simp only [v1_apply, cos_eq, sin_eq]
  unfold turned turnHead proj
  have hs : s = (⟨(token b s).val % 2048, Nat.mod_lt _ (by decide)⟩ : Fin 2048) :=
    Fin.ext (by show s.val = (b.val * 2048 + s.val) % 2048; omega)
  by_cases hd : d.val < 64
  · rw [dif_pos hd]
    refine Eq.trans ?_ (if_pos (by omega)).symm
    exact congrArg₂ (· - ·) (congrArg₂ (· * ·) (congrArg (project _ _) (by first | omega | (dsimp only; omega)))
        (congrArg₂ (fun a e => cosT (ix2 a e)) hs (Fin.ext (by first | omega | (dsimp only; omega)))))
      (congrArg₂ (· * ·) (congrArg (project _ _) (by first | omega | (dsimp only; omega)))
        (congrArg₂ (fun a e => sinT (ix2 a e)) hs (Fin.ext (by first | omega | (dsimp only; omega)))))
  · rw [dif_neg hd]
    refine Eq.trans ?_ (if_neg (by omega)).symm
    exact congrArg₂ (· + ·) (congrArg₂ (· * ·) (congrArg (project _ _) (by first | omega | (dsimp only; omega)))
        (congrArg₂ (fun a e => sinT (ix2 a e)) hs (Fin.ext (by first | omega | (dsimp only; omega)))))
      (congrArg₂ (· * ·) (congrArg (project _ _) (by first | omega | (dsimp only; omega)))
        (congrArg₂ (fun a e => cosT (ix2 a e)) hs (Fin.ext (by first | omega | (dsimp only; omega)))))

/-- The rotated keys. -/
theorem v63_apply (b : Fin 16) (s : Fin 2048) (h : Fin 4) (d : Fin 128) :
    val_main_v63 (F := Ideal) x0 x1 (ix4 b s h d) = turned x0 x1 (token b s) 512 (h.val * 128 + d.val) := by
  unfold val_main_v63 val_main_v62 val_main_v61 val_main_v60 val_main_v59 val_main_v58 val_main_v57 val_main_v56 val_main_v55 val_main_v54 val_main_v53 val_main_v52 val_main_v51 val_main_v50 val_main_v48 val_main_v40 val_main_v3
  pointwise
  simp only [v1_apply, cosk_eq, sink_eq]
  unfold turned turnHead proj
  have hs : s = (⟨(token b s).val % 2048, Nat.mod_lt _ (by decide)⟩ : Fin 2048) :=
    Fin.ext (by show s.val = (b.val * 2048 + s.val) % 2048; omega)
  by_cases hd : d.val < 64
  · rw [dif_pos hd]
    refine Eq.trans ?_ (if_pos (by omega)).symm
    exact congrArg₂ (· - ·) (congrArg₂ (· * ·) (congrArg (project _ _) (by first | omega | (dsimp only; omega)))
        (congrArg₂ (fun a e => cosT (ix2 a e)) hs (Fin.ext (by first | omega | (dsimp only; omega)))))
      (congrArg₂ (· * ·) (congrArg (project _ _) (by first | omega | (dsimp only; omega)))
        (congrArg₂ (fun a e => sinT (ix2 a e)) hs (Fin.ext (by first | omega | (dsimp only; omega)))))
  · rw [dif_neg hd]
    refine Eq.trans ?_ (if_neg (by omega)).symm
    exact congrArg₂ (· + ·) (congrArg₂ (· * ·) (congrArg (project _ _) (by first | omega | (dsimp only; omega)))
        (congrArg₂ (fun a e => sinT (ix2 a e)) hs (Fin.ext (by first | omega | (dsimp only; omega)))))
      (congrArg₂ (· * ·) (congrArg (project _ _) (by first | omega | (dsimp only; omega)))
        (congrArg₂ (fun a e => cosT (ix2 a e)) hs (Fin.ext (by first | omega | (dsimp only; omega)))))

/-- The rotated attention queries. -/
theorem v131_apply (b : Fin 16) (s : Fin 2048) (h : Fin 8) (d : Fin 64) :
    val_main_v131 (F := Ideal) x0 x1 (ix4 b s h d) = turned8 x0 x1 (token b s) 3072 (h.val * 64 + d.val) := by
  unfold val_main_v131 val_main_v130 val_main_v129 val_main_v128 val_main_v127 val_main_v126 val_main_v125 val_main_v124 val_main_v123 val_main_v122 val_main_v121 val_main_v120 val_main_v119 val_main_v118 val_main_v117 val_main_v116 val_main_v114 val_main_v106 val_main_v104 val_main_v6
  pointwise
  simp only [v1_apply, cos8_eq, sin8_eq]
  unfold turned8 turnPart proj
  have hs : s = (⟨(token b s).val % 2048, Nat.mod_lt _ (by decide)⟩ : Fin 2048) :=
    Fin.ext (by show s.val = (b.val * 2048 + s.val) % 2048; omega)
  by_cases hd : d.val < 16
  · rw [dif_pos hd]
    by_cases hd' : d.val < 8
    · rw [dif_pos hd']
      refine Eq.trans ?_ (if_pos (by omega)).symm
      exact congrArg₂ (· - ·) (congrArg₂ (· * ·) (congrArg (project _ _) (by first | omega | (dsimp only; omega)))
          (congrArg₂ (fun a e => cos8T (ix2 a e)) hs (Fin.ext (by first | omega | (dsimp only; omega)))))
        (congrArg₂ (· * ·) (congrArg (project _ _) (by first | omega | (dsimp only; omega)))
          (congrArg₂ (fun a e => sin8T (ix2 a e)) hs (Fin.ext (by first | omega | (dsimp only; omega)))))
    · rw [dif_neg hd']
      refine Eq.trans ?_ ((if_neg (by omega)).trans (if_pos (by omega))).symm
      exact congrArg₂ (· + ·) (congrArg₂ (· * ·) (congrArg (project _ _) (by first | omega | (dsimp only; omega)))
          (congrArg₂ (fun a e => sin8T (ix2 a e)) hs (Fin.ext (by first | omega | (dsimp only; omega)))))
        (congrArg₂ (· * ·) (congrArg (project _ _) (by first | omega | (dsimp only; omega)))
          (congrArg₂ (fun a e => cos8T (ix2 a e)) hs (Fin.ext (by first | omega | (dsimp only; omega)))))
  · rw [dif_neg hd]
    refine Eq.trans ?_ ((if_neg (by omega)).trans (if_neg (by omega))).symm
    exact congrArg (project _ _) (by first | omega | (dsimp only; omega))

/-- The rotated attention keys. -/
theorem v157_apply (b : Fin 16) (s : Fin 2048) (h : Fin 8) (d : Fin 64) :
    val_main_v157 (F := Ideal) x0 x1 (ix4 b s h d) = turned8 x0 x1 (token b s) 3584 (h.val * 64 + d.val) := by
  unfold val_main_v157 val_main_v156 val_main_v155 val_main_v154 val_main_v153 val_main_v152 val_main_v151 val_main_v150 val_main_v149 val_main_v148 val_main_v147 val_main_v146 val_main_v145 val_main_v144 val_main_v143 val_main_v142 val_main_v140 val_main_v132 val_main_v105 val_main_v7
  pointwise
  simp only [v1_apply, cos8k_eq, sin8k_eq]
  unfold turned8 turnPart proj
  have hs : s = (⟨(token b s).val % 2048, Nat.mod_lt _ (by decide)⟩ : Fin 2048) :=
    Fin.ext (by show s.val = (b.val * 2048 + s.val) % 2048; omega)
  by_cases hd : d.val < 16
  · rw [dif_pos hd]
    by_cases hd' : d.val < 8
    · rw [dif_pos hd']
      refine Eq.trans ?_ (if_pos (by omega)).symm
      exact congrArg₂ (· - ·) (congrArg₂ (· * ·) (congrArg (project _ _) (by first | omega | (dsimp only; omega)))
          (congrArg₂ (fun a e => cos8T (ix2 a e)) hs (Fin.ext (by first | omega | (dsimp only; omega)))))
        (congrArg₂ (· * ·) (congrArg (project _ _) (by first | omega | (dsimp only; omega)))
          (congrArg₂ (fun a e => sin8T (ix2 a e)) hs (Fin.ext (by first | omega | (dsimp only; omega)))))
    · rw [dif_neg hd']
      refine Eq.trans ?_ ((if_neg (by omega)).trans (if_pos (by omega))).symm
      exact congrArg₂ (· + ·) (congrArg₂ (· * ·) (congrArg (project _ _) (by first | omega | (dsimp only; omega)))
          (congrArg₂ (fun a e => sin8T (ix2 a e)) hs (Fin.ext (by first | omega | (dsimp only; omega)))))
        (congrArg₂ (· * ·) (congrArg (project _ _) (by first | omega | (dsimp only; omega)))
          (congrArg₂ (fun a e => cos8T (ix2 a e)) hs (Fin.ext (by first | omega | (dsimp only; omega)))))
  · rw [dif_neg hd]
    refine Eq.trans ?_ ((if_neg (by omega)).trans (if_neg (by omega))).symm
    exact congrArg (project _ _) (by first | omega | (dsimp only; omega))

/-- The exponent of the decay. -/
theorem v81_apply (i : Fin 128) (h : Fin 4) : val_main_v81 (F := Ideal) (ix2 i h) = ((lgR h * ((i.val : ℝ) + 1) : ℝ) : EReal) := by
  have hl : val_main_v73 (F := Ideal) (ix1 h) = ((lgR h : ℝ) : EReal) := by
    refine Eq.trans ?_ (log_decay h)
    pointwise [val_main_v73, val_main_v72, val_main_v71, val_main_v70, val_main_v69, val_main_v68, val_main_v67, val_main_v66,
      val_main_cst_4, val_main_cst_5, val_main_cst_6]
  unfold val_main_v81 val_main_v80 val_main_v79 val_main_v78 val_main_v77 val_main_v76 val_main_v75 val_main_v74
  pointwise [val_main_cst_7]
  rw [hl, sitofp_small _ (by omega), ← EReal.coe_one, ← EReal.coe_add, ← EReal.coe_mul]

/-- The queries' decay and the keys'. -/
theorem v83_apply (i : Fin 128) (h : Fin 4) : val_main_v83 (F := Ideal) (ix2 i h) = ((Real.exp (lgR h * ((i.val : ℝ) + 1)) : ℝ) : EReal) := by
  unfold val_main_v83
  pointwise
  rw [v81_apply, exp_coe]
theorem v89_apply (i : Fin 128) (h : Fin 4) : val_main_v89 (F := Ideal) (ix2 i h) = ((Real.exp (-lgR h * ((i.val : ℝ) + 1)) : ℝ) : EReal) := by
  unfold val_main_v89 val_main_v88
  pointwise
  rw [v81_apply, ← EReal.coe_neg, exp_coe, neg_mul]

/-- A sum over positions is read at the token of its batch and position. -/
theorem token_chunks (g : Fin 32768) : token (⟨g.val / 2048, by omega⟩ : Fin 16) (⟨g.val / 128 % 16 * 128 + g.val % 128, by omega⟩ : Fin 2048) = g :=
  Fin.ext (by show g.val / 2048 * 2048 + (g.val / 128 % 16 * 128 + g.val % 128) = g.val; omega)
theorem token_split (g : Fin 32768) : token (⟨g.val / 2048, by omega⟩ : Fin 16) (⟨g.val % 2048, by omega⟩ : Fin 2048) = g :=
  Fin.ext (by show g.val / 2048 * 2048 + g.val % 2048 = g.val; omega)
theorem col128 (w : Fin 512) : w.val / 128 * 128 + w.val % 128 = w.val := by omega
theorem col64 (w : Fin 512) : w.val / 64 * 64 + w.val % 64 = w.val := by omega

/-! The results. -/

theorem result9_apply (g : Fin 32768) (w : Fin 512) : val_main_v171 (F := Ideal) x0 x1 (ix2 g w)
    = turned x0 x1 g 0 w.val * qdecT (ix2 (⟨g.val % 256, Nat.mod_lt _ (by decide)⟩ : Fin 256) w) := by
  unfold val_main_v171 val_main_v170 val_main_v86 val_main_v85 val_main_v84 val_main_v82
  pointwise
  rw [v39_apply, v83_apply, token_chunks, qdecT_apply]
  dsimp only
  rw [col128, show g.val % 256 % 128 = g.val % 128 by omega]
theorem result10_apply (b : Fin 16) (w : Fin 512) (s : Fin 2048) : val_main_v174 (F := Ideal) x0 x1 (ix3 b w s)
    = turned x0 x1 (token b s) 512 w.val * kdecT (ix2 (⟨(token b s).val % 256, Nat.mod_lt _ (by decide)⟩ : Fin 256) w) := by
  unfold val_main_v174 val_main_v173 val_main_v172 val_main_v92 val_main_v91 val_main_v90 val_main_v87 val_main_v65 val_main_v64 val_main_cst_3
  pointwise
  rw [v63_apply, v89_apply, kdecT_apply]
  dsimp only
  rw [col128, show (token b s).val % 256 % 128 = s.val % 128 by show (b.val * 2048 + s.val) % 256 % 128 = s.val % 128; omega,
    mul_assoc, mul_comm (Ideal.ofBits .f32 0x3DB504F3#32)]
theorem result11_apply (g : Fin 32768) (w : Fin 1024) : val_main_v176 (F := Ideal) x0 x1 (ix2 g w) = proj x0 x1 g 1024 w.val := by
  unfold val_main_v176 val_main_v175 val_main_v4
  pointwise
  rw [v1_apply, token_split]
  rfl
theorem result12_apply (g : Fin 32768) (w : Fin 1024) : val_main_v179 (F := Ideal) x0 x1 (ix2 g w)
    = proj x0 x1 g 2048 w.val * Ideal.logistic (proj x0 x1 g 2048 w.val) := by
  unfold val_main_v179 val_main_v178 val_main_v177 val_main_call1_v5 val_main_call1_v4 val_main_call1_v3 val_main_call1_v2 val_main_call1_v1
    val_main_call1_v0 val_main_call1_cst val_main_call1_cst_0 val_main_v5
  pointwise
  rw [v1_apply, token_split]
  rfl
theorem result13_apply (b : Fin 16) (w : Fin 512) (s : Fin 2048) : val_main_v181 (F := Ideal) x0 x1 (ix3 b w s)
    = turned8 x0 x1 (token b s) 3072 w.val := by
  unfold val_main_v181 val_main_v180
  pointwise
  rw [v131_apply]
  dsimp only
  rw [col64]
theorem result14_apply (g : Fin 32768) (w : Fin 512) : val_main_v183 (F := Ideal) x0 x1 (ix2 g w) = turned8 x0 x1 g 3584 w.val := by
  unfold val_main_v183 val_main_v182
  pointwise
  rw [v157_apply, token_split]
  dsimp only
  rw [col64]
theorem result15_apply (b : Fin 16) (w : Fin 512) (s : Fin 2048) : val_main_v185 (F := Ideal) x0 x1 (ix3 b w s)
    = proj x0 x1 (token b s) 4096 w.val := by
  unfold val_main_v185 val_main_v184 val_main_v8
  pointwise
  rw [v1_apply]
  rfl
theorem result16_apply (g : Fin 32768) (w : Fin 1024) : val_main_v187 (F := Ideal) x0 x1 (ix2 g w) = Ideal.logistic (proj x0 x1 g 4608 w.val) := by
  unfold val_main_v187 val_main_v186 val_main_v168 val_main_v167 val_main_v166 val_main_v165 val_main_v164 val_main_v163 val_main_v162 val_main_v9
    val_main_cst_15 val_main_cst_16
  pointwise
  rw [v1_apply, token_split]
  rfl
theorem result17_apply (g : Fin 32768) (w : Fin 1024) : val_main_v189 (F := Ideal) x0 x1 (ix2 g w) = Ideal.logistic (proj x0 x1 g 5632 w.val) := by
  unfold val_main_v189 val_main_v188 val_main_v169 val_main_v167 val_main_v166 val_main_v165 val_main_v164 val_main_v163 val_main_v162 val_main_v9
    val_main_cst_15 val_main_cst_16
  pointwise
  rw [v1_apply, token_split]
  refine congrArg Ideal.logistic (congrArg (project _ _) ?_)
  dsimp only
  omega
theorem result18_apply (q : Fin 128) (w : Fin 512) : val_main_v190 (F := Ideal) x0 x1 (ix3 q 0 w)
    = Ideal.div (∑ i : Fin 256, turned8 x0 x1 ⟨q.val * 256 + i.val, by omega⟩ 3584 w.val) (Ideal.ofBits .f32 0x43800000#32) := by
  unfold val_main_v190 val_main_v161 val_main_v160 val_main_v159 val_main_v158 val_main_cst_13 val_main_cst_14
  pointwise
  refine congrArg (fun z => Ideal.div z (Ideal.ofBits .f32 0x43800000#32)) (Finset.sum_congr rfl fun i _ => ?_)
  rw [v157_apply]
  dsimp only
  rw [col64]
  refine congrArg (fun g => turned8 x0 x1 g 3584 w.val) (Fin.ext ?_)
  show q.val / 8 * 2048 + (q.val % 8 * 256 + i.val) = q.val * 256 + i.val
  omega

end Cert.Reference4Ideal.Result

end
-- ==== Proof.Retention.Store.lean ====
module

public import proofs.«01_k».proof.Proof.Retention.Tile

/-! The sixty-four pieces the retention kernel stores, each one tile (Tile.lean). -/

@[expose] public section

set_option maxRecDepth 16384

noncomputable section

namespace Cert.KernelIdeal.Tile

open Cert.KernelIdeal Cert.KernelIdeal.Gen Idealize.ShloMosaic Idealize.ShloMosaic.TcCoe Idealize.SL.Sem

set_option maxHeartbeats 0 in -- sixty-four pieces, each a whole tile's text, in one statement
/-- The window the kernel leaves is, cell by cell, the piece of the cell's chunk and head. -/
theorem out_tiles (c : Dev nD) (i : grid0.Coords) (arg2 : Memref sig .tc .vmem S1x2048x512 .bf16) (harg2 : arg2.IsWhole) (arg3 : Memref sig .tc .vmem S1x512x2048 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x2048x1024 .bf16) (harg6 : arg6.IsWhole) (arg7 : Memref sig .tc .vmem S4x128x256 .f32) (harg7 : arg7.IsWhole) (hc0) (x0 : Vec Ideal S1x2048x512 .bf16) (x1 : Vec Ideal S1x512x2048 .bf16) (x2 x3 : Vec Ideal S1x2048x1024 .bf16)
   (y) (G : S1x2048x1024.Idx → Elt Ideal .bf16)
   (hG : ∀ (n : ℕ) (h : Fin 4) (x : S1x128x256.Idx), (y 0).val = (x 0).val → (y 1).val = n * 128 + (x 1).val → (y 2).val = h.val * 256 + (x 2).val →
      tileT x0 x1 x2 x3 n h x = G y) :
   out0_A_4 c i arg2 harg2 arg3 harg3 arg4 harg4 arg5 harg5 arg6 harg6 arg7 harg7 hc0 x0 x1 x2 x3 y = G y := by
  unfold out0_A_4
  rw [View.read_writes_eq_canon _ _ _ (cover0_A_4 c _ _ _ _ _ _ _ _ _ _ _ _ _ _ _ _ _ _)]
  frame_open
  canon_tiles x h
  all_goals
    unfold_payloads
    frame_out
    simp (disch := decide) only [↓side_eq, ↓over_eq, View.readCov_fill, harg2.read_unread, harg3.read_unread, harg4.read_unread,
      harg5.read_unread, ld_q, ld_k, ld_v, state_zero, decayT_0, decayT_1, decayT_2, decayT_3, state_one, state_step, Nat.reduceAdd]
  case piece0 => exact hG 15 3 x (by simpa using h0) (by simpa using h1) (by simpa using h2)
  case piece1 => exact hG 15 2 x (by simpa using h0) (by simpa using h1) (by simpa using h2)
  case piece2 => exact hG 15 1 x (by simpa using h0) (by simpa using h1) (by simpa using h2)
  case piece3 => exact hG 15 0 x (by simpa using h0) (by simpa using h1) (by simpa using h2)
  case piece4 => exact hG 14 3 x (by simpa using h0) (by simpa using h1) (by simpa using h2)
  case piece5 => exact hG 14 2 x (by simpa using h0) (by simpa using h1) (by simpa using h2)
  case piece6 => exact hG 14 1 x (by simpa using h0) (by simpa using h1) (by simpa using h2)
  case piece7 => exact hG 14 0 x (by simpa using h0) (by simpa using h1) (by simpa using h2)
  case piece8 => exact hG 13 3 x (by simpa using h0) (by simpa using h1) (by simpa using h2)
  case piece9 => exact hG 13 2 x (by simpa using h0) (by simpa using h1) (by simpa using h2)
  case piece10 => exact hG 13 1 x (by simpa using h0) (by simpa using h1) (by simpa using h2)
  case piece11 => exact hG 13 0 x (by simpa using h0) (by simpa using h1) (by simpa using h2)
  case piece12 => exact hG 12 3 x (by simpa using h0) (by simpa using h1) (by simpa using h2)
  case piece13 => exact hG 12 2 x (by simpa using h0) (by simpa using h1) (by simpa using h2)
  case piece14 => exact hG 12 1 x (by simpa using h0) (by simpa using h1) (by simpa using h2)
  case piece15 => exact hG 12 0 x (by simpa using h0) (by simpa using h1) (by simpa using h2)
  case piece16 => exact hG 11 3 x (by simpa using h0) (by simpa using h1) (by simpa using h2)
  case piece17 => exact hG 11 2 x (by simpa using h0) (by simpa using h1) (by simpa using h2)
  case piece18 => exact hG 11 1 x (by simpa using h0) (by simpa using h1) (by simpa using h2)
  case piece19 => exact hG 11 0 x (by simpa using h0) (by simpa using h1) (by simpa using h2)
  case piece20 => exact hG 10 3 x (by simpa using h0) (by simpa using h1) (by simpa using h2)
  case piece21 => exact hG 10 2 x (by simpa using h0) (by simpa using h1) (by simpa using h2)
  case piece22 => exact hG 10 1 x (by simpa using h0) (by simpa using h1) (by simpa using h2)
  case piece23 => exact hG 10 0 x (by simpa using h0) (by simpa using h1) (by simpa using h2)
  case piece24 => exact hG 9 3 x (by simpa using h0) (by simpa using h1) (by simpa using h2)
  case piece25 => exact hG 9 2 x (by simpa using h0) (by simpa using h1) (by simpa using h2)
  case piece26 => exact hG 9 1 x (by simpa using h0) (by simpa using h1) (by simpa using h2)
  case piece27 => exact hG 9 0 x (by simpa using h0) (by simpa using h1) (by simpa using h2)
  case piece28 => exact hG 8 3 x (by simpa using h0) (by simpa using h1) (by simpa using h2)
  case piece29 => exact hG 8 2 x (by simpa using h0) (by simpa using h1) (by simpa using h2)
  case piece30 => exact hG 8 1 x (by simpa using h0) (by simpa using h1) (by simpa using h2)
  case piece31 => exact hG 8 0 x (by simpa using h0) (by simpa using h1) (by simpa using h2)
  case piece32 => exact hG 7 3 x (by simpa using h0) (by simpa using h1) (by simpa using h2)
  case piece33 => exact hG 7 2 x (by simpa using h0) (by simpa using h1) (by simpa using h2)
  case piece34 => exact hG 7 1 x (by simpa using h0) (by simpa using h1) (by simpa using h2)
  case piece35 => exact hG 7 0 x (by simpa using h0) (by simpa using h1) (by simpa using h2)
  case piece36 => exact hG 6 3 x (by simpa using h0) (by simpa using h1) (by simpa using h2)
  case piece37 => exact hG 6 2 x (by simpa using h0) (by simpa using h1) (by simpa using h2)
  case piece38 => exact hG 6 1 x (by simpa using h0) (by simpa using h1) (by simpa using h2)
  case piece39 => exact hG 6 0 x (by simpa using h0) (by simpa using h1) (by simpa using h2)
  case piece40 => exact hG 5 3 x (by simpa using h0) (by simpa using h1) (by simpa using h2)
  case piece41 => exact hG 5 2 x (by simpa using h0) (by simpa using h1) (by simpa using h2)
  case piece42 => exact hG 5 1 x (by simpa using h0) (by simpa using h1) (by simpa using h2)
  case piece43 => exact hG 5 0 x (by simpa using h0) (by simpa using h1) (by simpa using h2)
  case piece44 => exact hG 4 3 x (by simpa using h0) (by simpa using h1) (by simpa using h2)
  case piece45 => exact hG 4 2 x (by simpa using h0) (by simpa using h1) (by simpa using h2)
  case piece46 => exact hG 4 1 x (by simpa using h0) (by simpa using h1) (by simpa using h2)
  case piece47 => exact hG 4 0 x (by simpa using h0) (by simpa using h1) (by simpa using h2)
  case piece48 => exact hG 3 3 x (by simpa using h0) (by simpa using h1) (by simpa using h2)
  case piece49 => exact hG 3 2 x (by simpa using h0) (by simpa using h1) (by simpa using h2)
  case piece50 => exact hG 3 1 x (by simpa using h0) (by simpa using h1) (by simpa using h2)
  case piece51 => exact hG 3 0 x (by simpa using h0) (by simpa using h1) (by simpa using h2)
  case piece52 => exact hG 2 3 x (by simpa using h0) (by simpa using h1) (by simpa using h2)
  case piece53 => exact hG 2 2 x (by simpa using h0) (by simpa using h1) (by simpa using h2)
  case piece54 => exact hG 2 1 x (by simpa using h0) (by simpa using h1) (by simpa using h2)
  case piece55 => exact hG 2 0 x (by simpa using h0) (by simpa using h1) (by simpa using h2)
  case piece56 => exact hG 1 3 x (by simpa using h0) (by simpa using h1) (by simpa using h2)
  case piece57 => exact hG 1 2 x (by simpa using h0) (by simpa using h1) (by simpa using h2)
  case piece58 => exact hG 1 1 x (by simpa using h0) (by simpa using h1) (by simpa using h2)
  case piece59 => exact hG 1 0 x (by simpa using h0) (by simpa using h1) (by simpa using h2)
  case piece60 => exact hG 0 3 x (by simpa using h0) (by simpa using h1) (by simpa using h2)
  case piece61 => exact hG 0 2 x (by simpa using h0) (by simpa using h1) (by simpa using h2)
  case piece62 => exact hG 0 1 x (by simpa using h0) (by simpa using h1) (by simpa using h2)
  case piece63 => exact hG 0 0 x (by simpa using h0) (by simpa using h1) (by simpa using h2)

end Cert.KernelIdeal.Tile

end
-- ==== Proof.Retention.Index.lean ====
module

public import proofs.«01_k».proof.Proof.Retention.Tile
public import proofs.«01_k».proof.Proof.Retention.Algebra

/-! The kernel's tiles read at an index: the state is the folded recurrence, a chunk's output the folded row, and
    the stored piece the row's norm times the gate. -/

@[expose] public section

set_option maxRecDepth 16384

noncomputable section

namespace Cert.KernelIdeal.Tile

open Cert.KernelIdeal Cert.KernelIdeal.Gen Idealize.ShloMosaic Idealize.ShloMosaic.TcCoe Idealize.SL.Sem
open Idealize.ShloMosaic.Pointwise
open Cert.Retention

/-- The transposed keys of a head, by chunk. -/
def ktOf (h : Fin 4) (x1 : Vec Ideal S1x512x2048 .bf16) : ℕ → Fin 128 → Fin 128 → EReal :=
  fun n d j => kAt x1 (h.val * 128) (n * 128) (ix3 0 d j)

/-- The values of a head, by chunk. -/
def vOf (h : Fin 4) (x2 : Vec Ideal S1x2048x1024 .bf16) : ℕ → Fin 128 → Fin 256 → EReal :=
  fun n j e => vAt x2 (n * 128) (h.val * 256) (ix3 0 j e)

/-- The state read at an index. -/
theorem stateT_apply (h : Fin 4) (x1 : Vec Ideal S1x512x2048 .bf16) (x2 : Vec Ideal S1x2048x1024 .bf16) (n : ℕ)
    (d : Fin 128) (e : Fin 256) :
    stateT h x1 x2 n (ix2 d e) = scanFolded (decayT h) (ktOf h x1) (vOf h x2) n d e := by
  induction n with
  | zero => pointwise [stateT, scanFolded]
  | succ n ih =>
    rw [scanFolded, ← ih, stateT]
    generalize stateT h x1 x2 n = st
    generalize decayT h = g
    unfold ktOf vOf
    pointwise

/-- The kernel's mask is the order of the two positions. -/
theorem mask_le : ∀ x i : Fin 128,
    IntOp.cmpi CmpIPredicate.sle (BitVec.ofNat 32 x.val) (BitVec.ofNat 32 i.val) = BitVec.ofBool (decide (x ≤ i)) := by
  decide +kernel

/-- A chunk's output read at an index. -/
theorem outT_apply (q : Vec Ideal S1x128x128 .bf16) (kt : Vec Ideal S1x128x128 .bf16) (v : Vec Ideal S1x128x256 .bf16)
    (st : FVec Ideal S128x256 .f32) (i : Fin 128) (e : Fin 256) :
    outT q kt v st (ix2 i e)
      = rowFolded i (fun d => q (ix3 0 i d)) (fun d j => kt (ix3 0 d j)) (fun j e => v (ix3 0 j e)) (fun d e => st (ix2 d e)) e := by
  unfold rowFolded
  pointwise [outT, sideT, overT]
  congr 1
  refine Finset.sum_congr rfl fun x _ => ?_
  rw [mask_le, Scalar.select_ofBool]
  by_cases hx : x ≤ i <;> simp [hx]

/-- The stored piece read at an index. -/
theorem pieceT_apply (o : FVec Ideal S128x256 .f32) (g : Vec Ideal S1x128x256 .bf16) (i : Fin 128) (e : Fin 256) :
    pieceT o g (ix3 0 i e)
      = normRow (fun e => o (ix2 i e)) (Ideal.ofBits .f32 0x43800000#32) (Ideal.ofBits .f32 0x3727C5AC#32) e * g (ix3 0 i e) := by
  unfold normRow
  pointwise [pieceT, centreT, meanT]

end Cert.KernelIdeal.Tile

end
-- ==== Proof.Retention.Kernel.lean ====
module

public import proofs.«01_k».proof.Proof.Retention.Store
public import proofs.«01_k».proof.Proof.Retention.Index
public import proofs.«01_k».proof.Proof.Retention.Host

/-! What the retention kernel leaves in its output array, as a function of the launch's arguments. -/

@[expose] public section

set_option maxRecDepth 16384

noncomputable section

namespace Cert.KernelIdeal.Result

open Cert.KernelIdeal Cert.KernelIdeal.Gen Idealize.ShloMosaic Idealize.ShloMosaic.TcCoe Idealize.SL.Sem
open Idealize.ShloMosaic.Pointwise
open Idealize.ShloMosaic.Pipeline (Dat)
open Cert.Retention Cert.KernelIdeal.Tile Cert.KernelIdeal.Host

variable (m : (ℓ : Loc nD τ sig) → Buf (Elt Ideal) ℓ)

/-- The windows' index maps: the batch, whole otherwise. -/
theorem idx_all : ∀ t : Fin cfg0.N,
    win0_0.index t = ![t.val, 0, 0] ∧ win0_1.index t = ![t.val, 0, 0] ∧ win0_2.index t = ![t.val, 0, 0]
      ∧ win0_3.index t = ![t.val, 0, 0] ∧ win0_4.index t = ![t.val, 0, 0] :=
  (by decide +kernel : ∀ t : Fin grid0.N,
    win0_0.index t = ![t.val, 0, 0] ∧ win0_1.index t = ![t.val, 0, 0] ∧ win0_2.index t = ![t.val, 0, 0]
      ∧ win0_3.index t = ![t.val, 0, 0] ∧ win0_4.index t = ![t.val, 0, 0])

/-- The batch of a grid point. -/
def batch (t : Fin cfg0.N) : Fin 16 := ⟨t.val, t.isLt⟩

theorem blk_q (c : Dev nD) (t : Fin cfg0.N) (s : Fin 2048) (w : Fin 512) :
    iblk m c 0 t (ix3 0 s w) = V m c main_v37 (ix3 (batch t) s w) := by
  blk_ext [iblk, batch, (idx_all t).1]

theorem blk_k (c : Dev nD) (t : Fin cfg0.N) (w : Fin 512) (s : Fin 2048) :
    iblk m c 1 t (ix3 0 w s) = V m c main_v44 (ix3 (batch t) w s) := by
  blk_ext [iblk, batch, (idx_all t).2.1]

theorem blk_v (c : Dev nD) (t : Fin cfg0.N) (s : Fin 2048) (w : Fin 1024) :
    iblk m c 2 t (ix3 0 s w) = argV m c (batch t) s w := by
  unfold argV
  rw [← V_main_arg2 m c]
  blk_ext [iblk, batch, (idx_all t).2.2.1]

theorem blk_g (c : Dev nD) (t : Fin cfg0.N) (s : Fin 2048) (w : Fin 1024) :
    iblk m c 3 t (ix3 0 s w) = argG m c (batch t) s w := by
  unfold argG
  rw [← V_main_arg3 m c]
  blk_ext [iblk, batch, (idx_all t).2.2.2.1]

/-- The blocks' tiles at an index. -/
theorem qAt_apply (x : Vec Ideal S1x2048x512 .bf16) (a b : ℕ) (i d : Fin 128) :
    qAt x a b (ix3 0 i d) = x (ix3 0 (⟨(a + i.val) % 2048, Nat.mod_lt _ (by decide)⟩ : Fin 2048) (⟨(b + d.val) % 512, Nat.mod_lt _ (by decide)⟩ : Fin 512)) := by
  unfold qAt
  blk_ext
theorem kAt_apply (x : Vec Ideal S1x512x2048 .bf16) (a b : ℕ) (d j : Fin 128) :
    kAt x a b (ix3 0 d j) = x (ix3 0 (⟨(a + d.val) % 512, Nat.mod_lt _ (by decide)⟩ : Fin 512) (⟨(b + j.val) % 2048, Nat.mod_lt _ (by decide)⟩ : Fin 2048)) := by
  unfold kAt
  blk_ext
theorem vAt_apply (x : Vec Ideal S1x2048x1024 .bf16) (a b : ℕ) (j : Fin 128) (e : Fin 256) :
    vAt x a b (ix3 0 j e) = x (ix3 0 (⟨(a + j.val) % 2048, Nat.mod_lt _ (by decide)⟩ : Fin 2048) (⟨(b + e.val) % 1024, Nat.mod_lt _ (by decide)⟩ : Fin 1024)) := by
  unfold vAt
  blk_ext

/-- The scores' scale. -/
def scale : EReal := Ideal.ofBits .f32 0x3DB504F3#32

/-- A head's decayed queries. -/
theorem head_q (c : Dev nD) (t : Fin cfg0.N) (h : Fin 4) (n : ℕ) (i d : Fin 128) :
    qAt (iblk m c 0 t) (n * 128) (h.val * 128) (ix3 0 i d)
      = headK (argQ m c) (batch t) h n i d * ((Real.exp (lgR h * ((i : ℝ) + 1)) : ℝ) : EReal) := by
  rw [qAt_apply]
  refine (blk_q m c t _ _).trans ?_
  rw [queries_apply]
  have e0 : (⟨(h.val * 128 + d.val) % 512, Nat.mod_lt _ (by decide)⟩ : Fin 512) = ⟨h.val * 128 + d.val, by omega⟩ := Fin.ext (by
    show (h.val * 128 + d.val) % 512 = h.val * 128 + d.val; omega)
  have e1 : (⟨(h.val * 128 + d.val) % 512 / 128, by omega⟩ : Fin 4) = h := Fin.ext (by
    show (h.val * 128 + d.val) % 512 / 128 = h.val; omega)
  have e2 : (n * 128 + i.val) % 2048 % 128 = i.val := by omega
  simp only [e0, e1, e2]
  rfl

/-- A head's decayed and scaled transposed keys. -/
theorem head_k (c : Dev nD) (t : Fin cfg0.N) (h : Fin 4) :
    ktOf h (iblk m c 1 t) = fun n d j => headK (argK m c) (batch t) h n j d
      * (((Real.exp (-lgR h * ((j : ℝ) + 1)) : ℝ) : EReal) * scale) := by
  funext n d j
  unfold ktOf
  rw [kAt_apply]
  refine (blk_k m c t _ _).trans ?_
  rw [keys_apply]
  have e0 : (⟨(h.val * 128 + d.val) % 512, Nat.mod_lt _ (by decide)⟩ : Fin 512) = ⟨h.val * 128 + d.val, by omega⟩ := Fin.ext (by
    show (h.val * 128 + d.val) % 512 = h.val * 128 + d.val; omega)
  have e1 : (⟨(h.val * 128 + d.val) % 512 / 128, by omega⟩ : Fin 4) = h := Fin.ext (by
    show (h.val * 128 + d.val) % 512 / 128 = h.val; omega)
  have e2 : (n * 128 + j.val) % 2048 % 128 = j.val := by omega
  simp only [e0, e1, e2]
  rfl

/-- A head's values. -/
theorem head_v (c : Dev nD) (t : Fin cfg0.N) (h : Fin 4) :
    vOf h (iblk m c 2 t) = headV (argV m c) (batch t) h := by
  funext n j e
  unfold vOf
  rw [vAt_apply]
  refine (blk_v m c t _ _).trans ?_
  have e0 : (⟨(h.val * 256 + e.val) % 1024, Nat.mod_lt _ (by decide)⟩ : Fin 1024) = ⟨h.val * 256 + e.val, by omega⟩ := Fin.ext (by
    show (h.val * 256 + e.val) % 1024 = h.val * 256 + e.val; omega)
  rw [e0]
  rfl

/-- A head's gate. -/
theorem head_g (c : Dev nD) (t : Fin cfg0.N) (h : Fin 4) (n : ℕ) (i : Fin 128) (e : Fin 256) :
    vAt (iblk m c 3 t) (n * 128) (h.val * 256) (ix3 0 i e) = headV (argG m c) (batch t) h n i e := by
  rw [vAt_apply]
  refine (blk_g m c t _ _).trans ?_
  have e0 : (⟨(h.val * 256 + e.val) % 1024, Nat.mod_lt _ (by decide)⟩ : Fin 1024) = ⟨h.val * 256 + e.val, by omega⟩ := Fin.ext (by
    show (h.val * 256 + e.val) % 1024 = h.val * 256 + e.val; omega)
  rw [e0]
  rfl

/-- A tile's entry is the normed and gated retention. -/
theorem tile_apply (c : Dev nD) (t : Fin cfg0.N) (h : Fin 4) (n : ℕ) (i : Fin 128) (e : Fin 256) :
    tileT (iblk m c 0 t) (iblk m c 1 t) (iblk m c 2 t) (iblk m c 3 t) n h (ix3 0 i e)
      = normRow (fun e => retained (lgR h) scale (argQ m c) (argK m c) (argV m c) (batch t) h n i e)
          (Ideal.ofBits .f32 0x43800000#32) (Ideal.ofBits .f32 0x3727C5AC#32) e
        * headV (argG m c) (batch t) h n i e := by
  unfold tileT
  rw [pieceT_apply]
  congr 1
  · congr 1
    funext e
    rw [outT_apply]
    have hst : (fun d e => stateT h (iblk m c 1 t) (iblk m c 2 t) n (ix2 d e))
        = scanFolded (decayT h) (ktOf h (iblk m c 1 t)) (vOf h (iblk m c 2 t)) n := by
      funext d e
      exact stateT_apply ..
    have hkt : (fun d j => kAt (iblk m c 1 t) (h.val * 128) (n * 128) (ix3 0 d j)) = ktOf h (iblk m c 1 t) n := rfl
    have hv : (fun j e => vAt (iblk m c 2 t) (n * 128) (h.val * 256) (ix3 0 j e)) = vOf h (iblk m c 2 t) n := rfl
    rw [hst, hkt, hv, head_k, head_v, decayT_real]
    simp only [head_q]
    exact row_eq (lgR h) scale (headK (argK m c) (batch t) h) (headV (argV m c) (batch t) h) (headK (argQ m c) (batch t) h n i) i n e
  · exact head_g m c t h n i e

/-- The retention kernel's result. -/
def result (c : Dev nD) : S16x2048x1024.Idx → Elt Ideal .bf16 := fun I =>
  normed scale (Ideal.ofBits .f32 0x43800000#32) (Ideal.ofBits .f32 0x3727C5AC#32) (argQ m c) (argK m c) (argV m c) (argG m c) (I 0) (I 1) (I 2)

/-- What the kernel leaves in its output array. -/
theorem out_array (c : Dev nD) : (dats m 0 c).arrAt 4 cfg0.N = result m c := by
  refine (dats m 0 c).arrAt_eq_of_covers 4 _ (by decide +kernel) fun t hf y => ?_
  blk_simp
  rw [after0_4]
  unfold outsAt0
  refine out_tiles c _ _ _ _ _ _ _ _ _ _ _ _ _ _ _ _ _ _ y (fun y => result m c (((cfg0.win 4).blk t).view.emb y)) ?_
  intro n h x h0 h1 h2
  have hx0 : (x 0).val < 1 := (x 0).isLt
  have hx1 : (x 1).val < 128 := (x 1).isLt
  have hx2 : (x 2).val < 256 := (x 2).isLt
  have hy1 : (y 1).val < 2048 := (y 1).isLt
  have hi := (idx_all t).2.2.2.2
  have p0 : ((((cfg0.win 4).blk t).view.emb y) 0 : Fin 16).val = t.val := by
    have h0' : (y 0).val = 0 := by omega
    blk_simp [hi, h0']
  have p1 : ((((cfg0.win 4).blk t).view.emb y) 1 : Fin 2048).val = n * 128 + (x 1).val := by
    rw [← h1]; blk_simp [hi]
  have p2 : ((((cfg0.win 4).blk t).view.emb y) 2 : Fin 1024).val = h.val * 256 + (x 2).val := by
    rw [← h2]; blk_simp [hi]
  have hx : x = ix3 0 (x 1) (x 2) := by blk_ext
  rw [hx]
  refine (tile_apply m c t h n (x 1) (x 2)).trans ?_
  show _ = normed _ _ _ _ _ _ _ ((((cfg0.win 4).blk t).view.emb y) 0) ((((cfg0.win 4).blk t).view.emb y) 1) ((((cfg0.win 4).blk t).view.emb y) 2)
  generalize (((cfg0.win 4).blk t).view.emb y 0 : Fin 16) = b at p0
  generalize (((cfg0.win 4).blk t).view.emb y 1 : Fin 2048) = s at p1
  generalize (((cfg0.win 4).blk t).view.emb y 2 : Fin 1024) = w at p2
  have hb : b = batch t := Fin.ext p0
  have hs1 : s.val / 128 = n := by omega
  have hs2 : (⟨s.val % 128, Nat.mod_lt _ (by decide)⟩ : Fin 128) = x 1 := Fin.ext (by show s.val % 128 = (x 1).val; omega)
  have hw1 : (⟨w.val / 256, by omega⟩ : Fin 4) = h := Fin.ext (by show w.val / 256 = h.val; omega)
  have hw2 : (⟨w.val % 256, Nat.mod_lt _ (by decide)⟩ : Fin 256) = x 2 := Fin.ext (by show w.val % 256 = (x 2).val; omega)
  unfold normed
  simp only [hs1, hs2, hw1, hw2, hb]
  congr 1
  unfold headV
  congr 1
  · exact Fin.ext (by show (n * 128 + (x 1).val) % 2048 = s.val; omega)
  · exact Fin.ext (by show h.val * 256 + (x 2).val = w.val; omega)

end Cert.KernelIdeal.Result

end
-- ==== Proof.Retention.Reference.lean ====
module

public import proofs.«01_k».proof.Proof.Gen.ReferenceIdeal.Read
public import proofs.«01_k».proof.Proof.Retention.Const
public import Idealize.ShloMosaic.Lib.Pointwise

/-! The reference's retention read at an index, stage by stage. -/

@[expose] public section

set_option maxRecDepth 16384

noncomputable section

namespace Cert.ReferenceIdeal.Result

open Cert.ReferenceIdeal Cert.ReferenceIdeal.Gen Cert.ReferenceIdeal.Read Idealize.ShloMosaic Idealize.ShloMosaic.TcCoe
open Idealize.ShloMosaic.Pointwise
open Cert.Retention

variable (x0 x1 : (⟨S16x2048x512, .f32⟩ : BufTy).Contents (Elt Ideal)) (x2 x3 : (⟨S16x2048x1024, .bf16⟩ : BufTy).Contents (Elt Ideal))

/-- An argument as a function of its three coordinates. -/
def fQ : Fin 16 → Fin 2048 → Fin 512 → EReal := fun b s w => x0 (ix3 b s w)
def fV : Fin 16 → Fin 2048 → Fin 1024 → EReal := fun b s w => x2 (ix3 b s w)

/-- The scores' scale. -/
def scale : EReal := Ideal.ofBits .f32 0x3DB504F3#32

/-- The logarithms of the decays. -/
theorem log_apply (h : Fin 4) : val_main_v13 (F := Ideal) (ix1 h) = ((lgR h : ℝ) : EReal) := by
  refine Eq.trans ?_ (log_decay h)
  pointwise [val_main_v13, val_main_v12, val_main_v11, val_main_v10, val_main_v9, val_main_v8, val_main_v7, val_main_v6,
    val_main_cst, val_main_cst_0, val_main_cst_1, val_main_cst_2]

/-- A query. -/
theorem q_apply (b : Fin 16) (h : Fin 4) (n : Fin 16) (i d : Fin 128) :
    val_main_v15 (F := Ideal) x0 (ix5 b h n i d) = headK (fQ x0) b h n.val i d := by
  pointwise [val_main_v15, val_main_v14, val_main_v0]
  unfold headK fQ
  simp only [Nat.mod_eq_of_lt (show n.val * 128 + i.val < 2048 by omega)]

/-- A scaled key. -/
theorem k_apply (b : Fin 16) (h : Fin 4) (n : Fin 16) (i d : Fin 128) :
    val_main_v17 (F := Ideal) x1 (ix5 b h n i d) = headK (fQ x1) b h n.val i d * scale := by
  pointwise [val_main_v17, val_main_v16, val_main_v3, val_main_v2, val_main_v1, val_main_cst]
  unfold scale headK fQ
  simp only [Nat.mod_eq_of_lt (show n.val * 128 + i.val < 2048 by omega)]

/-- A value. -/
theorem v_apply (b : Fin 16) (h : Fin 4) (n : Fin 16) (i : Fin 128) (e : Fin 256) :
    val_main_v19 (F := Ideal) x2 (ix5 b h n i e) = headV (fV x2) b h n.val i e := by
  pointwise [val_main_v19, val_main_v18, val_main_v5, val_main_v4]
  unfold headV fV
  simp only [Nat.mod_eq_of_lt (show n.val * 128 + i.val < 2048 by omega)]

/-- The decay from one position of a chunk to another. -/
theorem decay_apply (h : Fin 4) (i j : Fin 128) :
    val_main_v36 (F := Ideal) (ix3 h i j) = if j ≤ i then ((Real.exp (lgR h * ((i : ℝ) - (j : ℝ))) : ℝ) : EReal) else 0 := by
  unfold val_main_v36 val_main_call0_v1 val_main_call0_v2 val_main_call0_v0 val_main_v35 val_main_v34 val_main_v33 val_main_v32 val_main_v31
    val_main_v30 val_main_v29 val_main_v28 val_main_v27 val_main_v26 val_main_v25 val_main_v24 val_main_v23 val_main_v22 val_main_v21
  pointwise [val_main_v20, val_main_cst_3, val_main_cst_4, val_main_cst_5, id]
  rw [log_apply, sitofp_small _ (by omega), sitofp_small _ (by omega), ← EReal.coe_sub]
  by_cases hij : j ≤ i
  · have hr : (0 : ℝ) ≤ (i.val : ℝ) - (j.val : ℝ) := sub_nonneg.mpr (by exact_mod_cast hij)
    have he : (0 : EReal) ≤ (((i.val : ℝ) - (j.val : ℝ) : ℝ) : EReal) := by exact_mod_cast hr
    rw [if_pos hij, if_pos he, max_eq_left he, ← EReal.coe_mul, exp_coe]
  · have hr : ¬ (0 : ℝ) ≤ (i.val : ℝ) - (j.val : ℝ) := by
      rw [sub_nonneg]; exact_mod_cast hij
    have he : ¬ (0 : EReal) ≤ (((i.val : ℝ) - (j.val : ℝ) : ℝ) : EReal) := by exact_mod_cast hr
    rw [if_neg hij, if_neg he]

/-- The decay to a chunk's end. -/
theorem toEnd_apply (h : Fin 4) (j : Fin 128) :
    val_main_v50 (F := Ideal) (ix2 h j) = ((Real.exp (lgR h * (127 - (j : ℝ))) : ℝ) : EReal) := by
  unfold val_main_v50 val_main_v49 val_main_v48 val_main_v47 val_main_v46 val_main_v45 val_main_v44 val_main_v43
  pointwise [val_main_v20, val_main_cst_6]
  rw [log_apply, sitofp_small _ (by omega), lit_127, ← EReal.coe_sub, ← EReal.coe_mul, exp_coe]

/-- The decay from a chunk's start. -/
theorem fromStart_apply (h : Fin 4) (i : Fin 128) :
    val_main_v165 (F := Ideal) (ix2 h i) = ((Real.exp (lgR h * ((i : ℝ) + 1)) : ℝ) : EReal) := by
  unfold val_main_v165 val_main_v164 val_main_v163 val_main_v162 val_main_v161 val_main_v160 val_main_v159 val_main_v158
  pointwise [val_main_v20, val_main_cst_9]
  rw [log_apply, sitofp_small _ (by omega), ← EReal.coe_one, ← EReal.coe_add, ← EReal.coe_mul, exp_coe]

/-- The decay over a chunk. -/
theorem over_apply (h : Fin 4) :
    val_main_v58 (F := Ideal) (ix1 h) = ((Real.exp (lgR h * 128) : ℝ) : EReal) := by
  unfold val_main_v58 val_main_v57 val_main_v56
  pointwise [val_main_cst_7]
  rw [log_apply, lit_128, ← EReal.coe_mul, exp_coe]

/-- The state before chunk `n` of batch `b`, head `h`. -/
def stateR (b : Fin 16) (h : Fin 4) : ℕ → Fin 128 → Fin 256 → EReal :=
  scanPlain ((Real.exp (lgR h * 128) : ℝ) : EReal)
    (fun n j d => (headK (fQ x1) b h n j d * scale) * ((Real.exp (lgR h * (127 - (j : ℝ))) : ℝ) : EReal)) (headV (fV x2) b h)

/-- A chunk's contribution to the state. -/
theorem kv_apply (n : Fin 16) (b : Fin 16) (h : Fin 4) (d : Fin 128) (e : Fin 256) :
    val_main_v55 (F := Ideal) x1 x2 (ix5 n b h d e)
      = ∑ j, ((headK (fQ x1) b h n.val j d * scale) * ((Real.exp (lgR h * (127 - (j : ℝ))) : ℝ) : EReal)) * headV (fV x2) b h n.val j e := by
  unfold val_main_v55 val_main_v54 val_main_v53 val_main_v52 val_main_v51
  pointwise
  refine Finset.sum_congr rfl fun j _ => ?_
  rw [k_apply, v_apply, toEnd_apply]

/-- The state's step, from what its stages read. -/
theorem state_step (b : Fin 16) (h : Fin 4) (d : Fin 128) (e : Fin 256) (n : Fin 16) (s : EReal)
    (hs : s = stateR x1 x2 b h n.val d e) :
    val_main_v58 (F := Ideal) (ix1 h) * s + val_main_v55 (F := Ideal) x1 x2 (ix5 n b h d e) = stateR x1 x2 b h (n.val + 1) d e := by
  rw [hs, over_apply, kv_apply]
  rfl

/-- The states, chunk by chunk. -/
theorem state_0 (b : Fin 16) (h : Fin 4) (d : Fin 128) (e : Fin 256) :
    val_main_v60 (F := Ideal) (ix4 b h d e) = stateR x1 x2 b h 0 d e := by
  pointwise [val_main_v60, val_main_cst_8]
  rfl
theorem state_1 (b : Fin 16) (h : Fin 4) (d : Fin 128) (e : Fin 256) :
    val_main_v65 (F := Ideal) x1 x2 (ix4 b h d e) = stateR x1 x2 b h 1 d e := by
  refine Eq.trans ?_ (state_step x1 x2 b h d e 0 _ (state_0 x1 x2 b h d e))
  pointwise [val_main_v65, val_main_v64, val_main_v63, val_main_v62, val_main_v61, val_main_v59]
theorem state_2 (b : Fin 16) (h : Fin 4) (d : Fin 128) (e : Fin 256) :
    val_main_v70 (F := Ideal) x1 x2 (ix4 b h d e) = stateR x1 x2 b h 2 d e := by
  refine Eq.trans ?_ (state_step x1 x2 b h d e 1 _ (state_1 x1 x2 b h d e))
  pointwise [val_main_v70, val_main_v69, val_main_v68, val_main_v67, val_main_v66, val_main_v59]
theorem state_3 (b : Fin 16) (h : Fin 4) (d : Fin 128) (e : Fin 256) :
    val_main_v75 (F := Ideal) x1 x2 (ix4 b h d e) = stateR x1 x2 b h 3 d e := by
  refine Eq.trans ?_ (state_step x1 x2 b h d e 2 _ (state_2 x1 x2 b h d e))
  pointwise [val_main_v75, val_main_v74, val_main_v73, val_main_v72, val_main_v71, val_main_v59]
theorem state_4 (b : Fin 16) (h : Fin 4) (d : Fin 128) (e : Fin 256) :
    val_main_v80 (F := Ideal) x1 x2 (ix4 b h d e) = stateR x1 x2 b h 4 d e := by
  refine Eq.trans ?_ (state_step x1 x2 b h d e 3 _ (state_3 x1 x2 b h d e))
  pointwise [val_main_v80, val_main_v79, val_main_v78, val_main_v77, val_main_v76, val_main_v59]
theorem state_5 (b : Fin 16) (h : Fin 4) (d : Fin 128) (e : Fin 256) :
    val_main_v85 (F := Ideal) x1 x2 (ix4 b h d e) = stateR x1 x2 b h 5 d e := by
  refine Eq.trans ?_ (state_step x1 x2 b h d e 4 _ (state_4 x1 x2 b h d e))
  pointwise [val_main_v85, val_main_v84, val_main_v83, val_main_v82, val_main_v81, val_main_v59]
theorem state_6 (b : Fin 16) (h : Fin 4) (d : Fin 128) (e : Fin 256) :
    val_main_v90 (F := Ideal) x1 x2 (ix4 b h d e) = stateR x1 x2 b h 6 d e := by
  refine Eq.trans ?_ (state_step x1 x2 b h d e 5 _ (state_5 x1 x2 b h d e))
  pointwise [val_main_v90, val_main_v89, val_main_v88, val_main_v87, val_main_v86, val_main_v59]
theorem state_7 (b : Fin 16) (h : Fin 4) (d : Fin 128) (e : Fin 256) :
    val_main_v95 (F := Ideal) x1 x2 (ix4 b h d e) = stateR x1 x2 b h 7 d e := by
  refine Eq.trans ?_ (state_step x1 x2 b h d e 6 _ (state_6 x1 x2 b h d e))
  pointwise [val_main_v95, val_main_v94, val_main_v93, val_main_v92, val_main_v91, val_main_v59]
theorem state_8 (b : Fin 16) (h : Fin 4) (d : Fin 128) (e : Fin 256) :
    val_main_v100 (F := Ideal) x1 x2 (ix4 b h d e) = stateR x1 x2 b h 8 d e := by
  refine Eq.trans ?_ (state_step x1 x2 b h d e 7 _ (state_7 x1 x2 b h d e))
  pointwise [val_main_v100, val_main_v99, val_main_v98, val_main_v97, val_main_v96, val_main_v59]
theorem state_9 (b : Fin 16) (h : Fin 4) (d : Fin 128) (e : Fin 256) :
    val_main_v105 (F := Ideal) x1 x2 (ix4 b h d e) = stateR x1 x2 b h 9 d e := by
  refine Eq.trans ?_ (state_step x1 x2 b h d e 8 _ (state_8 x1 x2 b h d e))
  pointwise [val_main_v105, val_main_v104, val_main_v103, val_main_v102, val_main_v101, val_main_v59]
theorem state_10 (b : Fin 16) (h : Fin 4) (d : Fin 128) (e : Fin 256) :
    val_main_v110 (F := Ideal) x1 x2 (ix4 b h d e) = stateR x1 x2 b h 10 d e := by
  refine Eq.trans ?_ (state_step x1 x2 b h d e 9 _ (state_9 x1 x2 b h d e))
  pointwise [val_main_v110, val_main_v109, val_main_v108, val_main_v107, val_main_v106, val_main_v59]
theorem state_11 (b : Fin 16) (h : Fin 4) (d : Fin 128) (e : Fin 256) :
    val_main_v115 (F := Ideal) x1 x2 (ix4 b h d e) = stateR x1 x2 b h 11 d e := by
  refine Eq.trans ?_ (state_step x1 x2 b h d e 10 _ (state_10 x1 x2 b h d e))
  pointwise [val_main_v115, val_main_v114, val_main_v113, val_main_v112, val_main_v111, val_main_v59]
theorem state_12 (b : Fin 16) (h : Fin 4) (d : Fin 128) (e : Fin 256) :
    val_main_v120 (F := Ideal) x1 x2 (ix4 b h d e) = stateR x1 x2 b h 12 d e := by
  refine Eq.trans ?_ (state_step x1 x2 b h d e 11 _ (state_11 x1 x2 b h d e))
  pointwise [val_main_v120, val_main_v119, val_main_v118, val_main_v117, val_main_v116, val_main_v59]
theorem state_13 (b : Fin 16) (h : Fin 4) (d : Fin 128) (e : Fin 256) :
    val_main_v125 (F := Ideal) x1 x2 (ix4 b h d e) = stateR x1 x2 b h 13 d e := by
  refine Eq.trans ?_ (state_step x1 x2 b h d e 12 _ (state_12 x1 x2 b h d e))
  pointwise [val_main_v125, val_main_v124, val_main_v123, val_main_v122, val_main_v121, val_main_v59]
theorem state_14 (b : Fin 16) (h : Fin 4) (d : Fin 128) (e : Fin 256) :
    val_main_v130 (F := Ideal) x1 x2 (ix4 b h d e) = stateR x1 x2 b h 14 d e := by
  refine Eq.trans ?_ (state_step x1 x2 b h d e 13 _ (state_13 x1 x2 b h d e))
  pointwise [val_main_v130, val_main_v129, val_main_v128, val_main_v127, val_main_v126, val_main_v59]
theorem state_15 (b : Fin 16) (h : Fin 4) (d : Fin 128) (e : Fin 256) :
    val_main_v135 (F := Ideal) x1 x2 (ix4 b h d e) = stateR x1 x2 b h 15 d e := by
  refine Eq.trans ?_ (state_step x1 x2 b h d e 14 _ (state_14 x1 x2 b h d e))
  pointwise [val_main_v135, val_main_v134, val_main_v133, val_main_v132, val_main_v131, val_main_v59]

/-- The states, one over another. -/
theorem states_apply (n : Fin 16) (b : Fin 16) (h : Fin 4) (d : Fin 128) (e : Fin 256) :
    val_main_v157 (F := Ideal) x1 x2 (ix5 n b h d e) = stateR x1 x2 b h n.val d e := by
  fin_cases n
  · refine Eq.trans ?_ (state_0 x1 x2 b h d e)
    pointwise [val_main_v157, val_main_v141]
  · refine Eq.trans ?_ (state_1 x1 x2 b h d e)
    pointwise [val_main_v157, val_main_v142]
  · refine Eq.trans ?_ (state_2 x1 x2 b h d e)
    pointwise [val_main_v157, val_main_v143]
  · refine Eq.trans ?_ (state_3 x1 x2 b h d e)
    pointwise [val_main_v157, val_main_v144]
  · refine Eq.trans ?_ (state_4 x1 x2 b h d e)
    pointwise [val_main_v157, val_main_v145]
  · refine Eq.trans ?_ (state_5 x1 x2 b h d e)
    pointwise [val_main_v157, val_main_v146]
  · refine Eq.trans ?_ (state_6 x1 x2 b h d e)
    pointwise [val_main_v157, val_main_v147]
  · refine Eq.trans ?_ (state_7 x1 x2 b h d e)
    pointwise [val_main_v157, val_main_v148]
  · refine Eq.trans ?_ (state_8 x1 x2 b h d e)
    pointwise [val_main_v157, val_main_v149]
  · refine Eq.trans ?_ (state_9 x1 x2 b h d e)
    pointwise [val_main_v157, val_main_v150]
  · refine Eq.trans ?_ (state_10 x1 x2 b h d e)
    pointwise [val_main_v157, val_main_v151]
  · refine Eq.trans ?_ (state_11 x1 x2 b h d e)
    pointwise [val_main_v157, val_main_v152]
  · refine Eq.trans ?_ (state_12 x1 x2 b h d e)
    pointwise [val_main_v157, val_main_v153]
  · refine Eq.trans ?_ (state_13 x1 x2 b h d e)
    pointwise [val_main_v157, val_main_v154]
  · refine Eq.trans ?_ (state_14 x1 x2 b h d e)
    pointwise [val_main_v157, val_main_v155]
  · refine Eq.trans ?_ (state_15 x1 x2 b h d e)
    pointwise [val_main_v157, val_main_v156]

/-- A row of a chunk before the norm. -/
theorem row_apply (b : Fin 16) (h : Fin 4) (n : Fin 16) (i : Fin 128) (e : Fin 256) :
    val_main_v171 (F := Ideal) x0 x1 x2 (ix5 b h n i e)
      = retained (lgR h) scale (fQ x0) (fQ x1) (fV x2) b h n.val i e := by
  pointwise [val_main_v171, val_main_v170, val_main_v169, val_main_v168, val_main_v167, val_main_v166, val_main_v42,
    val_main_v41, val_main_v40, val_main_v39, val_main_v38, val_main_v37]
  unfold retained rowPlain
  congr 1
  · refine Finset.sum_congr rfl fun j _ => ?_
    rw [decay_apply, v_apply]
    simp only [q_apply, k_apply]
  · refine Finset.sum_congr rfl fun d _ => ?_
    rw [q_apply, fromStart_apply, states_apply]
    rfl

/-- A row of the layer before the norm. -/
theorem unnormed_apply (b : Fin 16) (s : Fin 2048) (h : Fin 4) (e : Fin 256) :
    val_main_v173 (F := Ideal) x0 x1 x2 (ix4 b s h e)
      = retained (lgR h) scale (fQ x0) (fQ x1) (fV x2) b h (s.val / 128) ⟨s.val % 128, Nat.mod_lt _ (by decide)⟩ e := by
  refine Eq.trans ?_ (row_apply x0 x1 x2 b h ⟨s.val / 128, by omega⟩ ⟨s.val % 128, Nat.mod_lt _ (by decide)⟩ e)
  pointwise [val_main_v173, val_main_v172]

/-- The mean of a head's columns. -/
theorem mean_apply (b : Fin 16) (s : Fin 2048) (h : Fin 4) :
    val_main_v177 (F := Ideal) x0 x1 x2 (ix4 b s h 0)
      = Ideal.div (∑ e, val_main_v173 (F := Ideal) x0 x1 x2 (ix4 b s h e)) (Ideal.ofBits .f32 0x43800000#32) := by
  pointwise [val_main_v177, val_main_v176, val_main_v175, val_main_v174, val_main_cst_10, val_main_cst_11]

/-- The result, entry by entry. -/
theorem result_apply (b : Fin 16) (s : Fin 2048) (w : Fin 1024) :
    val_main_v195 (F := Ideal) x0 x1 x2 x3 (ix3 b s w)
      = normed scale (Ideal.ofBits .f32 0x43800000#32) (Ideal.ofBits .f32 0x3727C5AC#32) (fQ x0) (fQ x1) (fV x2) (fV x3) b s w := by
  pointwise [val_main_v195, val_main_v194, val_main_v193, val_main_v192, val_main_v191, val_main_v190, val_main_v189,
    val_main_v188, val_main_v187, val_main_v186, val_main_v185, val_main_v184, val_main_v183, val_main_v182,
    val_main_v181, val_main_v180, val_main_v179, val_main_v178, val_main_cst_12, val_main_cst_13, val_main_cst_14]
  simp only [mean_apply, unnormed_apply]
  rfl

end Cert.ReferenceIdeal.Result

end
-- ==== Proof.Layer.Rows.lean ====
module

public import Idealize.ShloMosaic.PureOps.Ideal.Laws
public import Idealize.ShloMosaic.Lib.Pointwise

/-! Rows of the layer as functions over the extended reals: the layer norm, the mixing of the two branches and the
    gated feed-forward. -/

@[expose] public section

noncomputable section

namespace Cert.Layer

open Idealize.ShloMosaic

/-- The residual's factor, one half, the row's length and the norm's offset, as the layer's words. -/
def alpha : EReal := Ideal.ofBits .f32 0x3F9837F0#32
def half : EReal := Ideal.ofBits .f32 0x3F000000#32
def width : EReal := Ideal.ofBits .f32 0x44800000#32
def offset : EReal := Ideal.ofBits .f32 0x3727C5AC#32

/-- A row's mean. -/
def mean (y : Fin 1024 → EReal) : EReal := Ideal.div (∑ x, y x) width

/-- The layer norm of a row. -/
def layerNorm (y g b : Fin 1024 → EReal) (w : Fin 1024) : EReal :=
  (y w - mean y) * Ideal.rsqrt (mean (fun x => (y x - mean y) * (y x - mean y)) + offset) * g w + b w

/-- The two branches' projections, gated, summed and projected. -/
def mixed (yr : Fin 1024 → EReal) (ym : Fin 512 → EReal) (ga gb : Fin 1024 → EReal) (pa : Fin 1024 → Fin 1024 → EReal)
    (pb : Fin 512 → Fin 1024 → EReal) (wo : Fin 1024 → Fin 1024 → EReal) (w : Fin 1024) : EReal :=
  ∑ k, (ga k * (∑ j, yr j * pa j k) + gb k * (∑ j, ym j * pb j k)) * wo k w

/-- The mixing call's row: the norm of the residual plus the mixed branches. -/
def mixRow (h : Fin 1024 → EReal) (yr : Fin 1024 → EReal) (ym : Fin 512 → EReal) (ga gb : Fin 1024 → EReal)
    (pa : Fin 1024 → Fin 1024 → EReal) (pb : Fin 512 → Fin 1024 → EReal) (wo : Fin 1024 → Fin 1024 → EReal)
    (g b : Fin 1024 → EReal) : Fin 1024 → EReal :=
  layerNorm (fun w => alpha * h w + mixed yr ym ga gb pa pb wo w) g b

/-- A hidden unit of the gated feed-forward: the gate's silu times the other half. -/
def hiddenUnit (x : Fin 1024 → EReal) (wgu : Fin 1024 → Fin 5632 → EReal) (j : Fin 2816) : EReal :=
  (∑ k, x k * wgu k ⟨j.val, by omega⟩) * Ideal.logistic (∑ k, x k * wgu k ⟨j.val, by omega⟩)
    * ∑ k, x k * wgu k ⟨2816 + j.val, by omega⟩

/-- The gated feed-forward of a row. -/
def feed (x : Fin 1024 → EReal) (wgu : Fin 1024 → Fin 5632 → EReal) (wd : Fin 2816 → Fin 1024 → EReal) (w : Fin 1024) : EReal :=
  ∑ j, hiddenUnit x wgu j * wd j w

/-- The feed-forward call's row: the norm of the residual plus half the feed-forward. -/
def feedRow (x : Fin 1024 → EReal) (wgu : Fin 1024 → Fin 5632 → EReal) (wd : Fin 2816 → Fin 1024 → EReal) (g b : Fin 1024 → EReal) :
    Fin 1024 → EReal :=
  layerNorm (fun w => alpha * x w + half * feed x wgu wd w) g b

/-- The hidden units of chunk `n`. -/
def feedPart (x : Fin 1024 → EReal) (wgu : Fin 1024 → Fin 5632 → EReal) (wd : Fin 2816 → Fin 1024 → EReal) (w : Fin 1024) (n : Fin 11) :
    EReal :=
  ∑ k : Fin 256, hiddenUnit x wgu ⟨n.val * 256 + k.val, by omega⟩ * wd ⟨n.val * 256 + k.val, by omega⟩ w

/-- The feed-forward is the sum of its eleven chunks, in their order. -/
theorem feed_eq_parts (x : Fin 1024 → EReal) (wgu : Fin 1024 → Fin 5632 → EReal) (wd : Fin 2816 → Fin 1024 → EReal) (w : Fin 1024) :
    feed x wgu wd w = feedPart x wgu wd w 0 + feedPart x wgu wd w 1 + feedPart x wgu wd w 2 + feedPart x wgu wd w 3
      + feedPart x wgu wd w 4 + feedPart x wgu wd w 5 + feedPart x wgu wd w 6 + feedPart x wgu wd w 7 + feedPart x wgu wd w 8
      + feedPart x wgu wd w 9 + feedPart x wgu wd w 10 := by
  have h : feed x wgu wd w = ∑ n, feedPart x wgu wd w n := by
    unfold feed feedPart
    rw [← Fintype.sum_prod_type' (f := fun (n : Fin 11) (k : Fin 256) =>
      hiddenUnit x wgu ⟨n.val * 256 + k.val, by omega⟩ * wd ⟨n.val * 256 + k.val, by omega⟩ w)]
    refine (Fintype.sum_equiv (finProdFinEquiv : Fin 11 × Fin 256 ≃ Fin (11 * 256)) _ _ fun p => ?_).symm
    have hp : (⟨p.1.val * 256 + p.2.val, by omega⟩ : Fin 2816) = finProdFinEquiv p := Fin.ext (by
      show p.1.val * 256 + p.2.val = p.2.val + 256 * p.1.val
      omega)
    simp only [hp]
  rw [h]
  simp only [Fin.sum_univ_castSucc, Fin.sum_univ_zero, zero_add]
  rfl

end Cert.Layer

end
-- ==== Proof.Ffn.Kernel.lean ====
module

public import proofs.«01_k».proof.Proof.Gen.Kernel2Ideal.Value
public import proofs.«01_k».proof.Proof.Layer.Rows
public import Idealize.ShloMosaic.Lib.Pointwise
public import Idealize.ShloMosaic.Lib.Pipeline.ValueKit

/-! What the feed-forward kernel leaves in its output arrays, as functions of the launch's arguments. -/

@[expose] public section

set_option maxRecDepth 16384

noncomputable section

namespace Cert.Kernel2Ideal.Result

open Cert.Kernel2Ideal Cert.Kernel2Ideal.Gen Idealize.ShloMosaic Idealize.ShloMosaic.TcCoe Idealize.SL.Sem
open Idealize.ShloMosaic.Pointwise
open Idealize.ShloMosaic.Pipeline (Dat)
open Cert.Layer

/-- The 256 rows of a 1024-row array from row `a` on. -/
def rowsT {φ : EltTy} (x : Vec Ideal S1024x1024 φ) (a : ℕ) : Vec Ideal S256x1024 φ := fun i =>
  x (ix2 (⟨(a + (i 0).val) % 1024, Nat.mod_lt _ (by decide)⟩ : Fin 1024) (i 1 : Fin 1024))

/-- The 256 columns of the first weights from column `a` on. -/
def colsT {φ : EltTy} (x : Vec Ideal S1024x5632 φ) (a : ℕ) : Vec Ideal S1024x256 φ := fun i =>
  x (ix2 (i 0 : Fin 1024) (⟨(a + (i 1).val) % 5632, Nat.mod_lt _ (by decide)⟩ : Fin 5632))

/-- The 256 rows of the second weights from row `a` on. -/
def downT {φ : EltTy} (x : Vec Ideal S2816x1024 φ) (a : ℕ) : Vec Ideal S256x1024 φ := fun i =>
  x (ix2 (⟨(a + (i 0).val) % 2816, Nat.mod_lt _ (by decide)⟩ : Fin 2816) (i 1 : Fin 1024))

theorem ld_rows {φ : EltTy} (x : Vec Ideal S1024x1024 φ) (a : ℕ) (inb) :
    View.ld (Val := Elt Ideal) (e' := φ) x (Rect.unit ![a, 0] S256x1024.size inb) = rowsT x a := by
  have ha : a + 256 ≤ 1024 := inb 0
  funext i
  refine View.ld_unit_apply_of x _ _ inb i _ fun d => ?_
  have h0 : (i 0).val < 256 := (i 0).isLt
  match d with
  | ⟨0, _⟩ => show (a + (i 0).val) % 1024 = a + (i 0).val; omega
  | ⟨1, _⟩ => show (i 1).val = 0 + (i 1).val; omega

theorem ld_cols {φ : EltTy} (x : Vec Ideal S1024x5632 φ) (a : ℕ) (inb) :
    View.ld (Val := Elt Ideal) (e' := φ) x (Rect.unit ![0, a] S1024x256.size inb) = colsT x a := by
  have ha : a + 256 ≤ 5632 := inb 1
  funext i
  refine View.ld_unit_apply_of x _ _ inb i _ fun d => ?_
  have h1 : (i 1).val < 256 := (i 1).isLt
  match d with
  | ⟨0, _⟩ => show (i 0).val = 0 + (i 0).val; omega
  | ⟨1, _⟩ => show (a + (i 1).val) % 5632 = a + (i 1).val; omega

theorem ld_down {φ : EltTy} (x : Vec Ideal S2816x1024 φ) (a : ℕ) (inb) :
    View.ld (Val := Elt Ideal) (e' := φ) x (Rect.unit ![a, 0] S256x1024.size inb) = downT x a := by
  have ha : a + 256 ≤ 2816 := inb 0
  funext i
  refine View.ld_unit_apply_of x _ _ inb i _ fun d => ?_
  have h0 : (i 0).val < 256 := (i 0).isLt
  match d with
  | ⟨0, _⟩ => show (a + (i 0).val) % 2816 = a + (i 0).val; omega
  | ⟨1, _⟩ => show (i 1).val = 0 + (i 1).val; omega

theorem ld_v {φ : EltTy} (x : Vec Ideal S1x1024 φ) (inb) :
    View.ld (Val := Elt Ideal) (e' := φ) x (Rect.unit ![0, 0] S1x1024.size inb) = x := by
  funext i
  refine View.ld_unit_apply_of x _ _ inb i _ fun d => ?_
  match d with
  | ⟨0, _⟩ => show (i 0).val = 0 + (i 0).val; omega
  | ⟨1, _⟩ => show (i 1).val = 0 + (i 1).val; omega

theorem ld_in {φ : EltTy} (x : Vec Ideal S32x6656 φ) (inb) :
    View.ld (Val := Elt Ideal) (e' := φ) x (Rect.unit ![0, 0] S32x6656.size inb) = x := by
  funext i
  refine View.ld_unit_apply_of x _ _ inb i _ fun d => ?_
  match d with
  | ⟨0, _⟩ => show (i 0).val = 0 + (i 0).val; omega
  | ⟨1, _⟩ => show (i 1).val = 0 + (i 1).val; omega

/-- The norm of 256 rows. -/
def meanT (y : FVec Ideal S256x1024 .f32) : FVec Ideal S256x1 .f32 :=
  divf (shapeCast S256x1 (multiReduction .add [1] S256 y 0x00000000#32 reduces_S256x1024_S256 (.inl rfl) rfl) shapeCasts_S256_S256x1)
    (broadcast S256x1 (Scalar.ofBits .f32 0x44800000#32))
def centreT (y : FVec Ideal S256x1024 .f32) : FVec Ideal S256x1024 .f32 :=
  subf y (broadcastTo S256x1024 (meanT y) broadcasts_S256x1_S256x1024)
def normT (y : FVec Ideal S256x1024 .f32) (g b : FVec Ideal S1x1024 .f32) : FVec Ideal S256x1024 .f32 :=
  addf (mulf (mulf (centreT y) (broadcastTo S256x1024
        (rsqrt (addf (meanT (mulf (centreT y) (centreT y))) (broadcast S256x1 (Scalar.ofBits .f32 0x3727C5AC#32)))) broadcasts_S256x1_S256x1024))
      (broadcastTo S256x1024 (shapeCast S1x1024 g shapeCasts_S1x1024_S1x1024) broadcasts_S1x1024_S256x1024))
    (broadcastTo S256x1024 (shapeCast S1x1024 b shapeCasts_S1x1024_S1x1024) broadcasts_S1x1024_S256x1024)

/-- A projection of 256 rows to 256 columns. -/
def projT (x : FVec Ideal S256x1024 .bf16) (w : Vec Ideal S1024x256 .bf16) : FVec Ideal S256x256 .f32 :=
  matmul (φ₁ := .bf16) (φ₂ := .bf16) dot_S256x1024_S1024x256_S256x256_1_0_0_1_n_n none x (shapeCast S1024x256 w shapeCasts_S1024x256_S1024x256)
    (constant S256x256 .f32 0x00000000#32)

/-- The part of the feed-forward one chunk of hidden units gives. -/
def partT (x : FVec Ideal S256x1024 .bf16) (x1 : Vec Ideal S1024x5632 .bf16) (x2 : Vec Ideal S2816x1024 .bf16) (a a' : ℕ) : FVec Ideal S256x1024 .f32 :=
  matmul (φ₁ := .bf16) (φ₂ := .bf16) dot_S256x256_S256x1024_S256x1024_1_0_0_1_n_n none
    (truncf .bf16 (mulf (mulf (projT x (colsT x1 a)) (logistic (projT x (colsT x1 a)))) (projT x (colsT x1 a'))) bitsLt_bf16_f32)
    (shapeCast S256x1024 (downT x2 a) shapeCasts_S256x1024_S256x1024) (constant S256x1024 .f32 0x00000000#32)

/-- The feed-forward of 256 rows. -/
def feedT (x : FVec Ideal S256x1024 .bf16) (x1 : Vec Ideal S1024x5632 .bf16) (x2 : Vec Ideal S2816x1024 .bf16) : FVec Ideal S256x1024 .f32 :=
  addf (addf (addf (addf (addf (addf (addf (addf (addf (addf
    (partT x x1 x2 0 2816) (partT x x1 x2 256 3072)) (partT x x1 x2 512 3328)) (partT x x1 x2 768 3584)) (partT x x1 x2 1024 3840))
    (partT x x1 x2 1280 4096)) (partT x x1 x2 1536 4352)) (partT x x1 x2 1792 4608)) (partT x x1 x2 2048 4864)) (partT x x1 x2 2304 5120))
    (partT x x1 x2 2560 5376)

/-- The residual plus half the feed-forward of 256 rows. -/
def sumT (x : Vec Ideal S256x1024 .f32) (x1 : Vec Ideal S1024x5632 .bf16) (x2 : Vec Ideal S2816x1024 .bf16) : FVec Ideal S256x1024 .f32 :=
  addf (mulf (broadcast S256x1024 (Scalar.ofBits .f32 0x3F9837F0#32)) x)
    (mulf (broadcast S256x1024 (Scalar.ofBits .f32 0x3F000000#32)) (feedT (truncf .bf16 x bitsLt_bf16_f32) x1 x2))

/-- The piece the kernel stores at row `a`. -/
def pieceT (x0 : Vec Ideal S1024x1024 .f32) (x1 : Vec Ideal S1024x5632 .bf16) (x2 : Vec Ideal S2816x1024 .bf16) (x3 x4 : Vec Ideal S1x1024 .f32) (a : ℕ) :
    FVec Ideal S256x1024 .f32 :=
  normT (sumT (rowsT x0 a) x1 x2) x3 x4

/-- The window the kernel leaves is, cell by cell, the piece of the cell's rows. -/
theorem out_pieces (x0 : Vec Ideal S1024x1024 .f32) (x1 : Vec Ideal S1024x5632 .bf16) (x2 : Vec Ideal S2816x1024 .bf16) (x3 x4 : Vec Ideal S1x1024 .f32)
    (x5 : Vec Ideal S32x6656 .f32) (y) (G : S1024x1024.Idx → Elt Ideal .f32)
    (hG : ∀ (r : ℕ) (x : S256x1024.Idx), (y 0).val = r * 256 + (x 0).val → (y 1).val = (x 1).val →
      pieceT x0 x1 x2 x3 x4 (r * 256) x = G y) :
    out0_6 x0 x1 x2 x3 x4 x5 y = G y := by
  unfold_out out0_6
  canon_tiles x h
  all_goals
    unfold_payloads
    simp (disch := decide) only [ld_rows, ld_cols, ld_down, ld_v]
  case piece0 => exact hG 3 x (by simpa using h0) (by simpa using h1)
  case piece1 => exact hG 2 x (by simpa using h0) (by simpa using h1)
  case piece2 => exact hG 1 x (by simpa using h0) (by simpa using h1)
  case piece3 => exact hG 0 x (by simpa using h0) (by simpa using h1)

/-- The cast window is its argument's block. -/
theorem out_cast (x0 : Vec Ideal S1024x1024 .f32) (x1 : Vec Ideal S1024x5632 .bf16) (x2 : Vec Ideal S2816x1024 .bf16) (x3 x4 : Vec Ideal S1x1024 .f32)
    (x5 : Vec Ideal S32x6656 .f32) (y) : out0_7 x0 x1 x2 x3 x4 x5 y = x5 y := by
  unfold_out out0_7
  canon_tiles x h
  unfold_payloads
  simp (disch := decide) only [ld_in]
  have hx : x = y := funext fun a => Fin.ext (by
    match a with
    | ⟨0, _⟩ => simpa using h0.symm
    | ⟨1, _⟩ => simpa using h1.symm)
  rw [hx]
  rfl

/-- The norm, entry by entry. -/
theorem normT_apply (y : FVec Ideal S256x1024 .f32) (g b : FVec Ideal S1x1024 .f32) (i : Fin 256) (w : Fin 1024) :
    normT y g b (ix2 i w) = layerNorm (fun w => y (ix2 i w)) (fun w => g (ix2 0 w)) (fun w => b (ix2 0 w)) w := by
  pointwise [normT, centreT, meanT]
  rfl

/-- A part's entry. -/
theorem partT_apply (x : FVec Ideal S256x1024 .bf16) (x1 : Vec Ideal S1024x5632 .bf16) (x2 : Vec Ideal S2816x1024 .bf16) (a a' : ℕ) (n : Fin 11)
    (ha : a = n.val * 256) (ha' : a' = 2816 + n.val * 256) (i : Fin 256) (w : Fin 1024) :
    partT x x1 x2 a a' (ix2 i w) = feedPart (fun w => x (ix2 i w)) (fun k j => x1 (ix2 k j)) (fun j w => x2 (ix2 j w)) w n := by
  subst ha ha'
  have hg : ∀ k (q : Fin 256), colsT x1 (n.val * 256) (ix2 k q) = x1 (ix2 k (⟨n.val * 256 + q.val, by omega⟩ : Fin 5632)) := fun k q =>
    congrArg (fun z => x1 (ix2 k z)) (Fin.ext (by
      show (n.val * 256 + q.val) % 5632 = n.val * 256 + q.val; omega))
  have hu : ∀ k (q : Fin 256), colsT x1 (2816 + n.val * 256) (ix2 k q)
      = x1 (ix2 k (⟨2816 + (n.val * 256 + q.val), by omega⟩ : Fin 5632)) := fun k q =>
    congrArg (fun z => x1 (ix2 k z)) (Fin.ext (by
      show (2816 + n.val * 256 + q.val) % 5632 = 2816 + (n.val * 256 + q.val); omega))
  have hd : ∀ (q : Fin 256) k, downT x2 (n.val * 256) (ix2 q k) = x2 (ix2 (⟨n.val * 256 + q.val, by omega⟩ : Fin 2816) k) := fun q k =>
    congrArg (fun z => x2 (ix2 z k)) (Fin.ext (by
      show (n.val * 256 + q.val) % 2816 = n.val * 256 + q.val; omega))
  unfold partT projT
  generalize hG : colsT x1 (n.val * 256) = wg at hg ⊢
  generalize hU : colsT x1 (2816 + n.val * 256) = wu at hu ⊢
  generalize hD : downT x2 (n.val * 256) = wd at hd ⊢
  pointwise
  simp only [hg, hu, hd]
  rfl

/-- The sum, entry by entry. -/
theorem sumT_apply (x : Vec Ideal S256x1024 .f32) (x1 : Vec Ideal S1024x5632 .bf16) (x2 : Vec Ideal S2816x1024 .bf16) (i : Fin 256) (w : Fin 1024) :
    sumT x x1 x2 (ix2 i w) = alpha * x (ix2 i w)
      + half * feed (fun w => x (ix2 i w)) (fun k j => x1 (ix2 k j)) (fun j w => x2 (ix2 j w)) w := by
  rw [feed_eq_parts]
  show alpha * x (ix2 i w) + half * _ = _
  refine congrArg (fun z => alpha * x (ix2 i w) + half * z) ?_
  show partT _ x1 x2 0 2816 (ix2 i w) + partT _ x1 x2 256 3072 (ix2 i w) + partT _ x1 x2 512 3328 (ix2 i w) + partT _ x1 x2 768 3584 (ix2 i w)
    + partT _ x1 x2 1024 3840 (ix2 i w) + partT _ x1 x2 1280 4096 (ix2 i w) + partT _ x1 x2 1536 4352 (ix2 i w)
    + partT _ x1 x2 1792 4608 (ix2 i w) + partT _ x1 x2 2048 4864 (ix2 i w) + partT _ x1 x2 2304 5120 (ix2 i w)
    + partT _ x1 x2 2560 5376 (ix2 i w) = _
  rw [partT_apply _ x1 x2 0 2816 0 rfl rfl, partT_apply _ x1 x2 256 3072 1 rfl rfl, partT_apply _ x1 x2 512 3328 2 rfl rfl,
    partT_apply _ x1 x2 768 3584 3 rfl rfl, partT_apply _ x1 x2 1024 3840 4 rfl rfl, partT_apply _ x1 x2 1280 4096 5 rfl rfl,
    partT_apply _ x1 x2 1536 4352 6 rfl rfl, partT_apply _ x1 x2 1792 4608 7 rfl rfl, partT_apply _ x1 x2 2048 4864 8 rfl rfl,
    partT_apply _ x1 x2 2304 5120 9 rfl rfl, partT_apply _ x1 x2 2560 5376 10 rfl rfl]
  rfl

/-- A piece's entry. -/
theorem pieceT_apply (x0 : Vec Ideal S1024x1024 .f32) (x1 : Vec Ideal S1024x5632 .bf16) (x2 : Vec Ideal S2816x1024 .bf16) (x3 x4 : Vec Ideal S1x1024 .f32)
    (a : ℕ) (i : Fin 256) (w : Fin 1024) :
    pieceT x0 x1 x2 x3 x4 a (ix2 i w)
      = feedRow (fun w => x0 (ix2 (⟨(a + i.val) % 1024, Nat.mod_lt _ (by decide)⟩ : Fin 1024) w))
        (fun k j => x1 (ix2 k j)) (fun j w => x2 (ix2 j w)) (fun w => x3 (ix2 0 w)) (fun w => x4 (ix2 0 w)) w := by
  unfold pieceT
  rw [normT_apply]
  simp only [sumT_apply]
  rfl

variable (m : (ℓ : Loc nD τ sig) → Buf (Elt Ideal) ℓ)

/-- The launch's arguments as functions of their coordinates. -/
def arg0 (c : Dev nD) (s : Fin 32768) (w : Fin 1024) : EReal := m ((c : Thread nD τ).loc main_arg0) (ix2 s w)
def arg1 (c : Dev nD) (k : Fin 1024) (j : Fin 5632) : EReal := m ((c : Thread nD τ).loc main_arg1) (ix2 k j)
def arg2 (c : Dev nD) (j : Fin 2816) (w : Fin 1024) : EReal := m ((c : Thread nD τ).loc main_arg2) (ix2 j w)
def arg3 (c : Dev nD) (w : Fin 1024) : EReal := m ((c : Thread nD τ).loc main_arg3) (ix1 w)
def arg4 (c : Dev nD) (w : Fin 1024) : EReal := m ((c : Thread nD τ).loc main_arg4) (ix1 w)
def arg5 (c : Dev nD) (k : Fin 1024) (j : Fin 6656) : EReal := m ((c : Thread nD τ).loc main_arg5) (ix2 k j)

/-- What the kernel is given of the weights. -/
theorem V_gu (c : Dev nD) (k : Fin 1024) (j : Fin 5632) : V m c main_v0 (ix2 k j) = arg1 m c k j := by
  have h : V m c main_v0 = truncf (F := Ideal) .bf16 (m ((c : Thread nD τ).loc main_arg1)) bitsLt_bf16_f32 := by
    unfold_abbrev_sides
    try simp only [List.flatten_cons, List.flatten_nil, List.append_nil, List.cons_append, List.nil_append]
    after_results_simp
    try rfl
  rw [h]
  rfl
theorem V_down (c : Dev nD) (j : Fin 2816) (w : Fin 1024) : V m c main_v1 (ix2 j w) = arg2 m c j w := by
  have h : V m c main_v1 = truncf (F := Ideal) .bf16 (m ((c : Thread nD τ).loc main_arg2)) bitsLt_bf16_f32 := by
    unfold_abbrev_sides
    try simp only [List.flatten_cons, List.flatten_nil, List.append_nil, List.cons_append, List.nil_append]
    after_results_simp
    try rfl
  rw [h]
  rfl
theorem V_g (c : Dev nD) (w : Fin 1024) : V m c main_v2 (ix2 0 w) = arg3 m c w := by
  have h : V m c main_v2 = shapeCast S1x1024 (m ((c : Thread nD τ).loc main_arg3)) shapeCasts_S1024_S1x1024 := by
    unfold_abbrev_sides
    try simp only [List.flatten_cons, List.flatten_nil, List.append_nil, List.cons_append, List.nil_append]
    after_results_simp
    try rfl
  rw [h]
  unfold arg3
  pointwise
theorem V_b (c : Dev nD) (w : Fin 1024) : V m c main_v3 (ix2 0 w) = arg4 m c w := by
  have h : V m c main_v3 = shapeCast S1x1024 (m ((c : Thread nD τ).loc main_arg4)) shapeCasts_S1024_S1x1024 := by
    unfold_abbrev_sides
    try simp only [List.flatten_cons, List.flatten_nil, List.append_nil, List.cons_append, List.nil_append]
    after_results_simp
    try rfl
  rw [h]
  unfold arg4
  pointwise

/-- The windows' index maps: row block `t` of the rows and of the weights to cast, the other weights whole. -/
theorem idx_all : ∀ t : Fin cfg0.N,
    win0_0.index t = ![t.val, 0] ∧ win0_1.index t = ![0, 0] ∧ win0_2.index t = ![0, 0] ∧ win0_3.index t = ![0, 0] ∧ win0_4.index t = ![0, 0] ∧ win0_5.index t = ![t.val, 0] ∧ win0_6.index t = ![t.val, 0] ∧ win0_7.index t = ![t.val, 0] :=
  (by decide +kernel : ∀ t : Fin grid0.N,
    win0_0.index t = ![t.val, 0] ∧ win0_1.index t = ![0, 0] ∧ win0_2.index t = ![0, 0] ∧ win0_3.index t = ![0, 0] ∧ win0_4.index t = ![0, 0] ∧ win0_5.index t = ![t.val, 0] ∧ win0_6.index t = ![t.val, 0] ∧ win0_7.index t = ![t.val, 0])

/-- Row `i` of a grid point's block. -/
def rowOf (t : Fin cfg0.N) (i : Fin 1024) : Fin 32768 := ⟨t.val * 1024 + i.val, by
  have h : t.val < 32 := t.isLt
  omega⟩

theorem blk_x (c : Dev nD) (t : Fin cfg0.N) (i w : Fin 1024) : iblk m c 0 t (ix2 i w) = arg0 m c (rowOf t i) w := by
  unfold arg0
  rw [← V_main_arg0 m c]
  blk_ext [iblk, rowOf, (idx_all t).1]
theorem blk_gu (c : Dev nD) (t : Fin cfg0.N) (k : Fin 1024) (j : Fin 5632) : iblk m c 1 t (ix2 k j) = arg1 m c k j := by
  refine Eq.trans ?_ (V_gu m c k j)
  blk_ext [iblk, (idx_all t).2.1]
theorem blk_down (c : Dev nD) (t : Fin cfg0.N) (j : Fin 2816) (w : Fin 1024) : iblk m c 2 t (ix2 j w) = arg2 m c j w := by
  refine Eq.trans ?_ (V_down m c j w)
  blk_ext [iblk, (idx_all t).2.2.1]
theorem blk_g (c : Dev nD) (t : Fin cfg0.N) (w : Fin 1024) : iblk m c 3 t (ix2 0 w) = arg3 m c w := by
  refine Eq.trans ?_ (V_g m c w)
  blk_ext [iblk, (idx_all t).2.2.2.1]
theorem blk_b (c : Dev nD) (t : Fin cfg0.N) (w : Fin 1024) : iblk m c 4 t (ix2 0 w) = arg4 m c w := by
  refine Eq.trans ?_ (V_b m c w)
  blk_ext [iblk, (idx_all t).2.2.2.2.1]

/-- The feed-forward kernel's result. -/
def result (c : Dev nD) : S32768x1024.Idx → Elt Ideal .f32 := fun I =>
  feedRow (arg0 m c (I 0)) (arg1 m c) (arg2 m c) (arg3 m c) (arg4 m c) (I 1)

/-- The weights it casts for the next call. -/
def castResult (c : Dev nD) : S1024x6656.Idx → Elt Ideal .bf16 := fun I => m ((c : Thread nD τ).loc main_arg5) I

/-- What the kernel leaves in its output array. -/
theorem out_array (c : Dev nD) : (dats m 0 c).arrAt 6 cfg0.N = result m c := by
  refine (dats m 0 c).arrAt_eq_of_covers 6 _ (by decide +kernel) fun t hf y => ?_
  blk_simp
  rw [after0_6]
  refine out_pieces _ _ _ _ _ _ y (fun y => result m c (((cfg0.win 6).blk t).view.emb y)) ?_
  intro r x h0 h1
  have hx0 : (x 0).val < 256 := (x 0).isLt
  have hx1 : (x 1).val < 1024 := (x 1).isLt
  have hy0 : (y 0).val < 1024 := (y 0).isLt
  have ht : t.val < 32 := t.isLt
  have hi := (idx_all t).2.2.2.2.2.2.1
  have p0 : ((((cfg0.win 6).blk t).view.emb y) 0 : Fin 32768).val = t.val * 1024 + (r * 256 + (x 0).val) := by
    rw [← h0]; blk_simp [hi]
  have p1 : ((((cfg0.win 6).blk t).view.emb y) 1 : Fin 1024).val = (x 1).val := by
    rw [← h1]; blk_simp [hi]
  have hx : x = ix2 (x 0) (x 1) := by blk_ext
  rw [hx]
  refine (pieceT_apply _ _ _ _ _ _ (x 0) (x 1)).trans ?_
  simp only [blk_x, blk_gu, blk_down, blk_g, blk_b]
  show _ = feedRow (arg0 m c ((((cfg0.win 6).blk t).view.emb y) 0)) _ _ _ _ ((((cfg0.win 6).blk t).view.emb y) 1)
  generalize (((cfg0.win 6).blk t).view.emb y 0 : Fin 32768) = s at p0
  generalize (((cfg0.win 6).blk t).view.emb y 1 : Fin 1024) = w at p1
  have hs : rowOf t (⟨(r * 256 + (x 0).val) % 1024, Nat.mod_lt _ (by decide)⟩ : Fin 1024) = s := Fin.ext (by
    show t.val * 1024 + (r * 256 + (x 0).val) % 1024 = s.val; omega)
  have hw : (x 1 : Fin 1024) = w := Fin.ext p1.symm
  rw [hs, hw]

/-- What the kernel leaves of the weights it casts. -/
theorem cast_array (c : Dev nD) : (dats m 0 c).arrAt 7 cfg0.N = castResult m c := by
  refine (dats m 0 c).arrAt_eq_of_covers 7 _ (by decide +kernel) fun t hf y => ?_
  blk_simp
  rw [after0_7]
  refine (out_cast _ _ _ _ _ _ y).trans ?_
  unfold castResult
  rw [← V_main_arg5 m c]
  blk_ext [iblk, (idx_all t).2.2.2.2.2.1, (idx_all t).2.2.2.2.2.2.2]

end Cert.Kernel2Ideal.Result

end
-- ==== Proof.Ffn.Reference.lean ====
module

public import proofs.«01_k».proof.Proof.Gen.Reference2Ideal.Read
public import proofs.«01_k».proof.Proof.Layer.Rows
public import Idealize.ShloMosaic.Lib.Pointwise

/-! The reference's feed-forward read at an index. -/

@[expose] public section

set_option maxRecDepth 16384

noncomputable section

namespace Cert.Reference2Ideal.Result

open Cert.Reference2Ideal Cert.Reference2Ideal.Gen Cert.Reference2Ideal.Read Idealize.ShloMosaic Idealize.ShloMosaic.TcCoe
open Idealize.ShloMosaic.Pointwise
open Cert.Layer

variable (x0 : (⟨S32768x1024, .f32⟩ : BufTy).Contents (Elt Ideal)) (x1 : (⟨S1024x5632, .f32⟩ : BufTy).Contents (Elt Ideal))
  (x2 : (⟨S2816x1024, .f32⟩ : BufTy).Contents (Elt Ideal)) (x3 x4 : (⟨S1024, .f32⟩ : BufTy).Contents (Elt Ideal))

/-- The word of one is one. -/
theorem one_word : (Ideal.ofBits .f32 0x3F800000#32 : EReal) = 1 := by
  simp [Ideal.ofBits, Ideal.ieee, -EReal.coe_mul]; norm_num

/-- A hidden unit. -/
theorem hidden_apply (s : Fin 32768) (j : Fin 2816) :
    val_main_v6 (F := Ideal) x0 x1 (ix2 s j) = hiddenUnit (fun w => x0 (ix2 s w)) (fun k j => x1 (ix2 k j)) j := by
  pointwise [val_main_v6, val_main_v5, val_main_v4, val_main_v3, val_main_v2, val_main_call0_v5, val_main_call0_v4, val_main_call0_v3,
    val_main_call0_v2, val_main_call0_v1, val_main_call0_v0, val_main_call0_cst, val_main_call0_cst_0]
  unfold hiddenUnit Ideal.logistic
  simp only [one_word]

/-- The residual plus half the feed-forward. -/
theorem sum_apply (s : Fin 32768) (w : Fin 1024) :
    val_main_v10 (F := Ideal) x0 x1 x2 (ix2 s w) = alpha * x0 (ix2 s w)
      + half * feed (fun w => x0 (ix2 s w)) (fun k j => x1 (ix2 k j)) (fun j w => x2 (ix2 j w)) w := by
  pointwise [val_main_v10, val_main_v9, val_main_v8, val_main_v7, val_main_v1, val_main_v0, val_main_cst, val_main_cst_0]
  simp only [hidden_apply]
  rfl

/-- The result, entry by entry. -/
theorem result_apply (s : Fin 32768) (w : Fin 1024) :
    val_main_v34 (F := Ideal) x0 x1 x2 x3 x4 (ix2 s w)
      = feedRow (fun w => x0 (ix2 s w)) (fun k j => x1 (ix2 k j)) (fun j w => x2 (ix2 j w)) (fun w => x3 (ix1 w)) (fun w => x4 (ix1 w)) w := by
  pointwise [val_main_v34, val_main_v33, val_main_v32, val_main_v31, val_main_v30, val_main_v29,
    val_main_v28, val_main_v27, val_main_v26, val_main_v25, val_main_v24, val_main_v23, val_main_v22, val_main_v21, val_main_v20,
    val_main_v19, val_main_v18, val_main_v17, val_main_v16, val_main_v15, val_main_v14, val_main_v13, val_main_v12, val_main_v11,
    val_main_cst_1, val_main_cst_2, val_main_cst_3, val_main_cst_4, val_main_cst_5]
  simp only [sum_apply]
  rfl

end Cert.Reference2Ideal.Result

end
-- ==== Proof.Mix.Kernel.lean ====
module

public import proofs.«01_k».proof.Proof.Gen.Kernel3Ideal.Value
public import proofs.«01_k».proof.Proof.Layer.Rows
public import Idealize.ShloMosaic.Lib.Pointwise
public import Idealize.ShloMosaic.Lib.Pipeline.ValueKit

/-! What the mixing kernel leaves in its output array, as a function of the launch's arguments. -/

@[expose] public section

set_option maxRecDepth 16384

noncomputable section

namespace Cert.Kernel3Ideal.Result

open Cert.Kernel3Ideal Cert.Kernel3Ideal.Gen Idealize.ShloMosaic Idealize.ShloMosaic.TcCoe Idealize.SL.Sem
open Idealize.ShloMosaic.Pointwise
open Idealize.ShloMosaic.Pipeline (Dat)
open Cert.Layer

/-- The 256 rows of a 1024-row array from row `a` on. -/
def rowsT {n : ℕ} {φ : EltTy} (x : Vec Ideal ⟨2, ![1024, n]⟩ φ) (a : ℕ) : Vec Ideal ⟨2, ![256, n]⟩ φ := fun i =>
  x (ix2 (⟨(a + (i 0).val) % 1024, Nat.mod_lt _ (by decide)⟩ : Fin 1024) (i 1 : Fin n))

theorem ld_rows {φ : EltTy} (x : Vec Ideal S1024x1024 φ) (a : ℕ) (inb) :
    View.ld (Val := Elt Ideal) (e' := φ) x (Rect.unit ![a, 0] S256x1024.size inb) = rowsT x a := by
  have ha : a + 256 ≤ 1024 := inb 0
  funext i
  refine View.ld_unit_apply_of x _ _ inb i _ fun d => ?_
  have h0 : (i 0).val < 256 := (i 0).isLt
  match d with
  | ⟨0, _⟩ => show (a + (i 0).val) % 1024 = a + (i 0).val; omega
  | ⟨1, _⟩ => show (i 1).val = 0 + (i 1).val; omega

theorem ld_half {φ : EltTy} (x : Vec Ideal S1024x512 φ) (a : ℕ) (inb) :
    View.ld (Val := Elt Ideal) (e' := φ) x (Rect.unit ![a, 0] S256x512.size inb) = rowsT x a := by
  have ha : a + 256 ≤ 1024 := inb 0
  funext i
  refine View.ld_unit_apply_of x _ _ inb i _ fun d => ?_
  have h0 : (i 0).val < 256 := (i 0).isLt
  match d with
  | ⟨0, _⟩ => show (a + (i 0).val) % 1024 = a + (i 0).val; omega
  | ⟨1, _⟩ => show (i 1).val = 0 + (i 1).val; omega

theorem ld_w {φ : EltTy} (x : Vec Ideal S1024x1024 φ) (inb) :
    View.ld (Val := Elt Ideal) (e' := φ) x (Rect.unit ![0, 0] S1024x1024.size inb) = x := by
  funext i
  refine View.ld_unit_apply_of x _ _ inb i _ fun d => ?_
  match d with
  | ⟨0, _⟩ => show (i 0).val = 0 + (i 0).val; omega
  | ⟨1, _⟩ => show (i 1).val = 0 + (i 1).val; omega

theorem ld_wb {φ : EltTy} (x : Vec Ideal S512x1024 φ) (inb) :
    View.ld (Val := Elt Ideal) (e' := φ) x (Rect.unit ![0, 0] S512x1024.size inb) = x := by
  funext i
  refine View.ld_unit_apply_of x _ _ inb i _ fun d => ?_
  match d with
  | ⟨0, _⟩ => show (i 0).val = 0 + (i 0).val; omega
  | ⟨1, _⟩ => show (i 1).val = 0 + (i 1).val; omega

theorem ld_v {φ : EltTy} (x : Vec Ideal S1x1024 φ) (inb) :
    View.ld (Val := Elt Ideal) (e' := φ) x (Rect.unit ![0, 0] S1x1024.size inb) = x := by
  funext i
  refine View.ld_unit_apply_of x _ _ inb i _ fun d => ?_
  match d with
  | ⟨0, _⟩ => show (i 0).val = 0 + (i 0).val; omega
  | ⟨1, _⟩ => show (i 1).val = 0 + (i 1).val; omega

/-- The norm of 256 rows. -/
def meanT (y : FVec Ideal S256x1024 .f32) : FVec Ideal S256x1 .f32 :=
  divf (shapeCast S256x1 (multiReduction .add [1] S256 y 0x00000000#32 reduces_S256x1024_S256 (.inl rfl) rfl) shapeCasts_S256_S256x1)
    (broadcast S256x1 (Scalar.ofBits .f32 0x44800000#32))
def centreT (y : FVec Ideal S256x1024 .f32) : FVec Ideal S256x1024 .f32 :=
  subf y (broadcastTo S256x1024 (meanT y) broadcasts_S256x1_S256x1024)
def normT (y : FVec Ideal S256x1024 .f32) (g b : FVec Ideal S1x1024 .f32) : FVec Ideal S256x1024 .f32 :=
  addf (mulf (mulf (centreT y) (broadcastTo S256x1024
        (rsqrt (addf (meanT (mulf (centreT y) (centreT y))) (broadcast S256x1 (Scalar.ofBits .f32 0x3727C5AC#32)))) broadcasts_S256x1_S256x1024))
      (broadcastTo S256x1024 (shapeCast S1x1024 g shapeCasts_S1x1024_S1x1024) broadcasts_S1x1024_S256x1024))
    (broadcastTo S256x1024 (shapeCast S1x1024 b shapeCasts_S1x1024_S1x1024) broadcasts_S1x1024_S256x1024)

/-- The mixed branches of 256 rows. -/
def mixT (x1 : Vec Ideal S256x1024 .bf16) (x2 : Vec Ideal S256x512 .bf16) (x3 x4 : Vec Ideal S256x1024 .bf16) (x5 : Vec Ideal S1024x1024 .bf16)
    (x6 : Vec Ideal S512x1024 .bf16) (x7 : Vec Ideal S1024x1024 .bf16) : FVec Ideal S256x1024 .f32 :=
  matmul (φ₁ := .bf16) (φ₂ := .bf16) dot_S256x1024_S1024x1024_S256x1024_1_0_0_1_n_n none
    (truncf .bf16 (addf
      (mulf (extf .f32 x3 bitsLt_bf16_f32) (matmul (φ₁ := .bf16) (φ₂ := .bf16) dot_S256x1024_S1024x1024_S256x1024_1_0_0_1_n_n none x1
        (shapeCast S1024x1024 x5 shapeCasts_S1024x1024_S1024x1024) (constant S256x1024 .f32 0x00000000#32)))
      (mulf (extf .f32 x4 bitsLt_bf16_f32) (matmul (φ₁ := .bf16) (φ₂ := .bf16) dot_S256x512_S512x1024_S256x1024_1_0_0_1_n_n none x2
        (shapeCast S512x1024 x6 shapeCasts_S512x1024_S512x1024) (constant S256x1024 .f32 0x00000000#32)))) bitsLt_bf16_f32)
    (shapeCast S1024x1024 x7 shapeCasts_S1024x1024_S1024x1024) (constant S256x1024 .f32 0x00000000#32)

/-- The residual plus the mixed branches of 256 rows. -/
def sumT (x0 : Vec Ideal S256x1024 .f32) (x1 : Vec Ideal S256x1024 .bf16) (x2 : Vec Ideal S256x512 .bf16) (x3 x4 : Vec Ideal S256x1024 .bf16) (x5 : Vec Ideal S1024x1024 .bf16)
    (x6 : Vec Ideal S512x1024 .bf16) (x7 : Vec Ideal S1024x1024 .bf16) : FVec Ideal S256x1024 .f32 :=
  addf (mulf (broadcast S256x1024 (Scalar.ofBits .f32 0x3F9837F0#32)) x0) (mixT x1 x2 x3 x4 x5 x6 x7)

/-- The piece the kernel stores at row `a`. -/
def pieceT (x0 : Vec Ideal S1024x1024 .f32) (x1 : Vec Ideal S1024x1024 .bf16) (x2 : Vec Ideal S1024x512 .bf16) (x3 x4 x5 : Vec Ideal S1024x1024 .bf16)
    (x6 : Vec Ideal S512x1024 .bf16) (x7 : Vec Ideal S1024x1024 .bf16) (x8 x9 : Vec Ideal S1x1024 .f32) (a : ℕ) : FVec Ideal S256x1024 .f32 :=
  normT (sumT (rowsT x0 a) (rowsT x1 a) (rowsT x2 a) (rowsT x3 a) (rowsT x4 a) x5 x6 x7) x8 x9

/-- The window the kernel leaves is, cell by cell, the piece of the cell's rows. -/
theorem out_pieces (x0 : Vec Ideal S1024x1024 .f32) (x1 : Vec Ideal S1024x1024 .bf16) (x2 : Vec Ideal S1024x512 .bf16) (x3 x4 x5 : Vec Ideal S1024x1024 .bf16)
    (x6 : Vec Ideal S512x1024 .bf16) (x7 : Vec Ideal S1024x1024 .bf16) (x8 x9 : Vec Ideal S1x1024 .f32)
    (y) (G : S1024x1024.Idx → Elt Ideal .f32)
    (hG : ∀ (r : ℕ) (x : S256x1024.Idx), (y 0).val = r * 256 + (x 0).val → (y 1).val = (x 1).val →
      pieceT x0 x1 x2 x3 x4 x5 x6 x7 x8 x9 (r * 256) x = G y) :
    out0_10 x0 x1 x2 x3 x4 x5 x6 x7 x8 x9 y = G y := by
  unfold_out out0_10
  canon_tiles x h
  all_goals
    unfold_payloads
    simp (disch := decide) only [ld_rows, ld_half, ld_w, ld_wb, ld_v]
  case piece0 => exact hG 3 x (by simpa using h0) (by simpa using h1)
  case piece1 => exact hG 2 x (by simpa using h0) (by simpa using h1)
  case piece2 => exact hG 1 x (by simpa using h0) (by simpa using h1)
  case piece3 => exact hG 0 x (by simpa using h0) (by simpa using h1)

/-- The norm, entry by entry. -/
theorem normT_apply (y : FVec Ideal S256x1024 .f32) (g b : FVec Ideal S1x1024 .f32) (i : Fin 256) (w : Fin 1024) :
    normT y g b (ix2 i w) = layerNorm (fun w => y (ix2 i w)) (fun w => g (ix2 0 w)) (fun w => b (ix2 0 w)) w := by
  pointwise [normT, centreT, meanT]
  rfl

/-- The sum, entry by entry. -/
theorem sumT_apply (x0 : Vec Ideal S256x1024 .f32) (x1 : Vec Ideal S256x1024 .bf16) (x2 : Vec Ideal S256x512 .bf16) (x3 x4 : Vec Ideal S256x1024 .bf16) (x5 : Vec Ideal S1024x1024 .bf16)
    (x6 : Vec Ideal S512x1024 .bf16) (x7 : Vec Ideal S1024x1024 .bf16) (i : Fin 256) (w : Fin 1024) :
    sumT x0 x1 x2 x3 x4 x5 x6 x7 (ix2 i w) = alpha * x0 (ix2 i w) + mixed (fun w => x1 (ix2 i w)) (fun w => x2 (ix2 i w))
      (fun w => x3 (ix2 i w)) (fun w => x4 (ix2 i w)) (fun k w => x5 (ix2 k w)) (fun k w => x6 (ix2 k w)) (fun k w => x7 (ix2 k w)) w := by
  pointwise [sumT, mixT]
  rfl

/-- A piece's entry. -/
theorem pieceT_apply (x0 : Vec Ideal S1024x1024 .f32) (x1 : Vec Ideal S1024x1024 .bf16) (x2 : Vec Ideal S1024x512 .bf16) (x3 x4 x5 : Vec Ideal S1024x1024 .bf16)
    (x6 : Vec Ideal S512x1024 .bf16) (x7 : Vec Ideal S1024x1024 .bf16) (x8 x9 : Vec Ideal S1x1024 .f32) (a : ℕ) (i : Fin 256) (w : Fin 1024) :
    pieceT x0 x1 x2 x3 x4 x5 x6 x7 x8 x9 a (ix2 i w)
      = mixRow (fun w => x0 (ix2 (⟨(a + i.val) % 1024, Nat.mod_lt _ (by decide)⟩ : Fin 1024) w))
        (fun w => x1 (ix2 (⟨(a + i.val) % 1024, Nat.mod_lt _ (by decide)⟩ : Fin 1024) w))
        (fun w => x2 (ix2 (⟨(a + i.val) % 1024, Nat.mod_lt _ (by decide)⟩ : Fin 1024) w))
        (fun w => x3 (ix2 (⟨(a + i.val) % 1024, Nat.mod_lt _ (by decide)⟩ : Fin 1024) w))
        (fun w => x4 (ix2 (⟨(a + i.val) % 1024, Nat.mod_lt _ (by decide)⟩ : Fin 1024) w))
        (fun k w => x5 (ix2 k w)) (fun k w => x6 (ix2 k w)) (fun k w => x7 (ix2 k w))
        (fun w => x8 (ix2 0 w)) (fun w => x9 (ix2 0 w)) w := by
  unfold pieceT
  rw [normT_apply]
  simp only [sumT_apply]
  rfl

variable (m : (ℓ : Loc nD τ sig) → Buf (Elt Ideal) ℓ)

/-- The launch's arguments as functions of their coordinates. -/
def arg0 (c : Dev nD) (s : Fin 32768) (w : Fin 1024) : EReal := m ((c : Thread nD τ).loc main_arg0) (ix2 s w)
def arg1 (c : Dev nD) (s : Fin 32768) (w : Fin 1024) : EReal := m ((c : Thread nD τ).loc main_arg1) (ix2 s w)
def arg2 (c : Dev nD) (s : Fin 32768) (w : Fin 512) : EReal := m ((c : Thread nD τ).loc main_arg2) (ix2 s w)
def arg3 (c : Dev nD) (s : Fin 32768) (w : Fin 1024) : EReal := m ((c : Thread nD τ).loc main_arg3) (ix2 s w)
def arg4 (c : Dev nD) (s : Fin 32768) (w : Fin 1024) : EReal := m ((c : Thread nD τ).loc main_arg4) (ix2 s w)
def arg5 (c : Dev nD) (k w : Fin 1024) : EReal := m ((c : Thread nD τ).loc main_arg5) (ix2 k w)
def arg6 (c : Dev nD) (k : Fin 512) (w : Fin 1024) : EReal := m ((c : Thread nD τ).loc main_arg6) (ix2 k w)
def arg7 (c : Dev nD) (k w : Fin 1024) : EReal := m ((c : Thread nD τ).loc main_arg7) (ix2 k w)
def arg8 (c : Dev nD) (w : Fin 1024) : EReal := m ((c : Thread nD τ).loc main_arg8) (ix1 w)
def arg9 (c : Dev nD) (w : Fin 1024) : EReal := m ((c : Thread nD τ).loc main_arg9) (ix1 w)

/-- What the kernel is given of the weights. -/
theorem V_pa (c : Dev nD) (k w : Fin 1024) : V m c main_v0 (ix2 k w) = arg5 m c k w := by
  have h : V m c main_v0 = truncf (F := Ideal) .bf16 (m ((c : Thread nD τ).loc main_arg5)) bitsLt_bf16_f32 := by
    unfold_abbrev_sides
    try simp only [List.flatten_cons, List.flatten_nil, List.append_nil, List.cons_append, List.nil_append]
    after_results_simp
    try rfl
  rw [h]
  rfl
theorem V_pb (c : Dev nD) (k : Fin 512) (w : Fin 1024) : V m c main_v1 (ix2 k w) = arg6 m c k w := by
  have h : V m c main_v1 = truncf (F := Ideal) .bf16 (m ((c : Thread nD τ).loc main_arg6)) bitsLt_bf16_f32 := by
    unfold_abbrev_sides
    try simp only [List.flatten_cons, List.flatten_nil, List.append_nil, List.cons_append, List.nil_append]
    after_results_simp
    try rfl
  rw [h]
  rfl
theorem V_wo (c : Dev nD) (k w : Fin 1024) : V m c main_v2 (ix2 k w) = arg7 m c k w := by
  have h : V m c main_v2 = truncf (F := Ideal) .bf16 (m ((c : Thread nD τ).loc main_arg7)) bitsLt_bf16_f32 := by
    unfold_abbrev_sides
    try simp only [List.flatten_cons, List.flatten_nil, List.append_nil, List.cons_append, List.nil_append]
    after_results_simp
    try rfl
  rw [h]
  rfl
theorem V_g (c : Dev nD) (w : Fin 1024) : V m c main_v3 (ix2 0 w) = arg8 m c w := by
  have h : V m c main_v3 = shapeCast S1x1024 (m ((c : Thread nD τ).loc main_arg8)) shapeCasts_S1024_S1x1024 := by
    unfold_abbrev_sides
    try simp only [List.flatten_cons, List.flatten_nil, List.append_nil, List.cons_append, List.nil_append]
    after_results_simp
    try rfl
  rw [h]
  unfold arg8
  pointwise
theorem V_b (c : Dev nD) (w : Fin 1024) : V m c main_v4 (ix2 0 w) = arg9 m c w := by
  have h : V m c main_v4 = shapeCast S1x1024 (m ((c : Thread nD τ).loc main_arg9)) shapeCasts_S1024_S1x1024 := by
    unfold_abbrev_sides
    try simp only [List.flatten_cons, List.flatten_nil, List.append_nil, List.cons_append, List.nil_append]
    after_results_simp
    try rfl
  rw [h]
  unfold arg9
  pointwise

/-- The windows' index maps: row block `t` of the rows, the weights whole. -/
theorem idx_all : ∀ t : Fin cfg0.N,
    win0_0.index t = ![t.val, 0] ∧ win0_1.index t = ![t.val, 0] ∧ win0_2.index t = ![t.val, 0] ∧ win0_3.index t = ![t.val, 0]
      ∧ win0_4.index t = ![t.val, 0] ∧ win0_5.index t = ![0, 0] ∧ win0_6.index t = ![0, 0] ∧ win0_7.index t = ![0, 0]
      ∧ win0_8.index t = ![0, 0] ∧ win0_9.index t = ![0, 0] ∧ win0_10.index t = ![t.val, 0] :=
  (by decide +kernel : ∀ t : Fin grid0.N,
    win0_0.index t = ![t.val, 0] ∧ win0_1.index t = ![t.val, 0] ∧ win0_2.index t = ![t.val, 0] ∧ win0_3.index t = ![t.val, 0]
      ∧ win0_4.index t = ![t.val, 0] ∧ win0_5.index t = ![0, 0] ∧ win0_6.index t = ![0, 0] ∧ win0_7.index t = ![0, 0]
      ∧ win0_8.index t = ![0, 0] ∧ win0_9.index t = ![0, 0] ∧ win0_10.index t = ![t.val, 0])

/-- Row `i` of a grid point's block. -/
def rowOf (t : Fin cfg0.N) (i : Fin 1024) : Fin 32768 := ⟨t.val * 1024 + i.val, by
  have h : t.val < 32 := t.isLt
  omega⟩

theorem blk_h (c : Dev nD) (t : Fin cfg0.N) (i w : Fin 1024) : iblk m c 0 t (ix2 i w) = arg0 m c (rowOf t i) w := by
  unfold arg0
  rw [← V_main_arg0 m c]
  blk_ext [iblk, rowOf, (idx_all t).1]
theorem blk_yr (c : Dev nD) (t : Fin cfg0.N) (i w : Fin 1024) : iblk m c 1 t (ix2 i w) = arg1 m c (rowOf t i) w := by
  unfold arg1
  rw [← V_main_arg1 m c]
  blk_ext [iblk, rowOf, (idx_all t).2.1]
theorem blk_ym (c : Dev nD) (t : Fin cfg0.N) (i : Fin 1024) (w : Fin 512) : iblk m c 2 t (ix2 i w) = arg2 m c (rowOf t i) w := by
  unfold arg2
  rw [← V_main_arg2 m c]
  blk_ext [iblk, rowOf, (idx_all t).2.2.1]
theorem blk_ga (c : Dev nD) (t : Fin cfg0.N) (i w : Fin 1024) : iblk m c 3 t (ix2 i w) = arg3 m c (rowOf t i) w := by
  unfold arg3
  rw [← V_main_arg3 m c]
  blk_ext [iblk, rowOf, (idx_all t).2.2.2.1]
theorem blk_gb (c : Dev nD) (t : Fin cfg0.N) (i w : Fin 1024) : iblk m c 4 t (ix2 i w) = arg4 m c (rowOf t i) w := by
  unfold arg4
  rw [← V_main_arg4 m c]
  blk_ext [iblk, rowOf, (idx_all t).2.2.2.2.1]
theorem blk_pa (c : Dev nD) (t : Fin cfg0.N) (k w : Fin 1024) : iblk m c 5 t (ix2 k w) = arg5 m c k w := by
  refine Eq.trans ?_ (V_pa m c k w)
  blk_ext [iblk, (idx_all t).2.2.2.2.2.1]
theorem blk_pb (c : Dev nD) (t : Fin cfg0.N) (k : Fin 512) (w : Fin 1024) : iblk m c 6 t (ix2 k w) = arg6 m c k w := by
  refine Eq.trans ?_ (V_pb m c k w)
  blk_ext [iblk, (idx_all t).2.2.2.2.2.2.1]
theorem blk_wo (c : Dev nD) (t : Fin cfg0.N) (k w : Fin 1024) : iblk m c 7 t (ix2 k w) = arg7 m c k w := by
  refine Eq.trans ?_ (V_wo m c k w)
  blk_ext [iblk, (idx_all t).2.2.2.2.2.2.2.1]
theorem blk_gn (c : Dev nD) (t : Fin cfg0.N) (w : Fin 1024) : iblk m c 8 t (ix2 0 w) = arg8 m c w := by
  refine Eq.trans ?_ (V_g m c w)
  blk_ext [iblk, (idx_all t).2.2.2.2.2.2.2.2.1]
theorem blk_bn (c : Dev nD) (t : Fin cfg0.N) (w : Fin 1024) : iblk m c 9 t (ix2 0 w) = arg9 m c w := by
  refine Eq.trans ?_ (V_b m c w)
  blk_ext [iblk, (idx_all t).2.2.2.2.2.2.2.2.2.1]

/-- The mixing kernel's result. -/
def result (c : Dev nD) : S32768x1024.Idx → Elt Ideal .f32 := fun I =>
  mixRow (arg0 m c (I 0)) (arg1 m c (I 0)) (arg2 m c (I 0)) (arg3 m c (I 0)) (arg4 m c (I 0)) (arg5 m c) (arg6 m c) (arg7 m c)
    (arg8 m c) (arg9 m c) (I 1)

/-- What the kernel leaves in its output array. -/
theorem out_array (c : Dev nD) : (dats m 0 c).arrAt 10 cfg0.N = result m c := by
  refine (dats m 0 c).arrAt_eq_of_covers 10 _ (by decide +kernel) fun t hf y => ?_
  blk_simp
  rw [after0_10]
  refine out_pieces _ _ _ _ _ _ _ _ _ _ y (fun y => result m c (((cfg0.win 10).blk t).view.emb y)) ?_
  intro r x h0 h1
  have hx0 : (x 0).val < 256 := (x 0).isLt
  have hx1 : (x 1).val < 1024 := (x 1).isLt
  have hy0 : (y 0).val < 1024 := (y 0).isLt
  have ht : t.val < 32 := t.isLt
  have hi := (idx_all t).2.2.2.2.2.2.2.2.2.2
  have p0 : ((((cfg0.win 10).blk t).view.emb y) 0 : Fin 32768).val = t.val * 1024 + (r * 256 + (x 0).val) := by
    rw [← h0]; blk_simp [hi]
  have p1 : ((((cfg0.win 10).blk t).view.emb y) 1 : Fin 1024).val = (x 1).val := by
    rw [← h1]; blk_simp [hi]
  have hx : x = ix2 (x 0) (x 1) := by blk_ext
  rw [hx]
  refine (pieceT_apply _ _ _ _ _ _ _ _ _ _ _ (x 0) (x 1)).trans ?_
  simp only [blk_h, blk_yr, blk_ym, blk_ga, blk_gb, blk_pa, blk_pb, blk_wo, blk_gn, blk_bn]
  show _ = mixRow (arg0 m c ((((cfg0.win 10).blk t).view.emb y) 0)) (arg1 m c ((((cfg0.win 10).blk t).view.emb y) 0))
    (arg2 m c ((((cfg0.win 10).blk t).view.emb y) 0)) (arg3 m c ((((cfg0.win 10).blk t).view.emb y) 0))
    (arg4 m c ((((cfg0.win 10).blk t).view.emb y) 0)) _ _ _ _ _ ((((cfg0.win 10).blk t).view.emb y) 1)
  generalize (((cfg0.win 10).blk t).view.emb y 0 : Fin 32768) = s at p0
  generalize (((cfg0.win 10).blk t).view.emb y 1 : Fin 1024) = w at p1
  have hs : rowOf t (⟨(r * 256 + (x 0).val) % 1024, Nat.mod_lt _ (by decide)⟩ : Fin 1024) = s := Fin.ext (by
    show t.val * 1024 + (r * 256 + (x 0).val) % 1024 = s.val; omega)
  have hw : (x 1 : Fin 1024) = w := Fin.ext p1.symm
  rw [hs, hw]

end Cert.Kernel3Ideal.Result

end
-- ==== Proof.Mix.Reference.lean ====
module

public import proofs.«01_k».proof.Proof.Gen.Reference3Ideal.Read
public import proofs.«01_k».proof.Proof.Layer.Rows
public import Idealize.ShloMosaic.Lib.Pointwise

/-! The reference's mixing read at an index. -/

@[expose] public section

set_option maxRecDepth 16384

noncomputable section

namespace Cert.Reference3Ideal.Result

open Cert.Reference3Ideal Cert.Reference3Ideal.Gen Cert.Reference3Ideal.Read Idealize.ShloMosaic Idealize.ShloMosaic.TcCoe
open Idealize.ShloMosaic.Pointwise
open Cert.Layer

variable (x0 : (⟨S32768x1024, .f32⟩ : BufTy).Contents (Elt Ideal)) (x1 : (⟨S32768x1024, .bf16⟩ : BufTy).Contents (Elt Ideal))
  (x2 : (⟨S32768x512, .bf16⟩ : BufTy).Contents (Elt Ideal)) (x3 x4 : (⟨S32768x1024, .bf16⟩ : BufTy).Contents (Elt Ideal))
  (x5 : (⟨S1024x1024, .f32⟩ : BufTy).Contents (Elt Ideal)) (x6 : (⟨S512x1024, .f32⟩ : BufTy).Contents (Elt Ideal))
  (x7 : (⟨S1024x1024, .f32⟩ : BufTy).Contents (Elt Ideal)) (x8 x9 : (⟨S1024, .f32⟩ : BufTy).Contents (Elt Ideal))

/-- The residual plus the mixed branches. -/
theorem sum_apply (s : Fin 32768) (w : Fin 1024) :
    val_main_v12 (F := Ideal) x0 x1 x2 x3 x4 x5 x6 x7 (ix2 s w) = alpha * x0 (ix2 s w) + mixed (fun w => x1 (ix2 s w)) (fun w => x2 (ix2 s w))
      (fun w => x3 (ix2 s w)) (fun w => x4 (ix2 s w)) (fun k w => x5 (ix2 k w)) (fun k w => x6 (ix2 k w)) (fun k w => x7 (ix2 k w)) w := by
  pointwise [val_main_v12, val_main_v11, val_main_v10, val_main_cst, val_main_v9, val_main_v8, val_main_v7, val_main_v6, val_main_v5,
    val_main_v4, val_main_v3, val_main_v2, val_main_v1, val_main_v0]
  rfl

/-- The result, entry by entry. -/
theorem result_apply (s : Fin 32768) (w : Fin 1024) :
    val_main_v36 (F := Ideal) x0 x1 x2 x3 x4 x5 x6 x7 x8 x9 (ix2 s w)
      = mixRow (fun w => x0 (ix2 s w)) (fun w => x1 (ix2 s w)) (fun w => x2 (ix2 s w)) (fun w => x3 (ix2 s w)) (fun w => x4 (ix2 s w))
        (fun k w => x5 (ix2 k w)) (fun k w => x6 (ix2 k w)) (fun k w => x7 (ix2 k w)) (fun w => x8 (ix1 w)) (fun w => x9 (ix1 w)) w := by
  pointwise [val_main_v36, val_main_v35, val_main_v34, val_main_v33, val_main_v32, val_main_v31, val_main_v30, val_main_v29,
    val_main_v28, val_main_v27, val_main_v26, val_main_v25, val_main_v24, val_main_v23, val_main_v22, val_main_v21, val_main_v20,
    val_main_v19, val_main_v18, val_main_v17, val_main_v16, val_main_v15, val_main_v14, val_main_v13,
    val_main_cst_0, val_main_cst_1, val_main_cst_2, val_main_cst_3, val_main_cst_4]
  simp only [sum_apply]
  rfl

end Cert.Reference3Ideal.Result

end
-- ==== Proof.Moba.Chain.lean ====
module

public import proofs.«01_k».proof.Proof.Gen.Kernel5Ideal.Frame
public import Idealize.ShloMosaic.Lib.Pointwise

/-! The block attention's kernel as sixteen chains: a head's queries of one block against the key blocks up to it, the
    block itself first and the earlier ones after it, nearest first. -/

@[expose] public section

set_option maxRecDepth 16384

noncomputable section

namespace Cert.Kernel5Ideal.Result

open Cert.Kernel5Ideal Cert.Kernel5Ideal.Gen Idealize.ShloMosaic Idealize.ShloMosaic.TcCoe Idealize.SL.Sem
open Idealize.ShloMosaic.Pointwise

theorem slices_key : ∀ t : Fin 8, S2048x128.Slices ![t.val * 256, 0] S256x128 := by decide
theorem slices_query : ∀ t : Fin 8, S128x2048.Slices ![0, t.val * 256] S128x256 := by decide
theorem slices_value : ∀ t : Fin 8, S80x2048.Slices ![0, t.val * 256] S80x256 := by decide

/-- The block `n` before block `i`. -/
def back (i : Fin 8) (n : ℕ) : Fin 8 := ⟨i.val - n, by omega⟩

variable (Q : FVec Ideal S128x2048 .bf16) (K : FVec Ideal S2048x128 .bf16) (V : FVec Ideal S80x2048 .bf16) (i : Fin 8)

/-- The products of block `i`'s queries and the keys of the block `n` before it. -/
def dotT (n : ℕ) : FVec Ideal S256x256 .f32 :=
  matmul dot_S256x128_S128x256_S256x256_1_0_0_1_n_n none
    (extractStridedSlice S256x128 ![(back i n).val * 256, 0] K (slices_key (back i n)))
    (extractStridedSlice S128x256 ![0, i.val * 256] Q (slices_query i)) (constant S256x256 .f32 0x00000000#32)

/-- The scores: within the block itself a key after the query is masked. -/
def scoreT : ℕ → FVec Ideal S256x256 .f32
  | 0 => select (cmpi .sle (addi (iota .tc S256x256 32 [0] iota_S256x256_d0_w32) (broadcast S256x256 0#32))
      (iota .tc S256x256 32 [1] iota_S256x256_d1_w32)) (dotT Q K i 0) (broadcast S256x256 (Named.named κ "mask" 0xF149F2CA#32))
  | n + 1 => dotT Q K i (n + 1)

/-- The largest score of each eighth of the rows of a block. -/
def redT (s : FVec Ideal S256x256 .f32) : FVec Ideal S8x256 .f32 :=
  multiReduction .maximumf [0] S8x256 (shapeCast S32x8x256 s shapeCasts_S256x256_S32x8x256) 0xFF800000#32 reduces_S32x8x256_S8x256 (.inl rfl) rfl

/-- The largest over the blocks met so far. -/
def mostT : ℕ → FVec Ideal S8x256 .f32
  | 0 => redT (scoreT Q K i 0)
  | n + 1 => maximumf (mostT n) (redT (scoreT Q K i (n + 1)))

/-- The largest score of each query. -/
def maxT : FVec Ideal S1x256 .f32 :=
  shapeCast S1x256 (multiReduction .maximumf [0] S256 (mostT Q K i i.val) 0xFF800000#32 reduces_S8x256_S256 (.inl rfl) rfl) shapeCasts_S256_S1x256

/-- The weights of the block `n` before. -/
def weightT (n : ℕ) : FVec Ideal S256x256 .bf16 :=
  concatenate S256x256 0
    [⟨S128x256, exp2 (truncf .bf16 (subf (extractStridedSlice S128x256 ![0, 0] (scoreT Q K i n) slices_S256x256_o0_0_S128x256)
        (broadcastTo S128x256 (maxT Q K i) broadcasts_S1x256_S128x256)) bitsLt_bf16_f32)⟩,
     ⟨S128x256, exp2 (truncf .bf16 (subf (extractStridedSlice S128x256 ![128, 0] (scoreT Q K i n) slices_S256x256_o128_0_S128x256)
        (broadcastTo S128x256 (maxT Q K i) broadcasts_S1x256_S128x256)) bitsLt_bf16_f32)⟩]
    concatenates_S128x256_S128x256_S256x256_d0

/-- The values of the block `n` before, weighted. -/
def partT (n : ℕ) : FVec Ideal S80x256 .f32 :=
  matmul dot_S80x256_S256x256_S80x256_1_0_0_1_n_n none
    (extractStridedSlice S80x256 ![0, (back i n).val * 256] V (slices_value (back i n))) (weightT Q K i n) (constant S80x256 .f32 0x00000000#32)

/-- The weighted values summed over the blocks met so far. -/
def accT : ℕ → FVec Ideal S80x256 .f32
  | 0 => partT Q K V i 0
  | n + 1 => addf (accT n) (partT Q K V i (n + 1))

/-- The chain's result: the weighted values over the weights' sum. -/
def chainT : FVec Ideal S64x256 .f32 :=
  divf (extractStridedSlice S64x256 ![0, 0] (accT Q K V i i.val) slices_S80x256_o0_0_S64x256)
    (broadcastTo S64x256 (extractStridedSlice S1x256 ![64, 0] (accT Q K V i i.val) slices_S80x256_o64_0_S1x256) broadcasts_S1x256_S64x256)

/-- A head's eight chains side by side. -/
def headT : FVec Ideal S64x2048 .f32 :=
  concatenate S64x2048 1 [⟨S64x256, chainT Q K V 0⟩, ⟨S64x256, chainT Q K V 1⟩, ⟨S64x256, chainT Q K V 2⟩, ⟨S64x256, chainT Q K V 3⟩,
    ⟨S64x256, chainT Q K V 4⟩, ⟨S64x256, chainT Q K V 5⟩, ⟨S64x256, chainT Q K V 6⟩, ⟨S64x256, chainT Q K V 7⟩]
    concatenates_S64x256_S64x256_S64x256_S64x256_S64x256_S64x256_S64x256_S64x256_S64x2048_d1

/-- Two heads, turned to rows of tokens. -/
def pairT (A B : FVec Ideal S64x2048 .f32) : FVec Ideal S2048x128 .bf16 :=
  truncf .bf16 (transpose S2048x128 [1, 0] (concatenate S128x2048 0 [⟨S64x2048, A⟩, ⟨S64x2048, B⟩] concatenates_S64x2048_S64x2048_S128x2048_d0)
    transposes_S128x2048_p1_0_S2048x128) bitsLt_bf16_f32

/-- The kernel's window is its sixteen chains. -/
theorem out_chains (x0 : Vec Ideal S1x128x2048 .f32) (x1 : Vec Ideal S1x2048x128 .bf16) (x2 : Vec Ideal S1x128x2048 .bf16) (x3 : Vec Ideal S1x8x128 .f32) :
    out0_4 x0 x1 x2 x3 = View.canon [⟨r0_1, k0_pay1 (pairT
      (headT (k0_pay403 x0 x1 x2 x3) (k0_pay404 x0 x1 x2 x3) (k0_pay405 x0 x1 x2 x3))
      (headT (k0_pay465 x0 x1 x2 x3) (k0_pay466 x0 x1 x2 x3) (k0_pay467 x0 x1 x2 x3)))⟩] := rfl

end Cert.Kernel5Ideal.Result

end
-- ==== Proof.Moba.Chunk.lean ====
module

public import proofs.«01_k».proof.Proof.Moba.Chain
public import Idealize.ShloMosaic.Lib.WordCmp

/-! The chains entry by entry. -/

@[expose] public section

set_option maxRecDepth 16384

noncomputable section

namespace Cert.Kernel5Ideal.Result

open Cert.Kernel5Ideal Cert.Kernel5Ideal.Gen Idealize.ShloMosaic Idealize.ShloMosaic.TcCoe Idealize.SL.Sem
open Idealize.ShloMosaic.Pointwise

variable (Q : FVec Ideal S128x2048 .bf16) (K : FVec Ideal S2048x128 .bf16) (V : FVec Ideal S80x2048 .bf16) (i : Fin 8)

/-- Row `j` of block `t`. -/
def at256 (t : Fin 8) (j : Fin 256) : Fin 2048 := ⟨t.val * 256 + j.val, by omega⟩

theorem mask_bot : (Named.named κ "mask" 0xF149F2CA#32 : Ideal .f32) = (⊥ : EReal) :=
  IdealRules.named_const.ideal_named_scalar _ _ _ _ rfl

theorem low_bot : Ideal.ofBits .f32 0xFF800000#32 = (⊥ : EReal) := by
  simp [Ideal.ofBits, Ideal.ieee]

theorem dotT_apply (n : ℕ) (j x : Fin 256) :
    dotT Q K i n (ix2 j x) = ∑ l : Fin 128, K (ix2 (at256 (back i n) j) l) * Q (ix2 l (at256 i x)) := by
  pointwise [dotT, at256]

theorem scoreT_zero (j x : Fin 256) :
    scoreT Q K i 0 (ix2 j x) = if j.val ≤ x.val then dotT Q K i 0 (ix2 j x) else ⊥ := by
  pointwise [scoreT]
  rw [mask_bot, IntOp.addi, BitVec.add_zero, Idealize.ShloMosaic.WordCmp.cmpi_sle_ofNat (by omega) (by omega), Scalar.select_ofBool]
  by_cases h : j.val ≤ x.val <;> simp [h]

theorem redT_apply (s : FVec Ideal S256x256 .f32) (b : Fin 8) (x : Fin 256) :
    redT s (ix2 b x) = Finset.univ.fold max ⊥ fun a : Fin 32 => s (ix2 (⟨a.val * 8 + b.val, by omega⟩ : Fin 256) x) := by
  pointwise [redT]
  rw [low_bot]

theorem maxT_apply (x : Fin 256) :
    maxT Q K i (ix2 (0 : Fin 1) x) = Finset.univ.fold max ⊥ fun b : Fin 8 => mostT Q K i i.val (ix2 b x) := by
  pointwise [maxT]
  rw [low_bot]

theorem weightT_apply (n : ℕ) (j x : Fin 256) :
    weightT Q K i n (ix2 j x) = Ideal.exp2 (scoreT Q K i n (ix2 j x) - maxT Q K i (ix2 (0 : Fin 1) x)) := by
  pointwise [weightT]
  by_cases h : j.val < 128
  · rw [dif_pos h]; rfl
  · rw [dif_neg h]
    have e : (⟨128 + (j.val - 128), by omega⟩ : Fin 256) = j := Fin.ext (by show 128 + (j.val - 128) = j.val; omega)
    rw [e]; rfl

theorem partT_apply (n : ℕ) (d : Fin 80) (x : Fin 256) :
    partT Q K V i n (ix2 d x) = ∑ j : Fin 256, V (ix2 d (at256 (back i n) j)) * weightT Q K i n (ix2 j x) := by
  pointwise [partT, at256]

theorem chainT_apply (d : Fin 64) (x : Fin 256) :
    chainT Q K V i (ix2 d x) = Ideal.div (accT Q K V i i.val (ix2 (⟨d.val, by omega⟩ : Fin 80) x)) (accT Q K V i i.val (ix2 (64 : Fin 80) x)) := by
  pointwise [chainT]

theorem accT_apply (d : Fin 80) (x : Fin 256) : ∀ n : ℕ,
    accT Q K V i n (ix2 d x) = ∑ r ∈ Finset.range (n + 1), partT Q K V i r (ix2 d x)
  | 0 => by rw [Finset.sum_range_one]; rfl
  | n + 1 => by rw [Finset.sum_range_succ, ← accT_apply d x n]; rfl

end Cert.Kernel5Ideal.Result

end
-- ==== Proof.Moba.Input.lean ====
module

public import proofs.«01_k».proof.Proof.Moba.Chunk

/-! The chains' operands entry by entry. -/

@[expose] public section

set_option maxRecDepth 16384

noncomputable section

namespace Cert.Kernel5Ideal.Result

open Cert.Kernel5Ideal Cert.Kernel5Ideal.Gen Idealize.ShloMosaic Idealize.ShloMosaic.TcCoe Idealize.SL.Sem
open Idealize.ShloMosaic.Pointwise

variable (x0 : Vec Ideal S1x128x2048 .f32) (x1 : Vec Ideal S1x2048x128 .bf16) (x2 : Vec Ideal S1x128x2048 .bf16) (x3 : Vec Ideal S1x8x128 .f32)

theorem low_own : ∀ l : Fin 64, IntOp.andi (IntOp.cmpi CmpIPredicate.sge (BitVec.ofNat 32 l.val) 0#32)
    (IntOp.cmpi CmpIPredicate.slt (BitVec.ofNat 32 l.val) 64#32) = 1#1 := by decide +kernel
theorem low_other : ∀ l : Fin 64, IntOp.andi (IntOp.cmpi CmpIPredicate.sge (BitVec.ofNat 32 (64 + l.val)) 0#32)
    (IntOp.cmpi CmpIPredicate.slt (BitVec.ofNat 32 (64 + l.val)) 64#32) = 0#1 := by decide +kernel
theorem high_other : ∀ l : Fin 64, IntOp.andi (IntOp.cmpi CmpIPredicate.sge (BitVec.ofNat 32 l.val) 64#32)
    (IntOp.cmpi CmpIPredicate.slt (BitVec.ofNat 32 l.val) 128#32) = 0#1 := by decide +kernel
theorem high_own : ∀ l : Fin 64, IntOp.andi (IntOp.cmpi CmpIPredicate.sge (BitVec.ofNat 32 (64 + l.val)) 64#32)
    (IntOp.cmpi CmpIPredicate.slt (BitVec.ofNat 32 (64 + l.val)) 128#32) = 1#1 := by decide +kernel
theorem low_hot : ∀ (l : Fin 64) (n : Fin 8), IntOp.cmpi CmpIPredicate.eq (IntOp.subi (BitVec.ofNat 32 (64 + l.val)) 64#32) (BitVec.ofNat 32 n.val)
    = BitVec.ofBool (decide (l.val = n.val)) := by decide +kernel
theorem high_hot : ∀ (l : Fin 64) (n : Fin 8), IntOp.cmpi CmpIPredicate.eq (IntOp.subi (BitVec.ofNat 32 l.val) 0#32) (BitVec.ofNat 32 n.val)
    = BitVec.ofBool (decide (l.val = n.val)) := by decide +kernel
theorem select_one {α : Type} (a b : α) : Scalar.select 1#1 a b = a := rfl
theorem select_zero {α : Type} (a b : α) : Scalar.select 0#1 a b = b := rfl
theorem select_decide {α : Type} (p : Prop) [Decidable p] (a b : α) : Scalar.select (BitVec.ofBool (decide p)) a b = if p then a else b := by
  rw [Scalar.select_ofBool]
  by_cases h : p <;> simp [h]

theorem blkrow (p : Fin 2048) (l : Fin 128) : k0_pay392 x0 x1 x2 x3 (ix2 p l) = BitVec.ofNat 32 (p.val / 256) := by
  pointwise [k0_pay392, k0_pay6]
  revert p
  decide +kernel

theorem blkcol (t : Fin 8) (s : Fin 2048) : k0_pay393 x0 x1 x2 x3 (ix2 t s) = BitVec.ofNat 32 (s.val / 256) := by
  pointwise [k0_pay393, k0_pay7]
  revert s
  decide +kernel

theorem q_apply (l : Fin 128) (s : Fin 2048) : k0_pay388 x0 x1 x2 x3 (ix2 l s) = x0 (ix3 (0 : Fin 1) l s) := by
  pointwise [k0_pay388, k0_pay2]

theorem k_apply (s : Fin 2048) (l : Fin 128) : k0_pay389 x0 x1 x2 x3 (ix2 s l) = x1 (ix3 (0 : Fin 1) s l) := by
  pointwise [k0_pay389, k0_pay3]

theorem v_apply (l : Fin 128) (s : Fin 2048) : k0_pay390 x0 x1 x2 x3 (ix2 l s) = x2 (ix3 (0 : Fin 1) l s) := by
  pointwise [k0_pay390, k0_pay4]

theorem m_apply (t : Fin 8) (l : Fin 128) : k0_pay391 x0 x1 x2 x3 (ix2 t l) = x3 (ix3 (0 : Fin 1) t l) := by
  pointwise [k0_pay391, k0_pay5]

/-- The factor of the queries. -/
def scaleT : Ideal .f32 := Named.named κ "scale" 0x3E38AA3B#32

theorem q0_low (l : Fin 64) (s : Fin 2048) :
    k0_pay403 x0 x1 x2 x3 (ix2 (⟨l.val, by omega⟩ : Fin 128) s) = x0 (ix3 (0 : Fin 1) (⟨l.val, by omega⟩ : Fin 128) s) * scaleT := by
  pointwise [k0_pay403, k0_pay25, k0_pay400, k0_pay23, k0_pay401, k0_pay24]
  exact congrArg (· * scaleT) (q_apply x0 x1 x2 x3 _ _)

theorem q0_high (l : Fin 64) (s : Fin 2048) :
    k0_pay403 x0 x1 x2 x3 (ix2 (⟨64 + l.val, by omega⟩ : Fin 128) s) = if h : l.val < 8 then k0_pay398 x0 x1 x2 x3 (ix2 (⟨l.val, h⟩ : Fin 8) s) else 0 := by
  pointwise [k0_pay403, k0_pay25, k0_pay400, k0_pay23, k0_pay401, k0_pay24]

theorem k0_low (s : Fin 2048) (l : Fin 64) :
    k0_pay404 x0 x1 x2 x3 (ix2 s (⟨l.val, by omega⟩ : Fin 128)) = x1 (ix3 (0 : Fin 1) s (⟨l.val, by omega⟩ : Fin 128)) := by
  pointwise [k0_pay404, k0_pay26, k0_pay399, k0_pay22, k0_pay384]
  rw [low_own, select_one, k_apply]

theorem k0_high (s : Fin 2048) (l : Fin 64) :
    k0_pay404 x0 x1 x2 x3 (ix2 s (⟨64 + l.val, by omega⟩ : Fin 128)) = if l.val = s.val / 256 then 1 else 0 := by
  pointwise [k0_pay404, k0_pay26, k0_pay399, k0_pay22, k0_pay384]
  rw [low_other, select_zero, blkrow, low_hot l ⟨s.val / 256, by omega⟩, select_decide]

theorem v0_low (l : Fin 64) (s : Fin 2048) :
    k0_pay405 x0 x1 x2 x3 (ix2 (⟨l.val, by omega⟩ : Fin 80) s) = x2 (ix3 (0 : Fin 1) (⟨l.val, by omega⟩ : Fin 128) s) := by
  pointwise [k0_pay405, k0_pay27]
  rw [v_apply]

theorem v0_one (s : Fin 2048) : k0_pay405 x0 x1 x2 x3 (ix2 (64 : Fin 80) s) = 1 := by
  pointwise [k0_pay405, k0_pay27]

theorem q1_low (l : Fin 64) (s : Fin 2048) :
    k0_pay465 x0 x1 x2 x3 (ix2 (⟨l.val, by omega⟩ : Fin 128) s)
      = if h : l.val < 8 then Scalar.select (k0_pay464 x0 x1 x2 x3 (ix2 (⟨l.val, h⟩ : Fin 8) s)) 0 ⊥ else 0 := by
  pointwise [k0_pay465, k0_pay184]
  by_cases h : l.val < 8
  · rw [dif_pos h, dif_pos h, mask_bot]
  · rw [dif_neg h, dif_neg h, dif_pos (by omega)]

theorem q1_high (l : Fin 64) (s : Fin 2048) :
    k0_pay465 x0 x1 x2 x3 (ix2 (⟨64 + l.val, by omega⟩ : Fin 128) s) = x0 (ix3 (0 : Fin 1) (⟨64 + l.val, by omega⟩ : Fin 128) s) * scaleT := by
  pointwise [k0_pay465, k0_pay184]
  rw [dif_neg (by omega), dif_neg (by omega)]
  have e : (⟨64 + (64 + l.val - 8 - 56), by omega⟩ : Fin 128) = ⟨64 + l.val, by omega⟩ := Fin.ext (by dsimp only; omega)
  rw [e, q_apply]
  rfl

theorem k1_low (s : Fin 2048) (l : Fin 64) :
    k0_pay466 x0 x1 x2 x3 (ix2 s (⟨l.val, by omega⟩ : Fin 128)) = if l.val = s.val / 256 then 1 else 0 := by
  pointwise [k0_pay466, k0_pay185, k0_pay384]
  rw [high_other, select_zero, blkrow, high_hot l ⟨s.val / 256, by omega⟩, select_decide]

theorem k1_high (s : Fin 2048) (l : Fin 64) :
    k0_pay466 x0 x1 x2 x3 (ix2 s (⟨64 + l.val, by omega⟩ : Fin 128)) = x1 (ix3 (0 : Fin 1) s (⟨64 + l.val, by omega⟩ : Fin 128)) := by
  pointwise [k0_pay466, k0_pay185, k0_pay384]
  rw [high_own, select_one, k_apply]

theorem v1_low (l : Fin 64) (s : Fin 2048) :
    k0_pay467 x0 x1 x2 x3 (ix2 (⟨l.val, by omega⟩ : Fin 80) s) = x2 (ix3 (0 : Fin 1) (⟨64 + l.val, by omega⟩ : Fin 128) s) := by
  pointwise [k0_pay467, k0_pay186]
  rw [v_apply]

theorem v1_one (s : Fin 2048) : k0_pay467 x0 x1 x2 x3 (ix2 (64 : Fin 80) s) = 1 := by
  pointwise [k0_pay467, k0_pay186]

/-- The kernel's bit: block `u` comes before block `t`, and is past. -/
def beatBit (g : Fin 8 → EReal) (cur : ℕ) (t u : Fin 8) : BitVec 1 :=
  IntOp.andi (IntOp.ori (Ideal.cmp .ogt (g u) (g t)) (IntOp.andi (Ideal.cmp .oeq (g u) (g t))
    (IntOp.cmpi .sgt (BitVec.ofNat 32 t.val) (BitVec.ofNat 32 u.val)))) (IntOp.cmpi .sgt (BitVec.ofNat 32 cur) (BitVec.ofNat 32 u.val))

/-- The kernel's bit: block `t` is kept. -/
def keepBit (g : Fin 8 → EReal) (cur : ℕ) (t : Fin 8) : BitVec 1 :=
  let one (u : Fin 8) : BitVec 32 := Scalar.select (beatBit g cur t u) 1#32 0#32
  IntOp.ori (IntOp.andi (IntOp.cmpi .slt (IntOp.addi (IntOp.addi (IntOp.addi (IntOp.addi (IntOp.addi (IntOp.addi (IntOp.addi 0#32 (one 0)) (one 1)) (one 2))
    (one 3)) (one 4)) (one 5)) (one 6)) 3#32) (IntOp.cmpi .slt (BitVec.ofNat 32 t.val) (BitVec.ofNat 32 cur)))
    (IntOp.cmpi .eq (BitVec.ofNat 32 t.val) (BitVec.ofNat 32 cur))

theorem sel_apply (t : Fin 8) (s : Fin 2048) :
    k0_pay398 x0 x1 x2 x3 (ix2 t s)
      = Scalar.select (keepBit (fun u => k0_pay396 x0 x1 x2 x3 (ix2 (⟨u.val, by omega⟩ : Fin 16) s)) (s.val / 256) t) 0 ⊥ := by
  pointwise [k0_pay398, k0_pay21, k0_pay17, k0_pay13, k0_pay15, k0_pay14, k0_pay16, k0_pay19, k0_pay18, k0_pay20, k0_pay397, k0_pay12, k0_pay387]
  rw [blkcol, mask_bot]
  rfl

theorem keep_apply (t : Fin 8) (s : Fin 2048) :
    k0_pay464 x0 x1 x2 x3 (ix2 t s) = keepBit (fun u => k0_pay396 x0 x1 x2 x3 (ix2 (⟨8 + u.val, by omega⟩ : Fin 16) s)) (s.val / 256) t := by
  pointwise [k0_pay464, k0_pay183, k0_pay178, k0_pay173, k0_pay175, k0_pay176, k0_pay177, k0_pay180, k0_pay181, k0_pay182, k0_pay174, k0_pay179, k0_pay463, k0_pay172, k0_pay387]
  rw [blkcol]
  rfl

end Cert.Kernel5Ideal.Result

end
-- ==== Proof.Moba.Softmax.lean ====
module

public import Idealize.ShloMosaic.PureOps.Ideal.Laws
public import Idealize.ShloMosaic.Lib.Pointwise

/-! A softmax over real scores, some of them masked, applied to values of any kind: subtracting any real number from the
    scores, taking the powers of two of scores divided by two's logarithm, and dividing before or after the sum give the same. -/

@[expose] public section

noncomputable section

namespace Cert.Moba

open Idealize.ShloMosaic

/-- A real factor goes through a sum. -/
theorem sum_mul_coe {ι : Type*} (s : Finset ι) (f : ι → EReal) (a : ℝ) (ha : 0 ≤ a) :
    (∑ x ∈ s, f x) * (a : EReal) = ∑ x ∈ s, f x * (a : EReal) := by
  classical
  induction s using Finset.induction_on with
  | empty => simp
  | insert x s hx ih =>
    rw [Finset.sum_insert hx, Finset.sum_insert hx, ← ih, mul_comm, EReal.left_distrib_of_nonneg_of_ne_top (by exact_mod_cast ha) (EReal.coe_ne_top a),
      mul_comm (a : EReal), mul_comm (a : EReal)]

/-- A sum of reals. -/
theorem coe_sum {ι : Type*} (s : Finset ι) (f : ι → ℝ) : ((∑ x ∈ s, f x : ℝ) : EReal) = ∑ x ∈ s, (f x : EReal) := by
  classical
  induction s using Finset.induction_on with
  | empty => simp
  | insert x s hx ih => rw [Finset.sum_insert hx, Finset.sum_insert hx, EReal.coe_add, ih]

/-- The softmax's weight of a position. -/
def weight {N : ℕ} (keep : Fin N → Prop) [DecidablePred keep] (a : Fin N → ℝ) (p : Fin N) : ℝ := if keep p then Real.exp (a p) else 0

/-- The softmax of the kept scores, applied to the values. -/
def attend {N : ℕ} (keep : Fin N → Prop) [DecidablePred keep] (a : Fin N → ℝ) (v : Fin N → EReal) : EReal :=
  ∑ p, ((weight keep a p / ∑ q, weight keep a q : ℝ) : EReal) * v p

section
variable {N : ℕ} (keep : Fin N → Prop) [DecidablePred keep] (a : Fin N → ℝ)

theorem weight_nonneg (p : Fin N) : 0 ≤ weight keep a p := by
  unfold weight; split
  · exact (Real.exp_pos _).le
  · exact le_rfl

theorem weight_sum_pos {p : Fin N} (hp : keep p) : 0 < ∑ q, weight keep a q :=
  Finset.sum_pos' (fun q _ => weight_nonneg keep a q) ⟨p, Finset.mem_univ _, by unfold weight; rw [if_pos hp]; exact Real.exp_pos _⟩

/-- The exponential of a kept score less a real number. -/
theorem exp_masked (m : ℝ) (p : Fin N) :
    Ideal.exp ((if keep p then ((a p : ℝ) : EReal) else ⊥) - (m : EReal)) = ((weight keep a p * Real.exp (-m) : ℝ) : EReal) := by
  unfold weight
  split
  · rw [← EReal.coe_sub, ← Real.exp_add]; rfl
  · rw [EReal.bot_sub, zero_mul]; rfl

/-- The power of two of a kept score over two's logarithm, less a real number. -/
theorem exp2_masked (m : ℝ) (p : Fin N) :
    Ideal.exp2 ((if keep p then ((a p * (Real.log 2)⁻¹ : ℝ) : EReal) else ⊥) - (m : EReal))
      = ((weight keep a p * Real.exp (-(m * Real.log 2)) : ℝ) : EReal) := by
  unfold weight
  have hl : Real.log 2 ≠ 0 := (Real.log_pos (by norm_num)).ne'
  split
  · rw [← EReal.coe_sub, ← Real.exp_add]
    show ((Real.rpow 2 _ : ℝ) : EReal) = _
    congr 1
    refine (Real.rpow_def_of_pos (by norm_num) _).trans ?_
    congr 1
    field_simp
    ring
  · rw [EReal.bot_sub, zero_mul]; rfl

/-- Division by a positive real is multiplication by its inverse. -/
theorem div_coe (x : EReal) (s : ℝ) (hs : 0 < s) : Ideal.div x (s : EReal) = x * ((s⁻¹ : ℝ) : EReal) := by
  unfold Ideal.div
  rw [if_neg (by exact_mod_cast hs.ne'), EReal.coe_inv]

/-- The softmax with the scores' division first. -/
theorem attend_before (e : ℝ) (he : 0 < e) (v : Fin N → EReal) {p : Fin N} (hp : keep p) :
    ∑ q, Ideal.div ((weight keep a q * e : ℝ) : EReal) (∑ r, ((weight keep a r * e : ℝ) : EReal)) * v q = attend keep a v := by
  have hs := weight_sum_pos keep a hp
  unfold attend
  refine Finset.sum_congr rfl fun q _ => ?_
  rw [← coe_sum, ← Finset.sum_mul, div_coe _ _ (mul_pos hs he), ← EReal.coe_mul]
  congr 2
  field_simp

/-- The softmax with the division last. -/
theorem attend_after (e : ℝ) (he : 0 < e) (v : Fin N → EReal) {p : Fin N} (hp : keep p) :
    Ideal.div (∑ q, v q * ((weight keep a q * e : ℝ) : EReal)) (∑ r, 1 * ((weight keep a r * e : ℝ) : EReal)) = attend keep a v := by
  have hs := weight_sum_pos keep a hp
  have hse := mul_pos hs he
  unfold attend
  simp only [one_mul]
  rw [← coe_sum, ← Finset.sum_mul, div_coe _ _ hse, sum_mul_coe _ _ _ (inv_pos.mpr hse).le]
  refine Finset.sum_congr rfl fun q _ => ?_
  rw [mul_assoc, ← EReal.coe_mul, mul_comm]
  congr 2
  field_simp
end

/-- A sum over positions by blocks of 256. -/
theorem sum_blocks (f : Fin 2048 → EReal) : ∑ p, f p = ∑ t : Fin 8, ∑ j : Fin 256, f ⟨t.val * 256 + j.val, by omega⟩ := by
  rw [← Fintype.sum_prod_type' (f := fun (t : Fin 8) (j : Fin 256) => f ⟨t.val * 256 + j.val, by omega⟩)]
  refine (Fintype.sum_equiv (finProdFinEquiv : Fin 8 × Fin 256 ≃ Fin (8 * 256)) _ _ fun p => ?_).symm
  exact congrArg f (Fin.ext (by
    show p.1.val * 256 + p.2.val = p.2.val + 256 * p.1.val
    omega))

/-- A sum over the blocks up to one, nearest first, is the sum over all blocks where the later ones count nothing. -/
theorem sum_back (i : Fin 8) (g : Fin 8 → EReal) (hg : ∀ t, i < t → g t = 0) :
    ∑ n ∈ Finset.range (i.val + 1), g ⟨i.val - n, by omega⟩ = ∑ t, g t := by
  have h : ∀ f : ℕ → EReal, ∑ n ∈ Finset.range (i.val + 1), f (i.val - n) = ∑ n ∈ Finset.range (i.val + 1), f n := fun f => by
    rw [← Finset.sum_range_reflect]
    refine Finset.sum_congr rfl fun n hn => ?_
    have := Finset.mem_range.mp hn
    congr 1
    omega
  have h' := h fun n => if hn : n < 8 then g ⟨n, hn⟩ else 0
  rw [← Fin.sum_univ_eq_sum_range (fun n => if hn : n < 8 then g ⟨n, hn⟩ else 0)] at h'
  have e : ∑ n ∈ Finset.range (i.val + 1), g ⟨i.val - n, by omega⟩ = ∑ n ∈ Finset.range (i.val + 1), if hn : i.val - n < 8 then g ⟨i.val - n, hn⟩ else 0 :=
    Finset.sum_congr rfl fun n _ => by rw [dif_pos (by omega)]
  rw [e, h']
  fin_cases i <;> simp [Fin.sum_univ_succ] <;> simp [hg]

/-- The largest of real numbers and masked ones, at least one of them real, is a real number. -/
theorem real_of_bounds {x : EReal} (h : x ≠ ⊤) {y : ℝ} (hy : (y : EReal) ≤ x) : ∃ m : ℝ, x = (m : EReal) :=
  ⟨x.toReal, (EReal.coe_toReal h (fun hb => by rw [hb] at hy; exact absurd (le_bot_iff.mp hy) (EReal.coe_ne_bot y))).symm⟩

theorem fold_max_lt_top {ι : Type*} (s : Finset ι) (f : ι → EReal) (h : ∀ x ∈ s, f x < ⊤) : s.fold max ⊥ f < ⊤ :=
  (Finset.fold_max_lt ⊤).mpr ⟨bot_lt_top, h⟩

theorem le_fold_max {ι : Type*} (s : Finset ι) (f : ι → EReal) {x : ι} (hx : x ∈ s) : f x ≤ s.fold max ⊥ f :=
  (Finset.le_fold_max (f x)).mpr (.inr ⟨x, hx, le_rfl⟩)

end Cert.Moba

end
-- ==== Proof.Moba.Rank.lean ====
module

public import Idealize.ShloMosaic.PureOps.Ideal.Laws
public import Idealize.ShloMosaic.Lib.SortPrefix

/-! The first three of eight sorted keys, by counting: a key is among them when fewer than three keys come before it. -/

@[expose] public section

noncomputable section

namespace Cert.Moba

open Idealize.ShloMosaic

/-- The sort's order on keys. -/
def above (key : Fin 8 → EReal) (k k' : Fin 8) : Bool := Ideal.cmp .ogt (key k) (key k') == 1#1

/-- The same with equal keys in their positions' order. -/
def firstOf (key : Fin 8 → EReal) (k k' : Fin 8) : Bool := decide (key k' < key k ∨ (key k = key k' ∧ k < k'))

theorem above_eq (key : Fin 8 → EReal) (k k' : Fin 8) : above key k k' = decide (key k' < key k) := by
  unfold above Ideal.cmp
  by_cases h : key k' < key k <;> simp [h]

theorem firstOf_total (key : Fin 8 → EReal) : StrictTotalBefore (firstOf key) where
  irrefl a := by simp [firstOf]
  trans a b c hab hbc := by
    simp only [firstOf, decide_eq_true_eq] at *
    rcases hab with hab | ⟨eab, lab⟩ <;> rcases hbc with hbc | ⟨ebc, lbc⟩
    · exact .inl (hbc.trans hab)
    · exact .inl (ebc ▸ hab)
    · exact .inl (eab ▸ hbc)
    · exact .inr ⟨eab.trans ebc, lab.trans lbc⟩
  total a b hne := by
    simp only [firstOf, decide_eq_true_eq]
    rcases lt_trichotomy (key a) (key b) with h | h | h
    · exact .inr (.inl h)
    · rcases lt_or_gt_of_ne hne with g | g
      · exact .inl (.inr ⟨h, g⟩)
      · exact .inr (.inr ⟨h.symm, g⟩)
    · exact .inl (.inl h)

theorem insert_congr (key : Fin 8 → EReal) (a : Fin 8) : ∀ l : List (Fin 8), (∀ b ∈ l, a < b) →
    insertBefore (above key) a l = insertBefore (firstOf key) a l
  | [], _ => rfl
  | b :: l, h => by
    have hb := h b List.mem_cons_self
    have e : above key b a = firstOf key b a := by
      rw [above_eq]
      unfold firstOf
      congr 1
      exact propext ⟨.inl, fun g => g.elim id fun g => absurd g.2 (by omega)⟩
    unfold insertBefore
    rw [e, insert_congr key a l fun b hb => h b (List.mem_cons_of_mem _ hb)]

theorem stable_congr (key : Fin 8 → EReal) : ∀ l : List (Fin 8), l.Pairwise (· < ·) →
    stableSort (above key) l = stableSort (firstOf key) l
  | [], _ => rfl
  | a :: l, h => by
    have h' := List.pairwise_cons.mp h
    unfold stableSort
    rw [stable_congr key l h'.2, insert_congr]
    intro b hb
    exact h'.1 b ((perm_stableSort _ l).mem_iff.mp hb)

theorem sorted_congr (key : Fin 8 → EReal) : sortedFrom (above key) = sortedFrom (firstOf key) := by
  have e : sortPositions 8 (above key) = sortPositions 8 (firstOf key) := stable_congr key _ (by decide)
  funext k
  unfold sortedFrom
  rw [List.get_of_eq e]
  rfl

/-- The sort's order is the keys'. -/
theorem sorted_lt (key : Fin 8 → EReal) (i j : Fin 8) :
    firstOf key (sortedFrom (firstOf key) i) (sortedFrom (firstOf key) j) = true ↔ i < j := by
  have hB := firstOf_total key
  have hno : ∀ i j : Fin 8, i < j → firstOf key (sortedFrom (firstOf key) j) (sortedFrom (firstOf key) i) = false := fun i j hij =>
    sortedFrom_noInversion (firstOf key) (firstOf key) (fun a b h => hB.asymm a b h) (fun _ _ h => h) hB.negTrans i j hij
  constructor
  · intro h
    by_contra hn
    rcases lt_or_eq_of_le (not_lt.mp hn) with g | g
    · rw [hno j i g] at h; exact absurd h (by decide)
    · subst g; rw [hB.irrefl] at h; exact absurd h (by decide)
  · intro h
    rcases hB.total _ _ (fun e => absurd (sortedFrom_injective _ e) h.ne) with g | g
    · exact g
    · rw [hno i j h] at g; exact absurd g (by decide)

/-- A position is among the first three of the sort when fewer than three come before it. -/
theorem among_three (key : Fin 8 → EReal) (t : Fin 8) :
    (∃ r : Fin 3, sortedFrom (above key) (r.castLE (by decide)) = t)
      ↔ (Finset.univ.filter fun u : Fin 8 => key t < key u ∨ (key u = key t ∧ u < t)).card < 3 := by
  rw [sorted_congr]
  obtain ⟨j, rfl⟩ := sortedFrom_surjective (firstOf key) t
  have e : (Finset.univ.filter fun u : Fin 8 => key (sortedFrom (firstOf key) j) < key u ∨ (key u = key (sortedFrom (firstOf key) j) ∧ u < sortedFrom (firstOf key) j))
      = (Finset.univ.filter fun i : Fin 8 => i < j).image (sortedFrom (firstOf key)) := by
    ext u
    obtain ⟨i, rfl⟩ := sortedFrom_surjective (firstOf key) u
    rw [Finset.mem_filter, Finset.mem_image]
    have h := sorted_lt key i j
    unfold firstOf at h
    rw [decide_eq_true_eq] at h
    constructor
    · intro g
      exact ⟨i, by rw [Finset.mem_filter]; exact ⟨Finset.mem_univ _, h.mp g.2⟩, rfl⟩
    · rintro ⟨i', hi', e⟩
      have := sortedFrom_injective _ e
      subst this
      exact ⟨Finset.mem_univ _, h.mpr (Finset.mem_filter.mp hi').2⟩
  rw [e, Finset.card_image_of_injective _ (sortedFrom_injective _)]
  have hc : ∀ j : Fin 8, (Finset.univ.filter fun i : Fin 8 => i < j).card = j.val := by decide
  rw [hc]
  constructor
  · rintro ⟨r, hr⟩
    have := sortedFrom_injective _ hr
    rw [← this]
    exact r.isLt
  · intro h
    exact ⟨⟨j.val, h⟩, rfl⟩

end Cert.Moba

end
-- ==== Proof.Moba.Row.lean ====
module

public import proofs.«01_k».proof.Proof.Moba.Softmax
public import proofs.«01_k».proof.Proof.Moba.Rank

/-! One head's block attention: a query attends to its own block's positions up to itself and to the three earlier blocks
    whose mean key it matches best. -/

@[expose] public section

noncomputable section

namespace Cert.Moba

open Idealize.ShloMosaic

/-- Block `u` comes before block `t` among those before block `cur`. -/
def beats (g : Fin 8 → ℝ) (cur : ℕ) (t u : Fin 8) : Prop := (g t < g u ∨ (g u = g t ∧ u < t)) ∧ u.val < cur

instance (g : Fin 8 → ℝ) (cur : ℕ) (t : Fin 8) : DecidablePred (beats g cur t) := fun _ => Classical.propDecidable _

/-- Block `t` is among the three. -/
def chosen (g : Fin 8 → ℝ) (cur : ℕ) (t : Fin 8) : Prop := t.val < cur ∧ (Finset.univ.filter (beats g cur t)).card < 3

/-- The position `p` is attended to from `s`. -/
def keeps (g : Fin 8 → ℝ) (s p : Fin 2048) : Prop :=
  chosen g (s.val / 256) ⟨p.val / 256, by omega⟩ ∨ (p.val / 256 = s.val / 256 ∧ p.val ≤ s.val)

instance (g : Fin 8 → ℝ) (s : Fin 2048) : DecidablePred (keeps g s) := fun _ => Classical.propDecidable _

theorem keeps_self (g : Fin 8 → ℝ) (s : Fin 2048) : keeps g s s := .inr ⟨rfl, le_rfl⟩

theorem keeps_block (g : Fin 8 → ℝ) (s p : Fin 2048) (h : keeps g s p) : p.val / 256 ≤ s.val / 256 := by
  rcases h with h | h
  · exact h.1.le
  · exact h.1.le

/-- How well a query matches the mean keys. -/
def gates (q : Fin 64 → ℝ) (m : Fin 8 → Fin 64 → ℝ) (t : Fin 8) : ℝ := ∑ d, q d * m t d

/-- The head's result. -/
def headRow (q k : Fin 2048 → Fin 64 → ℝ) (m : Fin 8 → Fin 64 → ℝ) (v : Fin 2048 → Fin 64 → EReal) (s : Fin 2048) (d : Fin 64) : EReal :=
  attend (keeps (gates (q s) m) s) (fun p => (∑ l, q s l * k p l) * (1 / 8)) fun p => v p d

/-- The first three of the past blocks' gates, the others' being the least. -/
theorem among_past (g : Fin 8 → ℝ) (cur : ℕ) (t : Fin 8) (ht : t.val < cur) :
    (∃ r : Fin 3, sortedFrom (above fun u => if u.val < cur then ((g u : ℝ) : EReal) else ⊥) (r.castLE (by decide)) = t) ↔ chosen g cur t := by
  rw [among_three]
  have e : (Finset.univ.filter fun u : Fin 8 => (if t.val < cur then ((g t : ℝ) : EReal) else ⊥) < (if u.val < cur then ((g u : ℝ) : EReal) else ⊥)
      ∨ ((if u.val < cur then ((g u : ℝ) : EReal) else ⊥) = (if t.val < cur then ((g t : ℝ) : EReal) else ⊥) ∧ u < t))
      = Finset.univ.filter (beats g cur t) := by
    ext u
    rw [Finset.mem_filter, Finset.mem_filter]
    unfold beats
    rw [if_pos ht]
    by_cases hu : u.val < cur
    · rw [if_pos hu, EReal.coe_lt_coe_iff, EReal.coe_eq_coe_iff]
      simp [hu]
    · rw [if_neg hu]
      simp [hu, EReal.bot_ne_coe]
  rw [e]
  exact ⟨fun h => ⟨ht, h⟩, fun h => h.2⟩

end Cert.Moba

end
-- ==== Proof.Moba.Attend.lean ====
module

public import proofs.«01_k».proof.Proof.Moba.Chunk
public import proofs.«01_k».proof.Proof.Moba.Row

/-! A chain is the softmax over the positions its query keeps. -/

@[expose] public section

set_option maxRecDepth 16384

noncomputable section

namespace Cert.Moba

/-- A block whose scores are not masked: one of the three, or the query's own. -/
def kept (g : Fin 8 → ℝ) (cur : ℕ) (t : Fin 8) : Prop := chosen g cur t ∨ t.val = cur

instance (g : Fin 8 → ℝ) (cur : ℕ) : DecidablePred (kept g cur) := fun _ => Classical.propDecidable _

/-- A query's score against a key. -/
def score (q k : Fin 2048 → Fin 64 → ℝ) (s p : Fin 2048) : ℝ := (∑ l, q s l * k p l) * (1 / 8)

end Cert.Moba

namespace Cert.Kernel5Ideal.Result

open Cert.Kernel5Ideal Cert.Kernel5Ideal.Gen Idealize.ShloMosaic Idealize.ShloMosaic.TcCoe Idealize.SL.Sem
open Idealize.ShloMosaic.Pointwise
open Cert.Moba

theorem at_div (t : Fin 8) (j : Fin 256) : (at256 t j).val / 256 = t.val := by
  show (t.val * 256 + j.val) / 256 = t.val
  omega

/-- What a head's queries, keys and values hold. -/
structure Ready (Q : FVec Ideal S128x2048 .bf16) (K : FVec Ideal S2048x128 .bf16) (V : FVec Ideal S80x2048 .bf16)
    (q k : Fin 2048 → Fin 64 → ℝ) (g : Fin 2048 → Fin 8 → ℝ) (v : Fin 2048 → Fin 64 → EReal) : Prop where
  dot : ∀ p s : Fin 2048, ∑ l : Fin 128, K (ix2 p l) * Q (ix2 l s)
    = ((score q k s p * (Real.log 2)⁻¹ : ℝ) : EReal) + (if kept (g s) (s.val / 256) ⟨p.val / 256, by omega⟩ then 0 else ⊥)
  val : ∀ (d : Fin 64) (p : Fin 2048), V (ix2 (⟨d.val, by omega⟩ : Fin 80) p) = v p d
  one : ∀ p : Fin 2048, V (ix2 (64 : Fin 80) p) = 1

variable {Q : FVec Ideal S128x2048 .bf16} {K : FVec Ideal S2048x128 .bf16} {V : FVec Ideal S80x2048 .bf16}
variable {q k : Fin 2048 → Fin 64 → ℝ} {g : Fin 2048 → Fin 8 → ℝ} {v : Fin 2048 → Fin 64 → EReal}

theorem score_masked (R : Ready Q K V q k g v) (i : Fin 8) (n : ℕ) (hn : n ≤ i.val) (j x : Fin 256) :
    scoreT Q K i n (ix2 j x) = if keeps (g (at256 i x)) (at256 i x) (at256 (back i n) j)
      then ((score q k (at256 i x) (at256 (back i n) j) * (Real.log 2)⁻¹ : ℝ) : EReal) else ⊥ := by
  have ep : (⟨(at256 (back i n) j).val / 256, by omega⟩ : Fin 8) = back i n := Fin.ext (at_div _ _)
  have eb : (back i n).val = i.val - n := rfl
  have ed := (dotT_apply Q K i n j x).trans (R.dot (at256 (back i n) j) (at256 i x))
  rw [ep, at_div] at ed
  cases n with
  | zero =>
    have e0 : back i 0 = i := Fin.ext rfl
    rw [scoreT_zero, ed, if_pos (show kept (g (at256 i x)) i.val (back i 0) from Or.inr eb), add_zero]
    have hk : keeps (g (at256 i x)) (at256 i x) (at256 (back i 0) j) ↔ j.val ≤ x.val := by
      unfold keeps chosen
      rw [ep, at_div, at_div, e0]
      have : (at256 i j).val ≤ (at256 i x).val ↔ j.val ≤ x.val := by
        show i.val * 256 + j.val ≤ i.val * 256 + x.val ↔ _
        omega
      rw [this]
      simp
    by_cases h : j.val ≤ x.val
    · rw [if_pos h, if_pos (hk.mpr h)]
    · rw [if_neg h, if_neg (fun h' => h (hk.mp h'))]
  | succ n =>
    have hk : keeps (g (at256 i x)) (at256 i x) (at256 (back i (n + 1)) j) ↔ kept (g (at256 i x)) i.val (back i (n + 1)) := by
      unfold keeps kept
      rw [ep, at_div, at_div]
      have : ¬ (back i (n + 1)).val = i.val := by omega
      simp [this]
    show dotT Q K i (n + 1) (ix2 j x) = _
    rw [ed]
    by_cases h : kept (g (at256 i x)) i.val (back i (n + 1))
    · rw [if_pos h, if_pos (hk.mpr h), add_zero]
    · rw [if_neg h, if_neg (fun h' => h (hk.mp h')), EReal.add_bot]

theorem score_lt_top (R : Ready Q K V q k g v) (i : Fin 8) (n : ℕ) (hn : n ≤ i.val) (j x : Fin 256) : scoreT Q K i n (ix2 j x) < ⊤ := by
  rw [score_masked R i n hn]
  split
  · exact EReal.coe_lt_top _
  · exact bot_lt_top

theorem most_succ (i : Fin 8) (n : ℕ) (b : Fin 8) (x : Fin 256) :
    mostT Q K i (n + 1) (ix2 b x) = max (mostT Q K i n (ix2 b x)) (redT (scoreT Q K i (n + 1)) (ix2 b x)) := rfl

theorem most_lt_top (R : Ready Q K V q k g v) (i : Fin 8) (b : Fin 8) (x : Fin 256) : ∀ n : ℕ, n ≤ i.val → mostT Q K i n (ix2 b x) < ⊤
  | 0, hn => by
    show redT (scoreT Q K i 0) (ix2 b x) < ⊤
    rw [redT_apply]
    exact fold_max_lt_top _ _ fun a _ => score_lt_top R i 0 hn _ _
  | n + 1, hn => by
    rw [most_succ, redT_apply]
    exact max_lt (most_lt_top R i b x n (by omega)) (fold_max_lt_top _ _ fun a _ => score_lt_top R i (n + 1) hn _ _)

theorem le_most (i : Fin 8) (b : Fin 8) (x : Fin 256) : ∀ n : ℕ, redT (scoreT Q K i 0) (ix2 b x) ≤ mostT Q K i n (ix2 b x)
  | 0 => le_rfl
  | n + 1 => (le_most i b x n).trans (by rw [most_succ]; exact le_max_left _ _)

theorem max_real (R : Ready Q K V q k g v) (i : Fin 8) (x : Fin 256) : ∃ m : ℝ, maxT Q K i (ix2 (0 : Fin 1) x) = (m : EReal) := by
  rw [maxT_apply]
  refine real_of_bounds (y := score q k (at256 i x) (at256 i x) * (Real.log 2)⁻¹)
    (fold_max_lt_top _ _ fun b _ => most_lt_top R i b x i.val le_rfl).ne ?_
  have e0 : back i 0 = i := Fin.ext rfl
  have hs := score_masked R i 0 (Nat.zero_le _) x x
  rw [e0, if_pos (keeps_self _ _)] at hs
  rw [← hs]
  refine le_trans ?_ (le_fold_max Finset.univ (fun b : Fin 8 => mostT Q K i i.val (ix2 b x)) (Finset.mem_univ (⟨x.val % 8, by omega⟩ : Fin 8)))
  refine le_trans ?_ (le_most i _ x i.val)
  rw [redT_apply]
  have h := le_fold_max Finset.univ (fun a : Fin 32 => scoreT Q K i 0 (ix2 (⟨a.val * 8 + x.val % 8, by omega⟩ : Fin 256) x))
    (Finset.mem_univ (⟨x.val / 8, by omega⟩ : Fin 32))
  have e : (⟨x.val / 8 * 8 + x.val % 8, by omega⟩ : Fin 256) = x := Fin.ext (by show x.val / 8 * 8 + x.val % 8 = x.val; omega)
  dsimp only at h
  rw [e] at h
  exact h

theorem acc_sum (R : Ready Q K V q k g v) (i : Fin 8) (x : Fin 256) (m : ℝ) (hm : maxT Q K i (ix2 (0 : Fin 1) x) = (m : EReal)) (d : Fin 80) :
    accT Q K V i i.val (ix2 d x) = ∑ p, V (ix2 d p)
      * ((weight (keeps (g (at256 i x)) (at256 i x)) (score q k (at256 i x)) p * Real.exp (-(m * Real.log 2)) : ℝ) : EReal) := by
  rw [accT_apply, sum_blocks]
  refine Eq.trans ?_ (sum_back i (fun t : Fin 8 => ∑ j : Fin 256, V (ix2 d (at256 t j))
    * ((weight (keeps (g (at256 i x)) (at256 i x)) (score q k (at256 i x)) (at256 t j) * Real.exp (-(m * Real.log 2)) : ℝ) : EReal)) ?_)
  · refine Finset.sum_congr rfl fun n hn => ?_
    have hn' : n ≤ i.val := Nat.lt_succ_iff.mp (Finset.mem_range.mp hn)
    rw [partT_apply]
    refine Finset.sum_congr rfl fun j _ => ?_
    rw [weightT_apply, hm, score_masked R i n hn', exp2_masked]
    rfl
  · intro t ht
    refine Finset.sum_eq_zero fun j _ => ?_
    have hk : ¬ keeps (g (at256 i x)) (at256 i x) (at256 t j) := fun h => by
      have := keeps_block _ _ _ h
      rw [at_div, at_div] at this
      exact absurd ht (not_lt.mpr (Fin.le_def.mpr this))
    unfold weight
    rw [if_neg hk, zero_mul, EReal.coe_zero, mul_zero]

/-- A chain's entry is the softmax of the kept scores, applied to the values. -/
theorem chain_attend (R : Ready Q K V q k g v) (i : Fin 8) (d : Fin 64) (x : Fin 256) :
    chainT Q K V i (ix2 d x) = attend (keeps (g (at256 i x)) (at256 i x)) (score q k (at256 i x)) fun p => v p d := by
  obtain ⟨m, hm⟩ := max_real R i x
  rw [chainT_apply, acc_sum R i x m hm, acc_sum R i x m hm]
  simp only [R.val, R.one]
  exact attend_after _ _ _ (Real.exp_pos _) _ (keeps_self _ _)

end Cert.Kernel5Ideal.Result

end
-- ==== Proof.Moba.Ready.lean ====
module

public import proofs.«01_k».proof.Proof.Moba.Input
public import proofs.«01_k».proof.Proof.Moba.Attend

/-! A grid point's two heads: their gates, the blocks they keep, and their scores. -/

@[expose] public section

set_option maxRecDepth 16384

noncomputable section

namespace Cert.Kernel5Ideal.Result

open Cert.Kernel5Ideal Cert.Kernel5Ideal.Gen Idealize.ShloMosaic Idealize.ShloMosaic.TcCoe Idealize.SL.Sem
open Idealize.ShloMosaic.Pointwise
open Cert.Moba

theorem sum_halves {M : Type*} [AddCommMonoid M] (f : Fin 128 → M) :
    ∑ x, f x = ∑ l : Fin 64, f ⟨l.val, by omega⟩ + ∑ l : Fin 64, f ⟨64 + l.val, by omega⟩ :=
  Fin.sum_univ_add (a := 64) (b := 64) f

theorem low_lane : ∀ x : Fin 128, IntOp.andi (IntOp.cmpi CmpIPredicate.sge (BitVec.ofNat 32 x.val) 0#32)
    (IntOp.cmpi CmpIPredicate.slt (BitVec.ofNat 32 x.val) 64#32) = BitVec.ofBool (decide (x.val < 64)) := by decide +kernel
theorem high_lane : ∀ x : Fin 128, IntOp.andi (IntOp.cmpi CmpIPredicate.sge (BitVec.ofNat 32 x.val) 64#32)
    (IntOp.cmpi CmpIPredicate.slt (BitVec.ofNat 32 x.val) 128#32) = BitVec.ofBool (decide (64 ≤ x.val)) := by decide +kernel

/-- The two halves of a row of 128. -/
def lo (f : Fin 128 → ℝ) (d : Fin 64) : ℝ := f ⟨d.val, by omega⟩
def hi (f : Fin 128 → ℝ) (d : Fin 64) : ℝ := f ⟨64 + d.val, by omega⟩

variable (x0 : Vec Ideal S1x128x2048 .f32) (x1 : Vec Ideal S1x2048x128 .bf16) (x2 : Vec Ideal S1x128x2048 .bf16) (x3 : Vec Ideal S1x8x128 .f32)
variable (qq kk : Fin 2048 → Fin 128 → ℝ) (mm : Fin 8 → Fin 128 → ℝ)

theorem gate_low (hq : ∀ l s, x0 (ix3 (0 : Fin 1) l s) = (qq s l : EReal)) (hm : ∀ t l, x3 (ix3 (0 : Fin 1) t l) = (mm t l : EReal))
    (u : Fin 8) (s : Fin 2048) :
    k0_pay396 x0 x1 x2 x3 (ix2 (⟨u.val, by omega⟩ : Fin 16) s) = ((gates (lo (qq s)) (fun t => lo (mm t)) u : ℝ) : EReal) := by
  pointwise [k0_pay396, k0_pay11, k0_pay394, k0_pay395, k0_pay9, k0_pay10, k0_pay8, k0_pay384]
  have hc : ∀ x : Fin 128, (if x.val < 64 then ((mm u x : ℝ) : EReal) else 0) = ((if x.val < 64 then mm u x else 0 : ℝ) : EReal) := fun x => by split <;> rfl
  simp only [low_lane, m_apply, hm, q_apply, hq, select_decide, hc, ← EReal.coe_sub, sub_self, EReal.coe_zero, mul_zero, zero_mul, ite_self,
    Finset.sum_const_zero, add_zero]
  rw [sum_halves]
  have h1 : ∀ l : Fin 64, (l.val < 64) = True := fun l => eq_true l.isLt
  have h2 : ∀ l : Fin 64, (64 + l.val < 64) = False := fun l => eq_false (by omega)
  simp only [h1, h2, if_true, if_false, Finset.sum_const_zero, add_zero]
  unfold gates lo
  rw [coe_sum]
  exact Finset.sum_congr rfl fun l _ => by rw [EReal.coe_mul, mul_comm]

theorem gate_high (hq : ∀ l s, x0 (ix3 (0 : Fin 1) l s) = (qq s l : EReal)) (hm : ∀ t l, x3 (ix3 (0 : Fin 1) t l) = (mm t l : EReal))
    (u : Fin 8) (s : Fin 2048) :
    k0_pay396 x0 x1 x2 x3 (ix2 (⟨8 + u.val, by omega⟩ : Fin 16) s) = ((gates (hi (qq s)) (fun t => hi (mm t)) u : ℝ) : EReal) := by
  pointwise [k0_pay396, k0_pay11, k0_pay394, k0_pay395, k0_pay9, k0_pay10, k0_pay8, k0_pay384]
  have hc : ∀ x : Fin 128, (if 64 ≤ x.val then ((mm u x : ℝ) : EReal) else 0) = ((if 64 ≤ x.val then mm u x else 0 : ℝ) : EReal) := fun x => by split <;> rfl
  simp only [high_lane, m_apply, hm, q_apply, hq, select_decide, hc, ← EReal.coe_sub, sub_self, EReal.coe_zero, mul_zero, zero_mul, ite_self,
    Finset.sum_const_zero, add_zero]
  rw [sum_halves]
  have h1 : ∀ l : Fin 64, (64 ≤ l.val) = False := fun l => eq_false (by omega)
  have h2 : ∀ l : Fin 64, (64 ≤ 64 + l.val) = True := fun l => eq_true (by omega)
  simp only [h1, h2, if_true, if_false, Finset.sum_const_zero, zero_add]
  unfold gates hi
  rw [coe_sum]
  exact Finset.sum_congr rfl fun l _ => by rw [EReal.coe_mul, mul_comm]

theorem beat_bit (g : Fin 8 → ℝ) (cur : ℕ) (hc : cur < 8) (t u : Fin 8) :
    beatBit (fun u => (g u : EReal)) cur t u = BitVec.ofBool (decide (beats g cur t u)) := by
  unfold beatBit
  have h1 : Ideal.cmp .ogt ((g u : ℝ) : EReal) ((g t : ℝ) : EReal) = BitVec.ofBool (decide (((g t : ℝ) : EReal) < ((g u : ℝ) : EReal))) := rfl
  have h2 : Ideal.cmp .oeq ((g u : ℝ) : EReal) ((g t : ℝ) : EReal) = BitVec.ofBool (decide (((g u : ℝ) : EReal) = ((g t : ℝ) : EReal))) := rfl
  rw [h1, h2, WordCmp.cmpi_sgt_ofNat (by omega) (by omega), WordCmp.cmpi_sgt_ofNat (by omega) (by omega), WordCmp.andi_ofBool, WordCmp.ori_ofBool,
    WordCmp.andi_ofBool]
  refine congrArg BitVec.ofBool ?_
  rw [Bool.eq_iff_iff]
  refine Iff.trans ?_ decide_eq_true_iff.symm
  simp only [Bool.and_eq_true, Bool.or_eq_true, decide_eq_true_eq, beats, EReal.coe_lt_coe_iff, EReal.coe_eq_coe_iff, Fin.lt_def]

theorem count_bit : ∀ c0 c1 c2 c3 c4 c5 c6 : Bool,
    (let one (c : Bool) : BitVec 32 := Scalar.select (BitVec.ofBool c) 1#32 0#32
     IntOp.cmpi .slt (IntOp.addi (IntOp.addi (IntOp.addi (IntOp.addi (IntOp.addi (IntOp.addi (IntOp.addi 0#32 (one c0)) (one c1)) (one c2))
      (one c3)) (one c4)) (one c5)) (one c6)) 3#32)
    = BitVec.ofBool (decide (c0.toNat + c1.toNat + c2.toNat + c3.toNat + c4.toNat + c5.toNat + c6.toNat < 3)) := by decide +kernel

theorem beats_card (g : Fin 8 → ℝ) (cur : ℕ) (hc : cur < 8) (t : Fin 8) :
    (Finset.univ.filter (beats g cur t)).card = (decide (beats g cur t 0)).toNat + (decide (beats g cur t 1)).toNat + (decide (beats g cur t 2)).toNat
      + (decide (beats g cur t 3)).toNat + (decide (beats g cur t 4)).toNat + (decide (beats g cur t 5)).toNat + (decide (beats g cur t 6)).toNat := by
  have h7 : ¬ beats g cur t 7 := fun h => by
    have : (7 : ℕ) < cur := h.2
    omega
  have hb : ∀ u, (if beats g cur t u then 1 else 0) = (decide (beats g cur t u)).toNat := fun u => by
    by_cases h : beats g cur t u <;> simp [h]
  rw [Finset.card_filter, Fin.sum_univ_eight, if_neg h7, add_zero]
  simp only [hb]

theorem keep_bit (g : Fin 8 → ℝ) (cur : ℕ) (hc : cur < 8) (t : Fin 8) :
    keepBit (fun u => (g u : EReal)) cur t = BitVec.ofBool (decide (kept g cur t)) := by
  unfold keepBit
  simp only [beat_bit g cur hc]
  rw [count_bit, ← beats_card g cur hc t, WordCmp.cmpi_slt_ofNat (by omega) (by omega), WordCmp.cmpi_eq_eq_toNat, WordCmp.andi_ofBool, WordCmp.ori_ofBool]
  refine congrArg BitVec.ofBool ?_
  have e1 : (BitVec.ofNat 32 t.val).toNat = t.val := by rw [BitVec.toNat_ofNat]; exact Nat.mod_eq_of_lt (by omega)
  have e2 : (BitVec.ofNat 32 cur).toNat = cur := by rw [BitVec.toNat_ofNat]; exact Nat.mod_eq_of_lt (by omega)
  rw [Bool.eq_iff_iff]
  refine Iff.trans ?_ decide_eq_true_iff.symm
  simp only [Bool.or_eq_true, Bool.and_eq_true, decide_eq_true_eq, kept, chosen, e1, e2]
  tauto

theorem scale_val : (scaleT : EReal) = ((1 / 8 * (Real.log 2)⁻¹ : ℝ) : EReal) :=
  (IdealRules.named_const.ideal_named_scalar _ _ _ _ rfl).trans (by congr 1)

theorem dot_scaled (a b : Fin 64 → ℝ) :
    ∑ l, (a l : EReal) * ((b l : EReal) * scaleT) = (((∑ l, b l * a l) * (1 / 8) * (Real.log 2)⁻¹ : ℝ) : EReal) := by
  rw [scale_val]
  simp only [← EReal.coe_mul]
  rw [← coe_sum]
  refine congrArg _ ?_
  rw [Finset.sum_mul, Finset.sum_mul]
  exact Finset.sum_congr rfl fun l _ => by ring

theorem hot_sum (n : ℕ) (hn : n < 8) (f : Fin 8 → EReal) :
    ∑ l : Fin 64, (if l.val = n then (1 : EReal) else 0) * (if h : l.val < 8 then f ⟨l.val, h⟩ else 0) = f ⟨n, hn⟩ := by
  rw [Finset.sum_eq_single (⟨n, by omega⟩ : Fin 64)]
  · rw [if_pos rfl, dif_pos hn, one_mul]
  · intro l _ hl
    rw [if_neg (fun h => hl (Fin.ext h)), zero_mul]
  · exact fun h => absurd (Finset.mem_univ _) h

theorem ready_low (hq : ∀ l s, x0 (ix3 (0 : Fin 1) l s) = (qq s l : EReal)) (hk : ∀ s l, x1 (ix3 (0 : Fin 1) s l) = (kk s l : EReal))
    (hm : ∀ t l, x3 (ix3 (0 : Fin 1) t l) = (mm t l : EReal)) :
    Ready (k0_pay403 x0 x1 x2 x3) (k0_pay404 x0 x1 x2 x3) (k0_pay405 x0 x1 x2 x3) (fun s => lo (qq s)) (fun s => lo (kk s))
      (fun s => gates (lo (qq s)) fun t => lo (mm t)) (fun p d => x2 (ix3 (0 : Fin 1) (⟨d.val, by omega⟩ : Fin 128) p)) where
  dot p s := by
    rw [sum_halves]
    simp only [q0_low, q0_high, k0_low, k0_high, hq, hk]
    rw [hot_sum (p.val / 256) (by omega) (fun t => k0_pay398 x0 x1 x2 x3 (ix2 t s)), sel_apply]
    simp only [gate_low x0 x1 x2 x3 qq mm hq hm]
    rw [keep_bit _ _ (by omega), select_decide]
    exact congrArg (· + _) (dot_scaled (lo (kk p)) (lo (qq s)))
  val d p := v0_low x0 x1 x2 x3 d p
  one p := v0_one x0 x1 x2 x3 p

theorem ready_high (hq : ∀ l s, x0 (ix3 (0 : Fin 1) l s) = (qq s l : EReal)) (hk : ∀ s l, x1 (ix3 (0 : Fin 1) s l) = (kk s l : EReal))
    (hm : ∀ t l, x3 (ix3 (0 : Fin 1) t l) = (mm t l : EReal)) :
    Ready (k0_pay465 x0 x1 x2 x3) (k0_pay466 x0 x1 x2 x3) (k0_pay467 x0 x1 x2 x3) (fun s => hi (qq s)) (fun s => hi (kk s))
      (fun s => gates (hi (qq s)) fun t => hi (mm t)) (fun p d => x2 (ix3 (0 : Fin 1) (⟨64 + d.val, by omega⟩ : Fin 128) p)) where
  dot p s := by
    rw [sum_halves, add_comm]
    simp only [q1_low, q1_high, k1_low, k1_high, hq, hk]
    rw [hot_sum (p.val / 256) (by omega) (fun t => Scalar.select (k0_pay464 x0 x1 x2 x3 (ix2 t s)) 0 ⊥), keep_apply]
    simp only [gate_high x0 x1 x2 x3 qq mm hq hm]
    rw [keep_bit _ _ (by omega), select_decide]
    exact congrArg (· + _) (dot_scaled (hi (kk p)) (hi (qq s)))
  val d p := v1_low x0 x1 x2 x3 d p
  one p := v1_one x0 x1 x2 x3 p

end Cert.Kernel5Ideal.Result

end
-- ==== Proof.Moba.Kernel.lean ====
module

public import proofs.«01_k».proof.Proof.Gen.Kernel5Ideal.Value
public import proofs.«01_k».proof.Proof.Moba.Ready
public import Idealize.ShloMosaic.Lib.Pipeline.ValueKit

/-! What the block attention's kernel leaves in its output array: the softmax attention of each of the eight heads. -/

@[expose] public section

set_option maxRecDepth 16384

noncomputable section

namespace Cert.Kernel5Ideal.Result

open Cert.Kernel5Ideal Cert.Kernel5Ideal.Gen Idealize.ShloMosaic Idealize.ShloMosaic.TcCoe Idealize.SL.Sem
open Idealize.ShloMosaic.Pointwise
open Cert.Moba

theorem headT_apply (Q : FVec Ideal S128x2048 .bf16) (K : FVec Ideal S2048x128 .bf16) (V : FVec Ideal S80x2048 .bf16) (d : Fin 64) (s : Fin 2048) :
    headT Q K V (ix2 d s) = chainT Q K V ⟨s.val / 256, by omega⟩ (ix2 d (⟨s.val % 256, Nat.mod_lt _ (by decide)⟩ : Fin 256)) := by
  have key : ∀ (i : Fin 8) (x : Fin 256), s.val = i.val * 256 + x.val →
      chainT Q K V i (ix2 d x) = chainT Q K V ⟨s.val / 256, by omega⟩ (ix2 d (⟨s.val % 256, Nat.mod_lt _ (by decide)⟩ : Fin 256)) := fun i x h => by
    have e1 : i = ⟨s.val / 256, by omega⟩ := Fin.ext (by show i.val = s.val / 256; omega)
    have e2 : x = ⟨s.val % 256, Nat.mod_lt _ (by decide)⟩ := Fin.ext (by show x.val = s.val % 256; omega)
    rw [← e1, ← e2]
  pointwise [headT]
  split; · exact key 0 _ (by dsimp only; omega)
  split; · exact key 1 _ (by dsimp only; omega)
  split; · exact key 2 _ (by dsimp only; omega)
  split; · exact key 3 _ (by dsimp only; omega)
  split; · exact key 4 _ (by dsimp only; omega)
  split; · exact key 5 _ (by dsimp only; omega)
  split; · exact key 6 _ (by dsimp only; omega)
  exact key 7 _ (by dsimp only; omega)

theorem head_attend {Q : FVec Ideal S128x2048 .bf16} {K : FVec Ideal S2048x128 .bf16} {V : FVec Ideal S80x2048 .bf16}
    {q k : Fin 2048 → Fin 64 → ℝ} {m : Fin 8 → Fin 64 → ℝ} {v : Fin 2048 → Fin 64 → EReal}
    (R : Ready Q K V q k (fun s => gates (q s) m) v) (d : Fin 64) (s : Fin 2048) :
    headT Q K V (ix2 d s) = headRow q k m v s d := by
  rw [headT_apply, chain_attend R]
  have e : at256 ⟨s.val / 256, by omega⟩ ⟨s.val % 256, Nat.mod_lt _ (by decide)⟩ = s := Fin.ext (by
    show s.val / 256 * 256 + s.val % 256 = s.val; omega)
  rw [e]
  rfl

theorem pairT_apply (A B : FVec Ideal S64x2048 .f32) (s : Fin 2048) (w : Fin 128) :
    pairT A B (ix2 s w) = if h : w.val < 64 then A (ix2 (⟨w.val, h⟩ : Fin 64) s) else B (ix2 (⟨w.val - 64, by omega⟩ : Fin 64) s) := by
  pointwise [pairT]

theorem canon_whole (P : FVec Ideal S1x2048x128 .bf16) (y : S1x2048x128.Idx) :
    (View.canon (Val := Elt Ideal) (s := S1x2048x128) (e := .bf16) [⟨r0_1, P⟩]) y = P y := by
  have h := View.canon_cons_emb (Val := Elt Ideal) (s := S1x2048x128) (e := .bf16) r0_1 P [] y
  have e : r0_1.emb y = y := by
    funext d
    refine Fin.ext ?_
    match d with
    | ⟨0, _⟩ => show 0 + 1 * (y 0).val = (y 0).val; omega
    | ⟨1, _⟩ => show 0 + 1 * (y 1).val = (y 1).val; omega
    | ⟨2, _⟩ => show 0 + 1 * (y 2).val = (y 2).val; omega
  rw [e] at h
  exact h

theorem pay_apply (X : FVec Ideal S2048x128 .bf16) (s : Fin 2048) (w : Fin 128) : k0_pay1 X (ix3 (0 : Fin 1) s w) = X (ix2 s w) := by
  pointwise [k0_pay1]

theorem out_apply (x0 : Vec Ideal S1x128x2048 .f32) (x1 : Vec Ideal S1x2048x128 .bf16) (x2 : Vec Ideal S1x128x2048 .bf16) (x3 : Vec Ideal S1x8x128 .f32)
    (qq kk : Fin 2048 → Fin 128 → ℝ) (mm : Fin 8 → Fin 128 → ℝ)
    (hq : ∀ l s, x0 (ix3 (0 : Fin 1) l s) = (qq s l : EReal)) (hk : ∀ s l, x1 (ix3 (0 : Fin 1) s l) = (kk s l : EReal))
    (hm : ∀ t l, x3 (ix3 (0 : Fin 1) t l) = (mm t l : EReal)) (s : Fin 2048) (w : Fin 128) :
    out0_4 x0 x1 x2 x3 (ix3 (0 : Fin 1) s w) = if h : w.val < 64
      then headRow (fun s => lo (qq s)) (fun s => lo (kk s)) (fun t => lo (mm t)) (fun p d => x2 (ix3 (0 : Fin 1) (⟨d.val, by omega⟩ : Fin 128) p)) s ⟨w.val, h⟩
      else headRow (fun s => hi (qq s)) (fun s => hi (kk s)) (fun t => hi (mm t)) (fun p d => x2 (ix3 (0 : Fin 1) (⟨64 + d.val, by omega⟩ : Fin 128) p)) s
        ⟨w.val - 64, by omega⟩ := by
  rw [out_chains]
  rw [canon_whole, pay_apply, pairT_apply]
  by_cases h : w.val < 64
  · rw [dif_pos h, dif_pos h]
    exact head_attend (ready_low x0 x1 x2 x3 qq kk mm hq hk hm) _ _
  · rw [dif_neg h, dif_neg h]
    exact head_attend (ready_high x0 x1 x2 x3 qq kk mm hq hk hm) _ _

open Idealize.ShloMosaic.Pipeline (Dat)

variable (m : (ℓ : Loc nD τ sig) → Buf (Elt Ideal) ℓ)

/-- The kernel's arguments: the queries and the values have their tokens last. -/
def argQ (c : Dev nD) (b : Fin 16) (l : Fin 512) (s : Fin 2048) : EReal := m ((c : Thread nD τ).loc main_arg0) (ix3 b l s)
def argK (c : Dev nD) (b : Fin 16) (s : Fin 2048) (l : Fin 512) : EReal := m ((c : Thread nD τ).loc main_arg1) (ix3 b s l)
def argV (c : Dev nD) (b : Fin 16) (l : Fin 512) (s : Fin 2048) : EReal := m ((c : Thread nD τ).loc main_arg2) (ix3 b l s)
def argM (c : Dev nD) (b : Fin 16) (t : Fin 8) (l : Fin 512) : EReal := m ((c : Thread nD τ).loc main_arg3) (ix3 b t l)

theorem idx0 : ∀ t : Fin cfg0.N, win0_0.index t = ![t.val / 4, t.val % 4, 0] :=
  (by decide +kernel : ∀ t : Fin grid0.N, win0_0.index t = ![t.val / 4, t.val % 4, 0])
theorem idx1 : ∀ t : Fin cfg0.N, win0_1.index t = ![t.val / 4, 0, t.val % 4] :=
  (by decide +kernel : ∀ t : Fin grid0.N, win0_1.index t = ![t.val / 4, 0, t.val % 4])
theorem idx2 : ∀ t : Fin cfg0.N, win0_2.index t = ![t.val / 4, t.val % 4, 0] :=
  (by decide +kernel : ∀ t : Fin grid0.N, win0_2.index t = ![t.val / 4, t.val % 4, 0])
theorem idx3 : ∀ t : Fin cfg0.N, win0_3.index t = ![t.val / 4, 0, t.val % 4] :=
  (by decide +kernel : ∀ t : Fin grid0.N, win0_3.index t = ![t.val / 4, 0, t.val % 4])
theorem idx4 : ∀ t : Fin cfg0.N, win0_4.index t = ![t.val / 4, 0, t.val % 4] :=
  (by decide +kernel : ∀ t : Fin grid0.N, win0_4.index t = ![t.val / 4, 0, t.val % 4])

/-- A grid point's batch, and a lane of its two heads. -/
def batch (t : Fin cfg0.N) : Fin 16 := ⟨t.val / 4, by
  have h : t.val < 64 := t.isLt
  omega⟩
def lane (t : Fin cfg0.N) (l : Fin 128) : Fin 512 := ⟨t.val % 4 * 128 + l.val, by omega⟩

theorem blk_q (c : Dev nD) (t : Fin cfg0.N) (l : Fin 128) (s : Fin 2048) : iblk m c 0 t (ix3 (0 : Fin 1) l s) = argQ m c (batch t) (lane t l) s := by
  unfold argQ
  rw [← V_main_arg0 m c]
  blk_ext [iblk, batch, lane, idx0 t]
theorem blk_k (c : Dev nD) (t : Fin cfg0.N) (s : Fin 2048) (l : Fin 128) : iblk m c 1 t (ix3 (0 : Fin 1) s l) = argK m c (batch t) s (lane t l) := by
  unfold argK
  rw [← V_main_arg1 m c]
  blk_ext [iblk, batch, lane, idx1 t]
theorem blk_v (c : Dev nD) (t : Fin cfg0.N) (l : Fin 128) (s : Fin 2048) : iblk m c 2 t (ix3 (0 : Fin 1) l s) = argV m c (batch t) (lane t l) s := by
  unfold argV
  rw [← V_main_arg2 m c]
  blk_ext [iblk, batch, lane, idx2 t]
theorem blk_m (c : Dev nD) (t : Fin cfg0.N) (u : Fin 8) (l : Fin 128) : iblk m c 3 t (ix3 (0 : Fin 1) u l) = argM m c (batch t) u (lane t l) := by
  unfold argM
  rw [← V_main_arg3 m c]
  blk_ext [iblk, batch, lane, idx3 t]

/-- Channel `d` of head `h`. -/
def chan (h : Fin 8) (d : Fin 64) : Fin 512 := ⟨h.val * 64 + d.val, by omega⟩

/-- The attention of one head. -/
def headOut (c : Dev nD) (b : Fin 16) (h : Fin 8) (s : Fin 2048) (d : Fin 64) : EReal :=
  headRow (fun s d => (argQ m c b (chan h d) s).toReal) (fun s d => (argK m c b s (chan h d)).toReal) (fun t d => (argM m c b t (chan h d)).toReal)
    (fun p d => argV m c b (chan h d) p) s d

/-- The attention's result. -/
def result (c : Dev nD) : S16x2048x512.Idx → Elt Ideal .bf16 := fun I =>
  headOut m c (I 0) ⟨(I 2).val / 64, by have : (I 2).val < 512 := (I 2).isLt; omega⟩ (I 1) ⟨(I 2).val % 64, Nat.mod_lt _ (by decide)⟩

/-- The scores' arguments are finite. -/
structure FiniteArgs (c : Dev nD) : Prop where
  q : ∀ b l s, argQ m c b l s = ((argQ m c b l s).toReal : EReal)
  k : ∀ b s l, argK m c b s l = ((argK m c b s l).toReal : EReal)
  m : ∀ b t l, argM m c b t l = ((argM m c b t l).toReal : EReal)

/-- A lane of a grid point's two heads, as a head's channel. -/
theorem head_of_lane (c : Dev nD) (t : Fin cfg0.N) (b : Fin 16) (s s' : Fin 2048) (w : Fin 512) (y : Fin 128) (p0 : b.val = t.val / 4)
    (p1 : s.val = s'.val) (p2 : w.val = t.val % 4 * 128 + y.val) :
    (if h : y.val < 64 then
      headRow (fun s => lo fun l => (argQ m c (batch t) (lane t l) s).toReal) (fun s => lo fun l => (argK m c (batch t) s (lane t l)).toReal)
        (fun u => lo fun l => (argM m c (batch t) u (lane t l)).toReal) (fun p d => argV m c (batch t) (lane t ⟨d.val, by omega⟩) p) s' ⟨y.val, h⟩
    else
      headRow (fun s => hi fun l => (argQ m c (batch t) (lane t l) s).toReal) (fun s => hi fun l => (argK m c (batch t) s (lane t l)).toReal)
        (fun u => hi fun l => (argM m c (batch t) u (lane t l)).toReal) (fun p d => argV m c (batch t) (lane t ⟨64 + d.val, by omega⟩) p) s'
          ⟨y.val - 64, by omega⟩)
      = headOut m c b ⟨w.val / 64, by omega⟩ s ⟨w.val % 64, Nat.mod_lt _ (by decide)⟩ := by
  have hb : batch t = b := Fin.ext p0.symm
  have hs : s' = s := Fin.ext p1.symm
  subst hs
  rw [hb]
  unfold headOut
  by_cases h : y.val < 64
  · rw [dif_pos h]
    have hl : ∀ d : Fin 64, lane t ⟨d.val, by omega⟩ = chan ⟨w.val / 64, by omega⟩ d := fun d => Fin.ext (by
      show t.val % 4 * 128 + d.val = w.val / 64 * 64 + d.val
      omega)
    have hd : (⟨y.val, h⟩ : Fin 64) = ⟨w.val % 64, Nat.mod_lt _ (by decide)⟩ := Fin.ext (by
      show y.val = w.val % 64
      omega)
    unfold lo
    simp only [hl]
    rw [hd]
  · rw [dif_neg h]
    have hl : ∀ d : Fin 64, lane t ⟨64 + d.val, by omega⟩ = chan ⟨w.val / 64, by omega⟩ d := fun d => Fin.ext (by
      show t.val % 4 * 128 + (64 + d.val) = w.val / 64 * 64 + d.val
      omega)
    have hd : (⟨y.val - 64, by omega⟩ : Fin 64) = ⟨w.val % 64, Nat.mod_lt _ (by decide)⟩ := Fin.ext (by
      show y.val - 64 = w.val % 64
      omega)
    unfold hi
    simp only [hl]
    rw [hd]

/-- What the kernel leaves in its output array. -/
theorem out_array (c : Dev nD) (hf : FiniteArgs m c) : (dats m 0 c).arrAt 4 cfg0.N = result m c := by
  refine (dats m 0 c).arrAt_eq_of_covers 4 _ (by decide +kernel) fun t hc y => ?_
  blk_simp
  rw [after0_4]
  have hy0 : (y 0).val < 1 := (y 0).isLt
  have hy1 : (y 1).val < 2048 := (y 1).isLt
  have hy2 : (y 2).val < 128 := (y 2).isLt
  have ht : t.val < 64 := t.isLt
  have hi := idx4 t
  have p0 : ((((cfg0.win 4).blk t).view.emb y) 0 : Fin 16).val = t.val / 4 := by
    have h0' : (y 0).val = 0 := by omega
    blk_simp [hi, h0']
  have p1 : ((((cfg0.win 4).blk t).view.emb y) 1 : Fin 2048).val = (y 1).val := by
    blk_simp [hi]
  have p2 : ((((cfg0.win 4).blk t).view.emb y) 2 : Fin 512).val = t.val % 4 * 128 + (y 2).val := by
    blk_simp [hi]
  have hx : y = ix3 (0 : Fin 1) (y 1) (y 2) := by blk_ext
  rw [hx]
  refine (out_apply (iblk m c 0 t) (iblk m c 1 t) (iblk m c 2 t) (iblk m c 3 t) (fun s l => (argQ m c (batch t) (lane t l) s).toReal)
    (fun s l => (argK m c (batch t) s (lane t l)).toReal) (fun u l => (argM m c (batch t) u (lane t l)).toReal)
    (fun l s => (blk_q m c t l s).trans (hf.q _ _ _)) (fun s l => (blk_k m c t s l).trans (hf.k _ _ _))
    (fun u l => (blk_m m c t u l).trans (hf.m _ _ _)) (y 1) (y 2)).trans ?_
  rw [← hx]
  simp only [blk_v]
  exact head_of_lane m c t _ _ _ _ _ p0 p1 p2

end Cert.Kernel5Ideal.Result

end
-- ==== Proof.Moba.Finite.lean ====
module

public import proofs.«01_k».proof.Pre_finite_scores
public import proofs.«01_k».proof.Proof.Moba.Kernel

/-! The precondition's meaning: the three arguments of the scores and gates are real numbers. -/

@[expose] public section

noncomputable section

namespace Cert.Moba

open Idealize.ShloMosaic Idealize.ShloMosaic.TcCoe Idealize.SL.Sem

/-- The precondition's shape facts. -/
theorem finite_facts : Cert.Pre_finite_scores.Facts where
  bcast_S_S16x512x2048 := by decide
  bcast_S_S16x2048x512 := by decide
  bcast_S_S16x8x512 := by decide

/-- A comparison with both infinities. -/
theorem finite_of_bits {x lo hi : EReal} (hlo : lo = ⊥) (hhi : hi = ⊤) (h : IntOp.andi (Ideal.cmp .ogt x lo) (Ideal.cmp .olt x hi) = 1#1) :
    x = (x.toReal : EReal) := by
  subst hlo hhi
  have e : IntOp.andi (Ideal.cmp .ogt x ⊥) (Ideal.cmp .olt x ⊤) = IntOp.andi (BitVec.ofBool (decide (⊥ < x))) (BitVec.ofBool (decide (x < ⊤))) := rfl
  have c : ∀ y z : Bool, IntOp.andi (BitVec.ofBool y) (BitVec.ofBool z) = 1#1 ↔ y = true ∧ z = true := by decide
  rw [e, c, decide_eq_true_eq, decide_eq_true_eq] at h
  exact (EReal.coe_toReal h.2.ne h.1.ne').symm

theorem low_f32 : Ideal.ofBits .f32 0xFF800000#32 = (⊥ : EReal) := by simp [Ideal.ofBits, Ideal.ieee]
theorem high_f32 : Ideal.ofBits .f32 0x7F800000#32 = (⊤ : EReal) := by simp [Ideal.ofBits, Ideal.ieee]
theorem low_bf16 : Ideal.ofBits .bf16 0xFF80#16 = (⊥ : EReal) := by simp [Ideal.ofBits, Ideal.ieee]
theorem high_bf16 : Ideal.ofBits .bf16 0x7F80#16 = (⊤ : EReal) := by simp [Ideal.ofBits, Ideal.ieee]

variable [Cert.Pre_finite_scores.Facts] (a0 : FVec Ideal Cert.Pre_finite_scores.S16x512x2048 .f32) (a1 : FVec Ideal Cert.Pre_finite_scores.S16x2048x512 .bf16)
  (a2 : FVec Ideal Cert.Pre_finite_scores.S16x512x2048 .bf16) (a3 : FVec Ideal Cert.Pre_finite_scores.S16x8x512 .f32)

theorem finite_q (h : (Cert.Pre_finite_scores.fn (F := Ideal) a0 a1 a2 a3).1 = fun _ => 1#1) (i : Cert.Pre_finite_scores.S16x512x2048.Idx) :
    (a0 i : EReal) = ((a0 i : EReal).toReal : EReal) := finite_of_bits low_f32 high_f32 (congrFun h i)
theorem finite_k (h : (Cert.Pre_finite_scores.fn (F := Ideal) a0 a1 a2 a3).2.1 = fun _ => 1#1) (i : Cert.Pre_finite_scores.S16x2048x512.Idx) :
    (a1 i : EReal) = ((a1 i : EReal).toReal : EReal) := finite_of_bits low_bf16 high_bf16 (congrFun h i)
theorem finite_m (h : (Cert.Pre_finite_scores.fn (F := Ideal) a0 a1 a2 a3).2.2 = fun _ => 1#1) (i : Cert.Pre_finite_scores.S16x8x512.Idx) :
    (a3 i : EReal) = ((a3 i : EReal).toReal : EReal) := finite_of_bits low_f32 high_f32 (congrFun h i)

end Cert.Moba

end
-- ==== Proof.Moba.Reference.lean ====
module

public import proofs.«01_k».proof.Proof.Gen.Reference5Ideal.Read
public import proofs.«01_k».proof.Proof.Moba.Row
public import Idealize.ShloMosaic.Lib.Pointwise
public import Idealize.ShloMosaic.Lib.WordCmp

/-! The plain block-selecting attention, elementwise: its gates, the blocks it chooses, the positions it keeps, and its softmax. -/

@[expose] public section

set_option maxRecDepth 16384

noncomputable section

namespace Cert.Reference5Ideal.Result

open Cert.Reference5Ideal Cert.Reference5Ideal.Read Idealize.ShloMosaic Idealize.ShloMosaic.TcCoe Idealize.SL.Sem
open Idealize.ShloMosaic.Pointwise
open Cert.Moba

variable (x0 : (⟨S16x512x2048, .f32⟩ : BufTy).Contents (Elt Ideal)) (x1 : (⟨S16x2048x512, .bf16⟩ : BufTy).Contents (Elt Ideal))
 (x2 : (⟨S16x512x2048, .bf16⟩ : BufTy).Contents (Elt Ideal)) (x3 : (⟨S16x8x512, .f32⟩ : BufTy).Contents (Elt Ideal))

theorem along_last (b : Fin 16) (h : Fin 8) (s : Fin 2048) (k u : Fin 8) :
    Shape.Idx.along (s := S16x8x2048x8) (ix4 b h s k) (3 : Fin 4) u = ix4 b h s u := by
  funext d
  match d with
  | ⟨0, _⟩ => rfl
  | ⟨1, _⟩ => rfl
  | ⟨2, _⟩ => rfl
  | ⟨3, _⟩ => rfl

theorem topK_apply (X : S16x8x2048x8.Idx → EReal) (b : Fin 16) (h : Fin 8) (s : Fin 2048) (r : Fin 3) :
    (Host.topK S16x8x2048x3 3 (FloatOps.cmpfTotal (F := Ideal) (φ := .f32) .gt) X Gen.sliceFits_S16x8x2048x8_S16x8x2048x3).2 (ix4 b h s r)
      = BitVec.ofNat 32 (sortedFrom (above fun u => X (ix4 b h s u)) (r.castLE (by decide))).val := by
  have e : (above fun u => X (ix4 b h s u)) = fun k k' : Fin 8 =>
      FloatOps.cmpfTotal (F := Ideal) (φ := .f32) .gt (X (Shape.Idx.along (s := S16x8x2048x8) (ix4 b h s (r.castLE (by decide) : Fin 8)) (3 : Fin 4) k))
      (X (Shape.Idx.along (s := S16x8x2048x8) (ix4 b h s (r.castLE (by decide) : Fin 8)) (3 : Fin 4) k')) == 1#1 := by
    funext k k'
    rw [along_last, along_last]
    rfl
  rw [e]
  have hs : ∀ {α : Type} (Y : S16x8x2048x8.Idx → α), extractStridedSlice S16x8x2048x3 (fun _ => 0) Y Gen.sliceFits_S16x8x2048x8_S16x8x2048x3 (ix4 b h s r)
      = Y (ix4 b h s (r.castLE (by decide) : Fin 8)) := fun Y => by
    pointwise []
    rfl
  unfold Host.topK
  dsimp only
  rw [hs]
  rfl

/-- The index of the `r`-th greatest gate. -/
theorem index_apply (b : Fin 16) (h : Fin 8) (s : Fin 2048) (r : Fin 3) :
   val_main_indices (F := Ideal) x0 x3 (ix4 b h s r)
     = BitVec.ofNat 32 (sortedFrom (above fun u => val_main_v20 (F := Ideal) x0 x3 (ix4 b h s u)) (r.castLE (by decide))).val := by
  unfold val_main_indices
  generalize val_main_v20 (F := Ideal) x0 x3 = X
  exact topK_apply X b h s r

/-- A position's block. -/
theorem block_apply : ∀ s : Fin 2048, val_main_v11 (F := Ideal) (ix1 s) = BitVec.ofNat 32 (s.val / 256) := by
  intro s
  pointwise [val_main_v11, val_main_call0_v11, val_main_call0_v13, val_main_call0_v2, val_main_call0_v6, val_main_call0_v10, val_main_call0_v3, val_main_call0_v5, val_main_call0_v4, val_main_call0_v0, val_main_c, val_main_call0_v8, val_main_call0_v7, val_main_call0_v9, val_main_call0_c, val_main_call0_v12, val_main_call0_c_0, val_main_call0_v1, val_main_v10]
  have e : id (constantI S_ 32 256#32) ix0 = 256#32 := rfl
  rw [e]
  revert s
  decide +kernel

theorem lit_eighth : Ideal.ofBits .f32 0x3E000000#32 = ((1 / 8 : ℝ) : EReal) := by
  simp [Ideal.ofBits, Ideal.ieee, -EReal.coe_mul]; norm_num

theorem lit_low : Ideal.ofBits .f32 0xFF800000#32 = (⊥ : EReal) := by
  simp [Ideal.ofBits, Ideal.ieee]

theorem select_low : id (constant (F := Ideal) S_ FTy.f32 0xFF800000#32) ix0 = (⊥ : EReal) := lit_low

theorem same_word : ∀ z t : Fin 8, IntOp.cmpi .eq (BitVec.ofNat 32 z.val) (BitVec.ofNat 32 t.val) = 1#1 ↔ z = t := by decide +kernel

theorem same_block (s p : Fin 2048) : IntOp.cmpi .eq (BitVec.ofNat 32 (s.val / 256)) (BitVec.ofNat 32 (p.val / 256))
    = BitVec.ofBool (decide (p.val / 256 = s.val / 256)) := by
  have c : ∀ z t : Fin 8, IntOp.cmpi .eq (BitVec.ofNat 32 z.val) (BitVec.ofNat 32 t.val) = BitVec.ofBool (decide (t.val = z.val)) := by decide +kernel
  exact c ⟨s.val / 256, by omega⟩ ⟨p.val / 256, by omega⟩

/-- The or of three bits. -/
theorem fold_or (w : Fin 3 → BitVec 1) : Finset.fold IntOp.ori 0#1 w Finset.univ = 1#1 ↔ ∃ r, w r = 1#1 := by
  have e : Finset.fold IntOp.ori 0#1 w Finset.univ = IntOp.ori (w 0) (IntOp.ori (w 1) (IntOp.ori (w 2) 0#1)) := rfl
  rw [e]
  have c : ∀ x y z : BitVec 1, IntOp.ori x (IntOp.ori y (IntOp.ori z 0#1)) = 1#1 ↔ x = 1#1 ∨ y = 1#1 ∨ z = 1#1 := by decide
  rw [c]
  constructor
  · rintro (h | h | h)
    exacts [⟨0, h⟩, ⟨1, h⟩, ⟨2, h⟩]
  · rintro ⟨r, h⟩
    match r with
    | 0 => exact .inl h
    | 1 => exact .inr (.inl h)
    | 2 => exact .inr (.inr h)

section
variable (q k : Fin 16 → Fin 8 → Fin 2048 → Fin 64 → ℝ) (mn : Fin 16 → Fin 8 → Fin 8 → Fin 64 → ℝ)

/-- The scores' arguments, by head. -/
structure Args : Prop where
  q : ∀ b (h : Fin 8) s (d : Fin 64), x0 (ix3 b (⟨h.val * 64 + d.val, by omega⟩ : Fin 512) s) = (q b h s d : EReal)
  k : ∀ b (h : Fin 8) s (d : Fin 64), x1 (ix3 b s (⟨h.val * 64 + d.val, by omega⟩ : Fin 512)) = (k b h s d : EReal)
  m : ∀ b (h : Fin 8) t (d : Fin 64), x3 (ix3 b t (⟨h.val * 64 + d.val, by omega⟩ : Fin 512)) = (mn b h t d : EReal)

variable {x0 x1 x3 q k mn} (A : Args x0 x1 x3 q k mn)
include A

/-- A gate. -/
theorem gate_apply (b : Fin 16) (h : Fin 8) (s : Fin 2048) (u : Fin 8) :
    val_main_v20 (F := Ideal) x0 x3 (ix4 b h s u) = if u.val < s.val / 256 then ((gates (q b h s) (mn b h) u : ℝ) : EReal) else ⊥ := by
  have e : val_main_v20 (F := Ideal) x0 x3 (ix4 b h s u) = Scalar.select (IntOp.cmpi .slt (BitVec.ofNat 32 u.val) (val_main_v11 (F := Ideal) (ix1 s)))
      (∑ d : Fin 64, x0 (ix3 b (⟨h.val * 64 + d.val, by omega⟩ : Fin 512) s) * x3 (ix3 b u (⟨h.val * 64 + d.val, by omega⟩ : Fin 512)))
      (id (constant (F := Ideal) S_ FTy.f32 0xFF800000#32) ix0) := by
    pointwise [val_main_v20, val_main_v19, val_main_v1, val_main_v0, val_main_v9, val_main_v8, val_main_call1_v1, val_main_call1_v2, val_main_call1_v0, val_main_cst, val_main_v18, val_main_v17, val_main_v15, val_main_v16, val_main_v14, val_main_v13, val_main_v12]
  rw [e, block_apply, select_low, WordCmp.cmpi_slt_ofNat (by omega) (by omega), Scalar.select_ofBool]
  have g : (∑ d : Fin 64, x0 (ix3 b (⟨h.val * 64 + d.val, by omega⟩ : Fin 512) s) * x3 (ix3 b u (⟨h.val * 64 + d.val, by omega⟩ : Fin 512)))
      = ((gates (q b h s) (mn b h) u : ℝ) : EReal) := by
    unfold gates
    rw [coe_sum]
    refine Finset.sum_congr rfl fun d _ => ?_
    rw [A.q, A.m, EReal.coe_mul]
  rw [g]
  by_cases hu : u.val < s.val / 256 <;> simp [hu]

/-- A past block's bit. -/
theorem chosen_apply (b : Fin 16) (h : Fin 8) (s : Fin 2048) (t : Fin 8) (ht : t.val < s.val / 256) :
    val_main_v27 (F := Ideal) x0 x3 (ix4 b h s t) = 1#1 ↔ chosen (gates (q b h s) (mn b h)) (s.val / 256) t := by
  rw [← among_past _ _ _ ht]
  have e : val_main_v27 (F := Ideal) x0 x3 (ix4 b h s t) = Finset.fold IntOp.ori 0#1 (fun r : Fin 3 => val_main_v26 (F := Ideal) x0 x3 (ix5 b h s r t)) Finset.univ := by
    pointwise [val_main_v27]
    rfl
  have f : ∀ r : Fin 3, val_main_v26 (F := Ideal) x0 x3 (ix5 b h s r t) = 1#1
      ↔ sortedFrom (above fun u => if u.val < s.val / 256 then ((gates (q b h s) (mn b h) u : ℝ) : EReal) else ⊥) (r.castLE (by decide)) = t := fun r => by
    have e : val_main_v26 (F := Ideal) x0 x3 (ix5 b h s r t) = IntOp.cmpi .eq (val_main_indices (F := Ideal) x0 x3 (ix4 b h s r)) (BitVec.ofNat 32 t.val) := by
      pointwise [val_main_v26, val_main_v25, val_main_v24, val_main_v23, val_main_v22, val_main_v21]
    rw [e, index_apply]
    simp only [gate_apply A]
    exact same_word _ t
  rw [e, fold_or]
  exact exists_congr f

/-- A position's bit. -/
theorem keep_apply (b : Fin 16) (h : Fin 8) (s p : Fin 2048) :
    val_main_v46 (F := Ideal) x0 x3 (ix4 b h s p) = 1#1 ↔ keeps (gates (q b h s) (mn b h)) s p := by
  have e : val_main_v46 (F := Ideal) x0 x3 (ix4 b h s p) = IntOp.ori
      (IntOp.andi (val_main_v27 (F := Ideal) x0 x3 (ix4 b h s (⟨p.val / 256, by omega⟩ : Fin 8)))
        (IntOp.cmpi .slt (BitVec.ofNat 32 (p.val / 256)) (val_main_v11 (F := Ideal) (ix1 s))))
      (IntOp.andi (IntOp.cmpi .eq (val_main_v11 (F := Ideal) (ix1 s)) (val_main_v11 (F := Ideal) (ix1 p)))
        (IntOp.cmpi .sle (BitVec.ofNat 32 p.val) (BitVec.ofNat 32 s.val))) := by
    pointwise [val_main_v46, val_main_v37, val_main_v36, val_main_v30, val_main_v29, val_main_v28, val_main_v17, val_main_v15, val_main_v16, val_main_v14, val_main_v13, val_main_v12, val_main_v45, val_main_v44, val_main_v43, val_main_v42, val_main_v41, val_main_v40, val_main_v39, val_main_v38, val_main_v10, val_main_v35, val_main_v34, val_main_v33, val_main_v32, val_main_v31]
  rw [e, block_apply, block_apply, WordCmp.cmpi_slt_ofNat (by omega) (by omega), WordCmp.cmpi_sle_ofNat (by omega) (by omega), same_block s p]
  have c : ∀ (x : BitVec 1) (y z w : Bool), IntOp.ori (IntOp.andi x (BitVec.ofBool y)) (IntOp.andi (BitVec.ofBool z) (BitVec.ofBool w)) = 1#1
      ↔ (x = 1#1 ∧ y = true) ∨ (z = true ∧ w = true) := by decide
  rw [c]
  simp only [decide_eq_true_eq]
  unfold keeps
  refine or_congr ?_ Iff.rfl
  constructor
  · rintro ⟨g, hlt⟩
    exact (chosen_apply A b h s ⟨p.val / 256, by omega⟩ hlt).mp g
  · intro g
    exact ⟨(chosen_apply A b h s ⟨p.val / 256, by omega⟩ g.1).mpr g, g.1⟩

/-- A masked score. -/
theorem score_apply (b : Fin 16) (h : Fin 8) (s p : Fin 2048) :
    val_main_v50 (F := Ideal) x0 x1 x3 (ix4 b h s p)
      = if keeps (gates (q b h s) (mn b h)) s p then (((∑ l, q b h s l * k b h p l) * (1 / 8) : ℝ) : EReal) else ⊥ := by
  have e : val_main_v50 (F := Ideal) x0 x1 x3 (ix4 b h s p) = Scalar.select (val_main_v46 (F := Ideal) x0 x3 (ix4 b h s p))
      ((∑ d : Fin 64, x0 (ix3 b (⟨h.val * 64 + d.val, by omega⟩ : Fin 512) s) * x1 (ix3 b p (⟨h.val * 64 + d.val, by omega⟩ : Fin 512)))
        * Ideal.ofBits .f32 0x3E000000#32)
      (id (constant (F := Ideal) S_ FTy.f32 0xFF800000#32) ix0) := by
    pointwise [val_main_v50, val_main_v49, val_main_v48, val_main_v47, val_main_cst_1, val_main_v1, val_main_v0, val_main_v4, val_main_v3, val_main_v2, val_main_call2_v1, val_main_call2_v0, val_main_cst_2]
  rw [e, select_low, lit_eighth]
  have g : (∑ d : Fin 64, x0 (ix3 b (⟨h.val * 64 + d.val, by omega⟩ : Fin 512) s) * x1 (ix3 b p (⟨h.val * 64 + d.val, by omega⟩ : Fin 512)))
      = ((∑ l, q b h s l * k b h p l : ℝ) : EReal) := by
    rw [coe_sum]
    refine Finset.sum_congr rfl fun d _ => ?_
    rw [A.q, A.k, EReal.coe_mul]
  rw [g, ← EReal.coe_mul]
  by_cases hk : keeps (gates (q b h s) (mn b h)) s p
  · rw [if_pos hk, (keep_apply A b h s p).mpr hk]
    rfl
  · have z : val_main_v46 (F := Ideal) x0 x3 (ix4 b h s p) = 0#1 := by
      have hn := mt (keep_apply A b h s p).mp hk
      generalize val_main_v46 (F := Ideal) x0 x3 (ix4 b h s p) = z at hn
      revert z
      decide
    rw [if_neg hk, z]
    rfl

/-- The greatest of a row's masked scores is a real number. -/
theorem most_real (b : Fin 16) (h : Fin 8) (s : Fin 2048) : ∃ m : ℝ, max (Ideal.ofBits .f32 0xFF800000#32) (val_main_v51 (F := Ideal) x0 x1 x3 (ix3 b h s)) = (m : EReal) := by
  have e : val_main_v51 (F := Ideal) x0 x1 x3 (ix3 b h s)
      = Finset.fold max (Ideal.ofBits .f32 0xFF800000#32) (fun p : Fin 2048 => val_main_v50 (F := Ideal) x0 x1 x3 (ix4 b h s p)) Finset.univ := by
    pointwise [val_main_v51]
    rfl
  rw [e, lit_low, max_eq_right bot_le]
  simp only [score_apply A]
  refine real_of_bounds (fold_max_lt_top _ _ fun p _ => ?_).ne (y := (∑ l, q b h s l * k b h s l) * (1 / 8)) ?_
  · split
    · exact EReal.coe_lt_top _
    · exact bot_lt_top
  · have hm := le_fold_max (Finset.univ : Finset (Fin 2048)) (fun p => if keeps (gates (q b h s) (mn b h)) s p
      then (((∑ l, q b h s l * k b h p l) * (1 / 8) : ℝ) : EReal) else ⊥) (Finset.mem_univ s)
    rw [if_pos (keeps_self _ s)] at hm
    exact hm

omit A in
theorem exp_apply (b : Fin 16) (h : Fin 8) (s p : Fin 2048) : val_main_v57 (F := Ideal) x0 x1 x3 (ix4 b h s p)
    = Ideal.exp (val_main_v50 (F := Ideal) x0 x1 x3 (ix4 b h s p) - max (Ideal.ofBits .f32 0xFF800000#32) (val_main_v51 (F := Ideal) x0 x1 x3 (ix3 b h s))) := by
  have i1 : idx_main_v54 (idx_main_v55 (ix4 b h s p)) = ix3 b h s := by
    funext a
    match a with
    | ⟨0, _⟩ => rfl
    | ⟨1, _⟩ => rfl
    | ⟨2, _⟩ => rfl
  rw [val_main_v57_apply, val_main_v56_apply, val_main_v55_apply, val_main_v54_apply, val_main_v53_apply, val_main_v52_apply, val_main_cst_4_apply, i1]
  generalize val_main_v51 (F := Ideal) x0 x1 x3 (ix3 b h s) = y
  generalize val_main_v50 (F := Ideal) x0 x1 x3 (ix4 b h s p) = x
  rfl

omit A in
theorem total_apply (b : Fin 16) (h : Fin 8) (s : Fin 2048) : val_main_v58 (F := Ideal) x0 x1 x3 (ix3 b h s)
    = ∑ p : Fin 2048, val_main_v57 (F := Ideal) x0 x1 x3 (ix4 b h s p) := by
  pointwise [val_main_v58, val_main_cst_5]

omit A in
theorem share_apply (b : Fin 16) (h : Fin 8) (s p : Fin 2048) : val_main_v61 (F := Ideal) x0 x1 x3 (ix4 b h s p)
    = Ideal.div (val_main_v57 (F := Ideal) x0 x1 x3 (ix4 b h s p)) (val_main_v58 (F := Ideal) x0 x1 x3 (ix3 b h s)) := by
  pointwise [val_main_v61, val_main_v60, val_main_v59]

/-- The plain attention's result. -/
theorem result_apply (b : Fin 16) (s : Fin 2048) (w : Fin 512) : val_main_v65 (F := Ideal) x0 x1 x2 x3 (ix3 b s w)
    = headRow (q b ⟨w.val / 64, by omega⟩) (k b ⟨w.val / 64, by omega⟩) (mn b ⟨w.val / 64, by omega⟩)
      (fun p d => x2 (ix3 b (⟨w.val / 64 * 64 + d.val, by omega⟩ : Fin 512) p)) s ⟨w.val % 64, Nat.mod_lt _ (by decide)⟩ := by
  have e : val_main_v65 (F := Ideal) x0 x1 x2 x3 (ix3 b s w)
      = ∑ p : Fin 2048, val_main_v61 (F := Ideal) x0 x1 x3 (ix4 b (⟨w.val / 64, by omega⟩ : Fin 8) s p) * x2 (ix3 b w p) := by
    pointwise [val_main_v65, val_main_v64, val_main_v63, val_main_v62, val_main_v7, val_main_v6, val_main_v5]
  rw [e]
  obtain ⟨h, hh⟩ : ∃ h : Fin 8, (⟨w.val / 64, by omega⟩ : Fin 8) = h := ⟨_, rfl⟩
  have hw : ∀ p, x2 (ix3 b w p) = x2 (ix3 b (⟨w.val / 64 * 64 + (⟨w.val % 64, Nat.mod_lt _ (by decide)⟩ : Fin 64).val, by
      show w.val / 64 * 64 + w.val % 64 < 512
      omega⟩ : Fin 512) p) := fun p => by
    congr 2
    exact Fin.ext (by
      show w.val = w.val / 64 * 64 + w.val % 64
      omega)
  simp only [hw]
  rw [hh]
  obtain ⟨mx, hm⟩ := most_real A b h s
  have ex : ∀ p, val_main_v57 (F := Ideal) x0 x1 x3 (ix4 b h s p)
      = ((weight (keeps (gates (q b h s) (mn b h)) s) (fun p => (∑ l, q b h s l * k b h p l) * (1 / 8)) p * Real.exp (-mx) : ℝ) : EReal) := fun p => by
    rw [exp_apply, hm, score_apply A]
    exact exp_masked (keeps (gates (q b h s) (mn b h)) s) (fun p => (∑ l, q b h s l * k b h p l) * (1 / 8)) mx p
  simp only [share_apply, total_apply, ex]
  exact attend_before (keeps (gates (q b h s) (mn b h)) s) (fun p => (∑ l, q b h s l * k b h p l) * (1 / 8)) (Real.exp (-mx)) (Real.exp_pos _)
    (fun p => x2 (ix3 b _ p)) (keeps_self _ s)

end

end Cert.Reference5Ideal.Result

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.InProj.Kernel
public import proofs.«01_k».proof.Proof.InProj.Reference
public import proofs.«01_k».proof.Proof.Retention.Kernel
public import proofs.«01_k».proof.Proof.Retention.Reference
public import proofs.«01_k».proof.Proof.Ffn.Kernel
public import proofs.«01_k».proof.Proof.Ffn.Reference
public import proofs.«01_k».proof.Proof.Mix.Kernel
public import proofs.«01_k».proof.Proof.Mix.Reference
public import proofs.«01_k».proof.Proof.Moba.Finite
public import proofs.«01_k».proof.Proof.Moba.Kernel
public import proofs.«01_k».proof.Proof.Moba.Reference
public import Idealize.ShloMosaic.Adequacy
public import Idealize.ShloMosaic.Init

@[expose] public section

set_option maxRecDepth 16384

noncomputable section

namespace Cert.Proof

open Idealize.ShloMosaic Idealize.SL.Sem

/-- The plain retention runs, its arguments unchanged and its counters at zero: it declares none. -/
theorem plain_frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The plain retention's array is the optimised one's when their arguments agree. -/
theorem plain_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' (c.tc.loc Cert.ReferenceIdeal.main_arg0) = m (c.tc.loc Cert.KernelIdeal.main_arg0)
      ∧ m' (c.tc.loc Cert.ReferenceIdeal.main_arg1) = m (c.tc.loc Cert.KernelIdeal.main_arg1)
      ∧ m' (c.tc.loc Cert.ReferenceIdeal.main_arg2) = m (c.tc.loc Cert.KernelIdeal.main_arg2)
      ∧ m' (c.tc.loc Cert.ReferenceIdeal.main_arg3) = m (c.tc.loc Cert.KernelIdeal.main_arg3)) :
    Cert.ReferenceIdeal.Read.val_main_v195 (F := Ideal) (m' (c.tc.loc Cert.ReferenceIdeal.main_arg0))
      (m' (c.tc.loc Cert.ReferenceIdeal.main_arg1)) (m' (c.tc.loc Cert.ReferenceIdeal.main_arg2))
      (m' (c.tc.loc Cert.ReferenceIdeal.main_arg3)) = Cert.KernelIdeal.Result.result m c := by
  rw [h.1, h.2.1, h.2.2.1, h.2.2.2]
  funext I
  obtain ⟨b, s, w, rfl⟩ : ∃ b s w, I = ix3 b s w :=
    ⟨I 0, I 1, I 2, by funext a; fin_cases a <;> rfl⟩
  exact Cert.ReferenceIdeal.Result.result_apply _ _ _ _ b s w

/-- The optimised retention and the plain one end at one array, the extended-real retention of their arguments. -/
theorem retention_algebraic : Cert.algebraic_KernelIdeal_ReferenceIdeal := by
  intro m g m' g' hpre hagree
  refine ⟨fun c => Cert.KernelIdeal.Result.result m c, ?_, ?_⟩
  · exact (θ_run Cert.KernelIdeal.defs _ _).mono (fun r h c => ⟨(h c).1.trans (Cert.KernelIdeal.Result.out_array m c), (h c).2⟩)
      (Cert.KernelIdeal.Value.run_blocks m g)
  · exact (θ_run Cert.ReferenceIdeal.defs _ _).mono (fun r h c => ⟨((h c).1.trans
        (Cert.ReferenceIdeal.Read.val_main_v195_eq (StableHlo.launchContents m' c))).trans (plain_result m m' c (hagree c)), (h c).2⟩)
      (Cert.ReferenceIdeal.Value.run m' g')

/-- The plain feed-forward runs, its arguments unchanged and its counters at zero: it declares none. -/
theorem plain_frame2 : Cert.quiescent_Reference2Ideal := fun m ρ _ =>
  (θ_run Cert.Reference2Ideal.defs _ _).mono
    (fun r h => ⟨fun c => (h c).2.2, sem_eq_zero_of_no_sems (by decide) r.2⟩)
    (Cert.Reference2Ideal.Value.run (F := Ideal) m ρ)

/-- The plain feed-forward's array is the optimised one's when their arguments agree. -/
theorem plain_result2 (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (c : Dev Cert.Kernel2Ideal.nD)
    (h : m' (c.tc.loc Cert.Reference2Ideal.main_arg0) = m (c.tc.loc Cert.Kernel2Ideal.main_arg0)
      ∧ m' (c.tc.loc Cert.Reference2Ideal.main_arg1) = m (c.tc.loc Cert.Kernel2Ideal.main_arg1)
      ∧ m' (c.tc.loc Cert.Reference2Ideal.main_arg2) = m (c.tc.loc Cert.Kernel2Ideal.main_arg2)
      ∧ m' (c.tc.loc Cert.Reference2Ideal.main_arg3) = m (c.tc.loc Cert.Kernel2Ideal.main_arg3)
      ∧ m' (c.tc.loc Cert.Reference2Ideal.main_arg4) = m (c.tc.loc Cert.Kernel2Ideal.main_arg4)
      ∧ m' (c.tc.loc Cert.Reference2Ideal.main_arg5) = m (c.tc.loc Cert.Kernel2Ideal.main_arg5)) :
    Cert.Reference2Ideal.Read.val_main_v34 (F := Ideal) (m' (c.tc.loc Cert.Reference2Ideal.main_arg0))
      (m' (c.tc.loc Cert.Reference2Ideal.main_arg1))
      (m' (c.tc.loc Cert.Reference2Ideal.main_arg2))
      (m' (c.tc.loc Cert.Reference2Ideal.main_arg3))
      (m' (c.tc.loc Cert.Reference2Ideal.main_arg4)) = Cert.Kernel2Ideal.Result.result m c := by
  rw [h.1, h.2.1, h.2.2.1, h.2.2.2.1, h.2.2.2.2.1]
  funext I
  obtain ⟨s, w, rfl⟩ : ∃ s w, I = ix2 s w :=
    ⟨I 0, I 1, by funext a; fin_cases a <;> rfl⟩
  exact Cert.Reference2Ideal.Result.result_apply _ _ _ _ _ s w

/-- The optimised feed-forward and the plain one end at equal arrays, and the weights they cast are one array. -/
theorem feed_algebraic : Cert.algebraic_Kernel2Ideal_Reference2Ideal := by
  intro m g m' g' hpre hagree
  refine ⟨fun c => Cert.Kernel2Ideal.Result.result m c, fun c => Cert.Kernel2Ideal.Result.castResult m c, ?_, ?_⟩
  · exact (θ_run Cert.Kernel2Ideal.defs _ _).mono (fun r h c => ⟨(h c).1.trans (Cert.Kernel2Ideal.Result.out_array m c),
        (h c).2.1.trans (Cert.Kernel2Ideal.Result.cast_array m c), (h c).2.2⟩)
      (Cert.Kernel2Ideal.Value.run_blocks m g)
  · exact (θ_run Cert.Reference2Ideal.defs _ _).mono (fun r h c => ⟨((h c).1.trans
        (Cert.Reference2Ideal.Read.val_main_v34_eq m' c)).trans (plain_result2 m m' c (hagree c)),
        (h c).2.1.trans (hagree c).2.2.2.2.2, (h c).2.2⟩)
      (Cert.Reference2Ideal.Value.run m' g')

/-- The plain mixing runs, its arguments unchanged and its counters at zero: it declares none. -/
theorem plain_frame3 : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

/-- The plain mixing's array is the optimised one's when their arguments agree. -/
theorem plain_result3 (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ)
    (c : Dev Cert.Kernel3Ideal.nD)
    (h : m' (c.tc.loc Cert.Reference3Ideal.main_arg0) = m (c.tc.loc Cert.Kernel3Ideal.main_arg0)
      ∧ m' (c.tc.loc Cert.Reference3Ideal.main_arg1) = m (c.tc.loc Cert.Kernel3Ideal.main_arg1)
      ∧ m' (c.tc.loc Cert.Reference3Ideal.main_arg2) = m (c.tc.loc Cert.Kernel3Ideal.main_arg2)
      ∧ m' (c.tc.loc Cert.Reference3Ideal.main_arg3) = m (c.tc.loc Cert.Kernel3Ideal.main_arg3)
      ∧ m' (c.tc.loc Cert.Reference3Ideal.main_arg4) = m (c.tc.loc Cert.Kernel3Ideal.main_arg4)
      ∧ m' (c.tc.loc Cert.Reference3Ideal.main_arg5) = m (c.tc.loc Cert.Kernel3Ideal.main_arg5)
      ∧ m' (c.tc.loc Cert.Reference3Ideal.main_arg6) = m (c.tc.loc Cert.Kernel3Ideal.main_arg6)
      ∧ m' (c.tc.loc Cert.Reference3Ideal.main_arg7) = m (c.tc.loc Cert.Kernel3Ideal.main_arg7)
      ∧ m' (c.tc.loc Cert.Reference3Ideal.main_arg8) = m (c.tc.loc Cert.Kernel3Ideal.main_arg8)
      ∧ m' (c.tc.loc Cert.Reference3Ideal.main_arg9) = m (c.tc.loc Cert.Kernel3Ideal.main_arg9)) :
    Cert.Reference3Ideal.Read.val_main_v36 (F := Ideal) (m' (c.tc.loc Cert.Reference3Ideal.main_arg0))
      (m' (c.tc.loc Cert.Reference3Ideal.main_arg1))
      (m' (c.tc.loc Cert.Reference3Ideal.main_arg2))
      (m' (c.tc.loc Cert.Reference3Ideal.main_arg3))
      (m' (c.tc.loc Cert.Reference3Ideal.main_arg4))
      (m' (c.tc.loc Cert.Reference3Ideal.main_arg5))
      (m' (c.tc.loc Cert.Reference3Ideal.main_arg6))
      (m' (c.tc.loc Cert.Reference3Ideal.main_arg7))
      (m' (c.tc.loc Cert.Reference3Ideal.main_arg8))
      (m' (c.tc.loc Cert.Reference3Ideal.main_arg9)) = Cert.Kernel3Ideal.Result.result m c := by
  rw [h.1, h.2.1, h.2.2.1, h.2.2.2.1, h.2.2.2.2.1, h.2.2.2.2.2.1, h.2.2.2.2.2.2.1, h.2.2.2.2.2.2.2.1, h.2.2.2.2.2.2.2.2.1, h.2.2.2.2.2.2.2.2.2]
  funext I
  obtain ⟨s, w, rfl⟩ : ∃ s w, I = ix2 s w :=
    ⟨I 0, I 1, by funext a; fin_cases a <;> rfl⟩
  exact Cert.Reference3Ideal.Result.result_apply _ _ _ _ _ _ _ _ _ _ s w

/-- The optimised mixing and the plain one end at equal arrays. -/
theorem mixing_algebraic : Cert.algebraic_Kernel3Ideal_Reference3Ideal := by
  intro m g m' g' hpre hagree
  refine ⟨fun c => Cert.Kernel3Ideal.Result.result m c, ?_, ?_⟩
  · exact (θ_run Cert.Kernel3Ideal.defs _ _).mono (fun r h c => ⟨(h c).1.trans (Cert.Kernel3Ideal.Result.out_array m c), (h c).2⟩)
      (Cert.Kernel3Ideal.Value.run_blocks m g)
  · exact (θ_run Cert.Reference3Ideal.defs _ _).mono (fun r h c => ⟨((h c).1.trans
        (Cert.Reference3Ideal.Read.val_main_v36_eq m' c)).trans (plain_result3 m m' c (hagree c)), (h c).2⟩)
      (Cert.Reference3Ideal.Value.run m' g')

/-- The plain projections run, their arguments unchanged and their counters at zero: they declare none. -/
theorem plain_frame4 : Cert.quiescent_Reference4Ideal := fun m ρ _ =>
  (θ_run Cert.Reference4Ideal.defs _ _).mono
    (fun r h => ⟨fun c => (h c).2.2.2.2.2.2.2.2.2.2, sem_eq_zero_of_no_sems (by decide) r.2⟩)
    (Cert.Reference4Ideal.Value.run (F := Ideal) m ρ)

/-- The plain projections' arrays are the optimised ones when their arguments agree. -/
theorem plain_result4_9 (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h : m' (c.tc.loc Cert.Reference4Ideal.main_arg0) = m (c.tc.loc Cert.Kernel4Ideal.main_arg0) ∧ m' (c.tc.loc Cert.Reference4Ideal.main_arg1) = m (c.tc.loc Cert.Kernel4Ideal.main_arg1)) :
    Cert.Reference4Ideal.Read.val_main_v171 (F := Ideal) (m' (c.tc.loc Cert.Reference4Ideal.main_arg0)) (m' (c.tc.loc Cert.Reference4Ideal.main_arg1))
      = Cert.Kernel4Ideal.Result.result9 m c := by
  rw [h.1, h.2]
  funext I
  obtain ⟨g, w, rfl⟩ : ∃ g w, I = ix2 g w := ⟨I 0, I 1, by funext a; fin_cases a <;> rfl⟩
  exact Cert.Reference4Ideal.Result.result9_apply _ _ g w
theorem plain_result4_10 (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h : m' (c.tc.loc Cert.Reference4Ideal.main_arg0) = m (c.tc.loc Cert.Kernel4Ideal.main_arg0) ∧ m' (c.tc.loc Cert.Reference4Ideal.main_arg1) = m (c.tc.loc Cert.Kernel4Ideal.main_arg1)) :
    Cert.Reference4Ideal.Read.val_main_v174 (F := Ideal) (m' (c.tc.loc Cert.Reference4Ideal.main_arg0)) (m' (c.tc.loc Cert.Reference4Ideal.main_arg1))
      = Cert.Kernel4Ideal.Result.result10 m c := by
  rw [h.1, h.2]
  funext I
  obtain ⟨b, w, s, rfl⟩ : ∃ b w s, I = ix3 b w s := ⟨I 0, I 1, I 2, by funext a; fin_cases a <;> rfl⟩
  exact Cert.Reference4Ideal.Result.result10_apply _ _ b w s
theorem plain_result4_11 (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h : m' (c.tc.loc Cert.Reference4Ideal.main_arg0) = m (c.tc.loc Cert.Kernel4Ideal.main_arg0) ∧ m' (c.tc.loc Cert.Reference4Ideal.main_arg1) = m (c.tc.loc Cert.Kernel4Ideal.main_arg1)) :
    Cert.Reference4Ideal.Read.val_main_v176 (F := Ideal) (m' (c.tc.loc Cert.Reference4Ideal.main_arg0)) (m' (c.tc.loc Cert.Reference4Ideal.main_arg1))
      = Cert.Kernel4Ideal.Result.result11 m c := by
  rw [h.1, h.2]
  funext I
  obtain ⟨g, w, rfl⟩ : ∃ g w, I = ix2 g w := ⟨I 0, I 1, by funext a; fin_cases a <;> rfl⟩
  exact Cert.Reference4Ideal.Result.result11_apply _ _ g w
theorem plain_result4_12 (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h : m' (c.tc.loc Cert.Reference4Ideal.main_arg0) = m (c.tc.loc Cert.Kernel4Ideal.main_arg0) ∧ m' (c.tc.loc Cert.Reference4Ideal.main_arg1) = m (c.tc.loc Cert.Kernel4Ideal.main_arg1)) :
    Cert.Reference4Ideal.Read.val_main_v179 (F := Ideal) (m' (c.tc.loc Cert.Reference4Ideal.main_arg0)) (m' (c.tc.loc Cert.Reference4Ideal.main_arg1))
      = Cert.Kernel4Ideal.Result.result12 m c := by
  rw [h.1, h.2]
  funext I
  obtain ⟨g, w, rfl⟩ : ∃ g w, I = ix2 g w := ⟨I 0, I 1, by funext a; fin_cases a <;> rfl⟩
  exact Cert.Reference4Ideal.Result.result12_apply _ _ g w
theorem plain_result4_13 (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h : m' (c.tc.loc Cert.Reference4Ideal.main_arg0) = m (c.tc.loc Cert.Kernel4Ideal.main_arg0) ∧ m' (c.tc.loc Cert.Reference4Ideal.main_arg1) = m (c.tc.loc Cert.Kernel4Ideal.main_arg1)) :
    Cert.Reference4Ideal.Read.val_main_v181 (F := Ideal) (m' (c.tc.loc Cert.Reference4Ideal.main_arg0)) (m' (c.tc.loc Cert.Reference4Ideal.main_arg1))
      = Cert.Kernel4Ideal.Result.result13 m c := by
  rw [h.1, h.2]
  funext I
  obtain ⟨b, w, s, rfl⟩ : ∃ b w s, I = ix3 b w s := ⟨I 0, I 1, I 2, by funext a; fin_cases a <;> rfl⟩
  exact Cert.Reference4Ideal.Result.result13_apply _ _ b w s
theorem plain_result4_14 (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h : m' (c.tc.loc Cert.Reference4Ideal.main_arg0) = m (c.tc.loc Cert.Kernel4Ideal.main_arg0) ∧ m' (c.tc.loc Cert.Reference4Ideal.main_arg1) = m (c.tc.loc Cert.Kernel4Ideal.main_arg1)) :
    Cert.Reference4Ideal.Read.val_main_v183 (F := Ideal) (m' (c.tc.loc Cert.Reference4Ideal.main_arg0)) (m' (c.tc.loc Cert.Reference4Ideal.main_arg1))
      = Cert.Kernel4Ideal.Result.result14 m c := by
  rw [h.1, h.2]
  funext I
  obtain ⟨g, w, rfl⟩ : ∃ g w, I = ix2 g w := ⟨I 0, I 1, by funext a; fin_cases a <;> rfl⟩
  exact Cert.Reference4Ideal.Result.result14_apply _ _ g w
theorem plain_result4_15 (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h : m' (c.tc.loc Cert.Reference4Ideal.main_arg0) = m (c.tc.loc Cert.Kernel4Ideal.main_arg0) ∧ m' (c.tc.loc Cert.Reference4Ideal.main_arg1) = m (c.tc.loc Cert.Kernel4Ideal.main_arg1)) :
    Cert.Reference4Ideal.Read.val_main_v185 (F := Ideal) (m' (c.tc.loc Cert.Reference4Ideal.main_arg0)) (m' (c.tc.loc Cert.Reference4Ideal.main_arg1))
      = Cert.Kernel4Ideal.Result.result15 m c := by
  rw [h.1, h.2]
  funext I
  obtain ⟨b, w, s, rfl⟩ : ∃ b w s, I = ix3 b w s := ⟨I 0, I 1, I 2, by funext a; fin_cases a <;> rfl⟩
  exact Cert.Reference4Ideal.Result.result15_apply _ _ b w s
theorem plain_result4_16 (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h : m' (c.tc.loc Cert.Reference4Ideal.main_arg0) = m (c.tc.loc Cert.Kernel4Ideal.main_arg0) ∧ m' (c.tc.loc Cert.Reference4Ideal.main_arg1) = m (c.tc.loc Cert.Kernel4Ideal.main_arg1)) :
    Cert.Reference4Ideal.Read.val_main_v187 (F := Ideal) (m' (c.tc.loc Cert.Reference4Ideal.main_arg0)) (m' (c.tc.loc Cert.Reference4Ideal.main_arg1))
      = Cert.Kernel4Ideal.Result.result16 m c := by
  rw [h.1, h.2]
  funext I
  obtain ⟨g, w, rfl⟩ : ∃ g w, I = ix2 g w := ⟨I 0, I 1, by funext a; fin_cases a <;> rfl⟩
  exact Cert.Reference4Ideal.Result.result16_apply _ _ g w
theorem plain_result4_17 (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h : m' (c.tc.loc Cert.Reference4Ideal.main_arg0) = m (c.tc.loc Cert.Kernel4Ideal.main_arg0) ∧ m' (c.tc.loc Cert.Reference4Ideal.main_arg1) = m (c.tc.loc Cert.Kernel4Ideal.main_arg1)) :
    Cert.Reference4Ideal.Read.val_main_v189 (F := Ideal) (m' (c.tc.loc Cert.Reference4Ideal.main_arg0)) (m' (c.tc.loc Cert.Reference4Ideal.main_arg1))
      = Cert.Kernel4Ideal.Result.result17 m c := by
  rw [h.1, h.2]
  funext I
  obtain ⟨g, w, rfl⟩ : ∃ g w, I = ix2 g w := ⟨I 0, I 1, by funext a; fin_cases a <;> rfl⟩
  exact Cert.Reference4Ideal.Result.result17_apply _ _ g w
theorem plain_result4_18 (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h : m' (c.tc.loc Cert.Reference4Ideal.main_arg0) = m (c.tc.loc Cert.Kernel4Ideal.main_arg0) ∧ m' (c.tc.loc Cert.Reference4Ideal.main_arg1) = m (c.tc.loc Cert.Kernel4Ideal.main_arg1)) :
    Cert.Reference4Ideal.Read.val_main_v190 (F := Ideal) (m' (c.tc.loc Cert.Reference4Ideal.main_arg0)) (m' (c.tc.loc Cert.Reference4Ideal.main_arg1))
      = Cert.Kernel4Ideal.Result.result18 m c := by
  rw [h.1, h.2]
  funext I
  obtain ⟨q, z, w, rfl⟩ : ∃ q z w, I = ix3 q z w := ⟨I 0, I 1, I 2, by funext a; fin_cases a <;> rfl⟩
  obtain rfl : z = 0 := Subsingleton.elim _ _
  exact Cert.Reference4Ideal.Result.result18_apply _ _ q w

/-- The optimised projections and the plain ones end at equal arrays, all ten. -/
theorem in_proj_algebraic : Cert.algebraic_Kernel4Ideal_Reference4Ideal := by
  intro m g m' g' hpre hagree
  refine ⟨fun c => Cert.Kernel4Ideal.Result.result9 m c, fun c => Cert.Kernel4Ideal.Result.result10 m c, fun c => Cert.Kernel4Ideal.Result.result11 m c, fun c => Cert.Kernel4Ideal.Result.result12 m c, fun c => Cert.Kernel4Ideal.Result.result13 m c, fun c => Cert.Kernel4Ideal.Result.result14 m c, fun c => Cert.Kernel4Ideal.Result.result15 m c, fun c => Cert.Kernel4Ideal.Result.result16 m c, fun c => Cert.Kernel4Ideal.Result.result17 m c, fun c => Cert.Kernel4Ideal.Result.result18 m c, ?_, ?_⟩
  · exact (θ_run Cert.Kernel4Ideal.defs _ _).mono (fun r h c => ⟨(h c).1.trans (Cert.Kernel4Ideal.Result.out_array9 m c),
        (h c).2.1.trans (Cert.Kernel4Ideal.Result.out_array10 m c),
        (h c).2.2.1.trans (Cert.Kernel4Ideal.Result.out_array11 m c),
        (h c).2.2.2.1.trans (Cert.Kernel4Ideal.Result.out_array12 m c),
        (h c).2.2.2.2.1.trans (Cert.Kernel4Ideal.Result.out_array13 m c),
        (h c).2.2.2.2.2.1.trans (Cert.Kernel4Ideal.Result.out_array14 m c),
        (h c).2.2.2.2.2.2.1.trans (Cert.Kernel4Ideal.Result.out_array15 m c),
        (h c).2.2.2.2.2.2.2.1.trans (Cert.Kernel4Ideal.Result.out_array16 m c),
        (h c).2.2.2.2.2.2.2.2.1.trans (Cert.Kernel4Ideal.Result.out_array17 m c),
        (h c).2.2.2.2.2.2.2.2.2.1.trans (Cert.Kernel4Ideal.Result.out_array18 m c), (h c).2.2.2.2.2.2.2.2.2.2⟩)
      (Cert.Kernel4Ideal.Value.run_blocks m g)
  · exact (θ_run Cert.Reference4Ideal.defs _ _).mono (fun r h c => ⟨((h c).1.trans (Cert.Reference4Ideal.Read.val_main_v171_eq (StableHlo.launchContents m' c))).trans (plain_result4_9 m m' c (hagree c)),
        ((h c).2.1.trans (Cert.Reference4Ideal.Read.val_main_v174_eq (StableHlo.launchContents m' c))).trans (plain_result4_10 m m' c (hagree c)),
        ((h c).2.2.1.trans (Cert.Reference4Ideal.Read.val_main_v176_eq (StableHlo.launchContents m' c))).trans (plain_result4_11 m m' c (hagree c)),
        ((h c).2.2.2.1.trans (Cert.Reference4Ideal.Read.val_main_v179_eq (StableHlo.launchContents m' c))).trans (plain_result4_12 m m' c (hagree c)),
        ((h c).2.2.2.2.1.trans (Cert.Reference4Ideal.Read.val_main_v181_eq (StableHlo.launchContents m' c))).trans (plain_result4_13 m m' c (hagree c)),
        ((h c).2.2.2.2.2.1.trans (Cert.Reference4Ideal.Read.val_main_v183_eq (StableHlo.launchContents m' c))).trans (plain_result4_14 m m' c (hagree c)),
        ((h c).2.2.2.2.2.2.1.trans (Cert.Reference4Ideal.Read.val_main_v185_eq (StableHlo.launchContents m' c))).trans (plain_result4_15 m m' c (hagree c)),
        ((h c).2.2.2.2.2.2.2.1.trans (Cert.Reference4Ideal.Read.val_main_v187_eq (StableHlo.launchContents m' c))).trans (plain_result4_16 m m' c (hagree c)),
        ((h c).2.2.2.2.2.2.2.2.1.trans (Cert.Reference4Ideal.Read.val_main_v189_eq (StableHlo.launchContents m' c))).trans (plain_result4_17 m m' c (hagree c)),
        ((h c).2.2.2.2.2.2.2.2.2.1.trans (Cert.Reference4Ideal.Read.val_main_v190_eq (StableHlo.launchContents m' c))).trans (plain_result4_18 m m' c (hagree c)), (h c).2.2.2.2.2.2.2.2.2.2⟩)
      (Cert.Reference4Ideal.Value.run m' g')

/-- The plain block attention runs, its arguments unchanged and its counters at zero: it declares none. -/
theorem plain_frame5 : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run (F := Ideal) m ρ)

/-- Under the precondition the block attention's arguments are real numbers. -/
theorem block_finite [Cert.Pre_finite_scores.Facts] (m : (ℓ : Loc Cert.Kernel5Ideal.nD Cert.Kernel5Ideal.τ Cert.Kernel5Ideal.sig) → Buf (Elt Ideal) ℓ)
    (hpre : Cert.Pre_Kernel5Ideal_finite_scores m) (c : Dev Cert.Kernel5Ideal.nD) : Cert.Kernel5Ideal.Result.FiniteArgs m c where
  q b l s := Cert.Moba.finite_q _ _ _ _ (hpre c).1 (ix3 b l s)
  k b s l := Cert.Moba.finite_k _ _ _ _ (hpre c).2.1 (ix3 b s l)
  m b t l := Cert.Moba.finite_m _ _ _ _ (hpre c).2.2 (ix3 b t l)

/-- The plain block attention's array is the optimised one's when their arguments agree. -/
theorem plain_result5 (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ)
    (c : Dev Cert.Kernel5Ideal.nD) (hf : Cert.Kernel5Ideal.Result.FiniteArgs m c)
    (h : m' (c.tc.loc Cert.Reference5Ideal.main_arg0) = m (c.tc.loc Cert.Kernel5Ideal.main_arg0)
      ∧ m' (c.tc.loc Cert.Reference5Ideal.main_arg1) = m (c.tc.loc Cert.Kernel5Ideal.main_arg1)
      ∧ m' (c.tc.loc Cert.Reference5Ideal.main_arg2) = m (c.tc.loc Cert.Kernel5Ideal.main_arg2)
      ∧ m' (c.tc.loc Cert.Reference5Ideal.main_arg3) = m (c.tc.loc Cert.Kernel5Ideal.main_arg3)) :
    Cert.Reference5Ideal.Read.val_main_v65 (F := Ideal) (m' (c.tc.loc Cert.Reference5Ideal.main_arg0))
      (m' (c.tc.loc Cert.Reference5Ideal.main_arg1)) (m' (c.tc.loc Cert.Reference5Ideal.main_arg2))
      (m' (c.tc.loc Cert.Reference5Ideal.main_arg3)) = Cert.Kernel5Ideal.Result.result m c := by
  rw [h.1, h.2.1, h.2.2.1, h.2.2.2]
  funext I
  obtain ⟨b, s, w, rfl⟩ : ∃ b s w, I = ix3 b s w :=
    ⟨I 0, I 1, I 2, by funext a; fin_cases a <;> rfl⟩
  exact Cert.Reference5Ideal.Result.result_apply (x2 := m (c.tc.loc Cert.Kernel5Ideal.main_arg2))
    (q := fun b h s d => (Cert.Kernel5Ideal.Result.argQ m c b (Cert.Kernel5Ideal.Result.chan h d) s).toReal)
    (k := fun b h s d => (Cert.Kernel5Ideal.Result.argK m c b s (Cert.Kernel5Ideal.Result.chan h d)).toReal)
    (mn := fun b h t d => (Cert.Kernel5Ideal.Result.argM m c b t (Cert.Kernel5Ideal.Result.chan h d)).toReal)
    ⟨fun b h s d => hf.q b (Cert.Kernel5Ideal.Result.chan h d) s, fun b h s d => hf.k b s (Cert.Kernel5Ideal.Result.chan h d),
      fun b h t d => hf.m b t (Cert.Kernel5Ideal.Result.chan h d)⟩ b s w

/-- The optimised block attention and the plain one end at equal arrays. -/
theorem block_algebraic [hPre : Cert.Pre_finite_scores.Facts] : Cert.algebraic_Kernel5Ideal_Reference5Ideal_pre_finite_scores := by
  intro m g m' g' hpre hagree
  refine ⟨fun c => Cert.Kernel5Ideal.Result.result m c, ?_, ?_⟩
  · exact (θ_run Cert.Kernel5Ideal.defs _ _).mono (fun r h c => ⟨(h c).1.trans
        (Cert.Kernel5Ideal.Result.out_array m c (block_finite m hpre c)), (h c).2⟩)
      (Cert.Kernel5Ideal.Value.run_blocks m g)
  · exact (θ_run Cert.Reference5Ideal.defs _ _).mono (fun r h c => ⟨((h c).1.trans
        (Cert.Reference5Ideal.Read.val_main_v65_eq m' c)).trans (plain_result5 m m' c (block_finite m hpre c) (hagree c)), (h c).2⟩)
      (Cert.Reference5Ideal.Value.run m' g')

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Moba.finite_facts,
  fun m ρ _ => Cert.Kernel.Gen.frame m ρ, fun m ρ _ => Cert.KernelIdeal.Gen.frame m ρ, plain_frame,
  fun m ρ _ => Cert.Kernel2.Gen.frame m ρ, fun m ρ _ => Cert.Kernel2Ideal.Gen.frame m ρ, plain_frame2,
  fun m ρ _ => Cert.Kernel3.Gen.frame m ρ, fun m ρ _ => Cert.Kernel3Ideal.Gen.frame m ρ, plain_frame3,
  fun m ρ _ => Cert.Kernel4.Gen.frame m ρ, fun m ρ _ => Cert.Kernel4Ideal.Gen.frame m ρ, plain_frame4,
  fun m ρ _ => Cert.Kernel5.Gen.frame m ρ, fun m ρ _ => Cert.Kernel5Ideal.Gen.frame m ρ,
  fun m ρ _ => Cert.Kernel5Ideal.Gen.frame m ρ, plain_frame5, fun m ρ _ => plain_frame5 m ρ trivial,
  ⟨IdealRules.named_const.statement _ _ _ _ _ rfl, IdealRules.named_const.statement _ _ _ _ _ rfl,
    IdealRules.named_const.statement _ _ _ _ _ rfl, IdealRules.named_const.statement _ _ _ _ _ rfl⟩,
  retention_algebraic, trivial, feed_algebraic, trivial, mixing_algebraic, trivial, in_proj_algebraic,
  ⟨IdealRules.named_const.statement _ _ _ _ _ rfl, IdealRules.named_const.statement _ _ _ _ _ rfl⟩,
  block_algebraic (hPre := Cert.Moba.finite_facts)⟩

end Cert.Proof

end
